-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_proj [hPre_finite_proj : Cert.Pre_finite_proj.Facts] (m : (ℓ : Loc Cert.KernelIdeal.nD Cert.KernelIdeal.τ Cert.KernelIdeal.sig) → Buf (Elt Ideal) ℓ) : Prop :=
  ∀ c : Dev Cert.KernelIdeal.nD,
    (Cert.Pre_finite_proj.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_proj [hPre_finite_proj : Cert.Pre_finite_proj.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_proj.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_proj [hKernelIdeal : Cert.KernelIdeal.Facts] [hPre_finite_proj : Cert.Pre_finite_proj.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_proj m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_proj [hReferenceIdeal : Cert.ReferenceIdeal.Facts] [hPre_finite_proj : Cert.Pre_finite_proj.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_proj m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite_proj [hKernelIdeal : Cert.KernelIdeal.Facts] [hReferenceIdeal : Cert.ReferenceIdeal.Facts] [hPre_finite_proj : Cert.Pre_finite_proj.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_proj m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v133_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v13) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v97) = v0 c
          ∧ r.2.mem ((c.tc : Thread Cert.Reference5Ideal.nD Cert.Reference5Ideal.τ).loc Cert.Reference5Ideal.main_v102) = v1 c
          ∧ r.2.mem ((c.tc : Thread Cert.Reference5Ideal.nD Cert.Reference5Ideal.τ).loc Cert.Reference5Ideal.main_v103) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v97) = v1 c
          ∧ r.2.mem ((c.tc : Thread Cert.Reference6Ideal.nD Cert.Reference6Ideal.τ).loc Cert.Reference6Ideal.main_v98) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_proj : Cert.Pre_finite_proj.Facts) (hPre_routed : Cert.Pre_routed.Facts),
    quiescent_Kernel (hKernel := hKernel)
    ∧ quiescent_KernelIdeal (hKernelIdeal := hKernelIdeal)
    ∧ quiescent_KernelIdeal_pre_finite_proj (hKernelIdeal := hKernelIdeal) (hPre_finite_proj := hPre_finite_proj)
    ∧ quiescent_ReferenceIdeal (hReferenceIdeal := hReferenceIdeal)
    ∧ quiescent_ReferenceIdeal_pre_finite_proj (hReferenceIdeal := hReferenceIdeal) (hPre_finite_proj := hPre_finite_proj)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_proj (hKernelIdeal := hKernelIdeal) (hReferenceIdeal := hReferenceIdeal) (hPre_finite_proj := hPre_finite_proj)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_proj.lean ====
abbrev S16384x6144 : Shape := ⟨2, ![16384, 6144]⟩
abbrev S2048 : Shape := ⟨1, ![2048]⟩
abbrev S_ : Shape := ⟨0, ![]⟩

class Facts : Prop where
  bcast_S_S16384x6144 : S_.BroadcastsInDim S16384x6144 (![] : Fin 0 → Fin S16384x6144.rank)

variable [Facts]

def fn {F : FTy → Type} [FloatOps F] (main_arg0 : FVec F S16384x6144 .f32) (main_arg1 : FVec F S2048 .f32) (main_arg2 : FVec F S2048 .f32) : IVec S16384x6144 1 :=
  let main_v0 : FVec F S16384x6144 .f32 := Host.absf main_arg0
  let main_cst : FVec F S_ .f32 := constant S_ .f32 0x7F800000#32
  let main_v1 : FVec F S16384x6144 .f32 := broadcastInDim S16384x6144 ![] bcast_S_S16384x6144 main_cst
  let main_v2 : IVec S16384x6144 1 := cmpf .olt main_v0 main_v1
  main_v2
-- ==== Pre_routed.lean ====
abbrev S74240x8x128 : Shape := ⟨3, ![74240, 8, 128]⟩
abbrev S290 : Shape := ⟨1, ![290]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S290 : S_.BroadcastsInDim S290 (![] : Fin 0 → Fin S290.rank)
  bcast_S_S1 : S_.BroadcastsInDim S1 (![] : Fin 0 → Fin S1.rank)
  bcast_S1_S290_0 : S1.BroadcastsInDim S290 (![0] : Fin 1 → Fin S290.rank)

variable [Facts]

def fn {F : FTy → Type} [FloatOps F] (main_arg0 : FVec F S74240x8x128 .f32) (main_arg1 : IVec S290 32) (main_arg2 : IVec S1 32) (main_arg3 : FVec F S32x1024x2048 .f32) (main_arg4 : FVec F S32x2048 .f32) (main_arg5 : FVec F S32x1024x1024 .f32) (main_arg6 : FVec F S32x1024 .f32) : IVec S290 1 :=
  let main_c : IVec S_ 32 := constantI S_ 32 0#32
  let main_v0 : IVec S290 32 := broadcastInDim S290 ![] bcast_S_S290 main_c
  let main_v1 : IVec S290 1 := cmpi .sge main_arg1 main_v0
  let main_c_0 : IVec S_ 32 := constantI S_ 32 32#32
  let main_v2 : IVec S290 32 := broadcastInDim S290 ![] bcast_S_S290 main_c_0
  let main_v3 : IVec S290 1 := cmpi .slt main_arg1 main_v2
  let main_v4 : IVec S290 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S290 1 := broadcastInDim S290 ![0] bcast_S1_S290_0 main_v6
  let main_v8 : IVec S290 1 := andi main_v4 main_v7
  let main_c_2 : IVec S_ 32 := constantI S_ 32 290#32
  let main_v9 : IVec S1 32 := broadcastInDim S1 ![] bcast_S_S1 main_c_2
  let main_v10 : IVec S1 1 := cmpi .sle main_arg2 main_v9
  let main_v11 : IVec S290 1 := broadcastInDim S290 ![0] bcast_S1_S290_0 main_v10
  let main_v12 : IVec S290 1 := andi main_v8 main_v11
  main_v12
-- ==== Kernel.lean ====
abbrev S16384x6144 : Shape := ⟨2, ![16384, 6144]⟩
abbrev S2048 : Shape := ⟨1, ![2048]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x2048 : Shape := ⟨2, ![1, 2048]⟩
abbrev S16384x2048 : Shape := ⟨2, ![16384, 2048]⟩
abbrev S4x4x256x512 : Shape := ⟨4, ![4, 4, 256, 512]⟩
abbrev S256x512 : Shape := ⟨2, ![256, 512]⟩
abbrev S256x128 : Shape := ⟨2, ![256, 128]⟩
abbrev S1x256x1 : Shape := ⟨3, ![1, 256, 1]⟩
abbrev S1x1x1 : Shape := ⟨3, ![1, 1, 1]⟩
abbrev S1x512 : Shape := ⟨2, ![1, 512]⟩
abbrev S1x1x256x512 : Shape := ⟨4, ![1, 1, 256, 512]⟩
abbrev S1x1 : Shape := ⟨2, ![1, 1]⟩

abbrev nBuf : Space → Nat
  | .hbm => 83
  | .vmem => 29
  | .smem => 0
  | _ => 0

abbrev bufTy : (tb : Table) → Fin (tcTables nBuf tb) → BufTy
  | .hbm, ⟨0, _⟩ => ⟨S16384x6144, .f32⟩
  | .hbm, ⟨1, _⟩ => ⟨S2048, .f32⟩
  | .hbm, ⟨2, _⟩ => ⟨S2048, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S4096, .i32⟩
  | .hbm, ⟨12, _⟩ => ⟨S4096, .f32⟩
  | .hbm, ⟨13, _⟩ => ⟨S4096x1, .f32⟩
  | .hbm, ⟨14, _⟩ => ⟨S1x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S256, .f32⟩
  | .hbm, ⟨31, _⟩ => ⟨S256x1, .f32⟩
  | .hbm, ⟨32, _⟩ => ⟨S1x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .i1⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S1x256x256, .f32⟩
  | .hbm, ⟨43, _⟩ => ⟨S4x1x1, .f32⟩
  | .hbm, ⟨44, _⟩ => ⟨S4x256x256, .f32⟩
  | .hbm, ⟨45, _⟩ => ⟨S4x256x256, .f32⟩
  | .hbm, ⟨46, _⟩ => ⟨S4x256x256, .f32⟩
  | .hbm, ⟨47, _⟩ => ⟨S4x256x256, .f32⟩
  | .hbm, ⟨48, _⟩ => ⟨S_, .f32⟩
  | .hbm, ⟨49, _⟩ => ⟨S4x256x256, .i1⟩
  | .hbm, ⟨50, _⟩ => ⟨S4x256x256, .f32⟩
  | .hbm, ⟨51, _⟩ => ⟨S4x256x256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S4x1, .f32⟩
  | .hbm, ⟨57, _⟩ => ⟨S4x256, .f32⟩
  | .hbm, ⟨58, _⟩ => ⟨S4x256, .f32⟩
  | .hbm, ⟨59, _⟩ => ⟨S4x256, .f32⟩
  | .hbm, ⟨60, _⟩ => ⟨S4x256, .f32⟩
  | .hbm, ⟨61, _⟩ => ⟨S4x256x1, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S1x256, .f32⟩
  | .hbm, ⟨68, _⟩ => ⟨S4x1, .f32⟩
  | .hbm, ⟨69, _⟩ => ⟨S4x256, .f32⟩
  | .hbm, ⟨70, _⟩ => ⟨S4x256, .f32⟩
  | .hbm, ⟨71, _⟩ => ⟨S4x256, .f32⟩
  | .hbm, ⟨72, _⟩ => ⟨S4x256, .f32⟩
  | .hbm, ⟨73, _⟩ => ⟨S4x256x1, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4x1x1, .f32⟩
  | .hbm, ⟨79, _⟩ => ⟨S1x2048, .f32⟩
  | .hbm, ⟨80, _⟩ => ⟨S1x2048, .f32⟩
  | .hbm, ⟨81, _⟩ => ⟨S16384x2048, .bf16⟩
  | .hbm, ⟨82, _⟩ => ⟨S4x4x256x512, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x256, .f32⟩
  | .local _ .vmem, ⟨13, _⟩ => ⟨S1x256x256, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x1x1, .f32⟩
  | .local _ .vmem, ⟨19, _⟩ => ⟨S1x1x1, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S256x512, .bf16⟩
  | .local _ .vmem, ⟨25, _⟩ => ⟨S256x512, .bf16⟩
  | .local _ .vmem, ⟨26, _⟩ => ⟨S1x1x256x512, .f32⟩
  | .local _ .vmem, ⟨27, _⟩ => ⟨S1x1x256x512, .f32⟩
  | .local _ .vmem, ⟨28, _⟩ => ⟨S256x512, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65_0 : Ref sig .tc := ⟨.hbm, 81, rfl⟩
abbrev main_v65_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v92 : BitVec 1 := Scalar.cmpi .eq arg2 c15_i32
  let v93 : BitVec 32 := Scalar.extui v92
  let c0_i32_43 : BitVec 32 := 0#32
  let v94 : BitVec 1 := Scalar.cmpi .ne v93 c0_i32_43
  v94

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S16384x6144 : Shape := ⟨2, ![16384, 6144]⟩
abbrev S2048 : Shape := ⟨1, ![2048]⟩
abbrev S_ : Shape := ⟨0, ![]⟩
abbrev S4x4x256x512 : Shape := ⟨4, ![4, 4, 256, 512]⟩
abbrev S4x4096x6144 : Shape := ⟨3, ![4, 4096, 6144]⟩
abbrev S4x4096x1024 : Shape := ⟨3, ![4, 4096, 1024]⟩
abbrev S4x4096x4x256 : Shape := ⟨4, ![4, 4096, 4, 256]⟩
abbrev S4x4096x2048 : Shape := ⟨3, ![4, 4096, 2048]⟩
abbrev S4x4096x4x512 : Shape := ⟨4, ![4, 4096, 4, 512]⟩
abbrev S4096 : Shape := ⟨1, ![4096]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S4x4096x4x128 : Shape := ⟨4, ![4, 4096, 4, 128]⟩
abbrev S1x4096x1x128 : Shape := ⟨4, ![1, 4096, 1, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x32x128x4x256 : Shape := ⟨5, ![4, 32, 128, 4, 256]⟩
abbrev S32x4x4x128x256 : Shape := ⟨5, ![32, 4, 4, 128, 256]⟩
abbrev S4x32x128x4x512 : Shape := ⟨5, ![4, 32, 128, 4, 512]⟩
abbrev S32x4x4x128x512 : Shape := ⟨5, ![32, 4, 4, 128, 512]⟩
abbrev S1x4x4x128x256 : Shape := ⟨5, ![1, 4, 4, 128, 256]⟩
abbrev S4x4x128x256 : Shape := ⟨4, ![4, 4, 128, 256]⟩
abbrev S1x4x4x128x512 : Shape := ⟨5, ![1, 4, 4, 128, 512]⟩
abbrev S4x4x128x512 : Shape := ⟨4, ![4, 4, 128, 512]⟩
abbrev S4x4x128x128 : Shape := ⟨4, ![4, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S4x4096x4 : Shape := ⟨3, ![4, 4096, 4]⟩
abbrev S4x4096x4x1 : Shape := ⟨4, ![4, 4096, 4, 1]⟩
abbrev S1x1x2048 : Shape := ⟨3, ![1, 1, 2048]⟩
abbrev S16384x2048 : Shape := ⟨2, ![16384, 2048]⟩

abbrev nBuf : Space → Nat
  | .hbm => 258
  | .vmem => 0
  | .smem => 0
  | _ => 0

abbrev hbmTy0_0 (i : Nat) : BufTy := match i % 128 with
  | 0 => ⟨S16384x6144, .f32⟩
  | 1 => ⟨S2048, .f32⟩
  | 2 => ⟨S2048, .f32⟩
  | 3 => ⟨S_, .f32⟩
  | 4 => ⟨S4x4x256x512, .f32⟩
  | 5 => ⟨S4x4096x6144, .f32⟩
  | 6 => ⟨S4x4096x1024, .f32⟩
  | 7 => ⟨S4x4096x4x256, .f32⟩
  | 8 => ⟨S4x4096x1024, .f32⟩
  | 9 => ⟨S4x4096x4x256, .f32⟩
  | 10 => ⟨S_, .f32⟩
  | 11 => ⟨S4x4096x4x256, .f32⟩
  | 12 => ⟨S4x4096x4x256, .f32⟩
  | 13 => ⟨S4x4096x2048, .f32⟩
  | 14 => ⟨S4x4096x4x512, .f32⟩
  | 15 => ⟨S4096, .i32⟩
  | 16 => ⟨S_, .i32⟩
  | 17 => ⟨S4096, .i32⟩
  | 18 => ⟨S4096, .i32⟩
  | 19 => ⟨S128, .f32⟩
  | 20 => ⟨S128, .f32⟩
  | 21 => ⟨S_, .f32⟩
  | 22 => ⟨S128, .f32⟩
  | 23 => ⟨S128, .f32⟩
  | 24 => ⟨S_, .f32⟩
  | 25 => ⟨S128, .f32⟩
  | 26 => ⟨S128, .f32⟩
  | 27 => ⟨S4096, .f32⟩
  | 28 => ⟨S4096x1, .f32⟩
  | 29 => ⟨S1x128, .f32⟩
  | 30 => ⟨S4096x128, .f32⟩
  | 31 => ⟨S4096x128, .f32⟩
  | 32 => ⟨S4096x128, .f32⟩
  | 33 => ⟨S4096x128, .f32⟩
  | 34 => ⟨S4096x1x128, .f32⟩
  | 35 => ⟨S4096x128, .f32⟩
  | 36 => ⟨S4096x1x128, .f32⟩
  | 37 => ⟨S4x4096x4x128, .f32⟩
  | 38 => ⟨S4x4096x4x128, .f32⟩
  | 39 => ⟨S1x4096x1x128, .f32⟩
  | 40 => ⟨S4x4096x4x128, .f32⟩
  | 41 => ⟨S4x4096x4x128, .f32⟩
  | 42 => ⟨S1x4096x1x128, .f32⟩
  | 43 => ⟨S4x4096x4x128, .f32⟩
  | 44 => ⟨S4x4096x4x128, .f32⟩
  | 45 => ⟨S4x4096x4x128, .f32⟩
  | 46 => ⟨S1x4096x1x128, .f32⟩
  | 47 => ⟨S4x4096x4x128, .f32⟩
  | 48 => ⟨S4x4096x4x128, .f32⟩
  | 49 => ⟨S1x4096x1x128, .f32⟩
  | 50 => ⟨S4x4096x4x128, .f32⟩
  | 51 => ⟨S4x4096x4x128, .f32⟩
  | 52 => ⟨S4x4096x4x128, .f32⟩
  | 53 => ⟨S4x4096x4x256, .f32⟩
  | 54 => ⟨S128, .f32⟩
  | 55 => ⟨S128, .f32⟩
  | 56 => ⟨S_, .f32⟩
  | 57 => ⟨S128, .f32⟩
  | 58 => ⟨S128, .f32⟩
  | 59 => ⟨S_, .f32⟩
  | 60 => ⟨S128, .f32⟩
  | 61 => ⟨S128, .f32⟩
  | 62 => ⟨S4096, .f32⟩
  | 63 => ⟨S4096x1, .f32⟩
  | 64 => ⟨S1x128, .f32⟩
  | 65 => ⟨S4096x128, .f32⟩
  | 66 => ⟨S4096x128, .f32⟩
  | 67 => ⟨S4096x128, .f32⟩
  | 68 => ⟨S4096x128, .f32⟩
  | 69 => ⟨S4096x1x128, .f32⟩
  | 70 => ⟨S4096x128, .f32⟩
  | 71 => ⟨S4096x1x128, .f32⟩
  | 72 => ⟨S4x4096x4x128, .f32⟩
  | 73 => ⟨S4x4096x4x128, .f32⟩
  | 74 => ⟨S1x4096x1x128, .f32⟩
  | 75 => ⟨S4x4096x4x128, .f32⟩
  | 76 => ⟨S4x4096x4x128, .f32⟩
  | 77 => ⟨S1x4096x1x128, .f32⟩
  | 78 => ⟨S4x4096x4x128, .f32⟩
  | 79 => ⟨S4x4096x4x128, .f32⟩
  | 80 => ⟨S4x4096x4x128, .f32⟩
  | 81 => ⟨S1x4096x1x128, .f32⟩
  | 82 => ⟨S4x4096x4x128, .f32⟩
  | 83 => ⟨S4x4096x4x128, .f32⟩
  | 84 => ⟨S1x4096x1x128, .f32⟩
  | 85 => ⟨S4x4096x4x128, .f32⟩
  | 86 => ⟨S4x4096x4x128, .f32⟩
  | 87 => ⟨S4x4096x4x128, .f32⟩
  | 88 => ⟨S4x4096x4x256, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S4, .f32⟩
  | 98 => ⟨S4, .f32⟩
  | 99 => ⟨S128, .f32⟩
  | 100 => ⟨S128x1, .f32⟩
  | 101 => ⟨S1x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .i1⟩
  | 108 => ⟨S_, .f32⟩
  | 109 => ⟨S128x128, .f32⟩
  | 110 => ⟨S128x128, .f32⟩
  | 111 => ⟨S1x128x128, .f32⟩
  | 112 => ⟨S4x1x1, .f32⟩
  | 113 => ⟨S4x128x128, .f32⟩
  | 114 => ⟨S4x128x128, .f32⟩
  | 115 => ⟨S4x128x128, .f32⟩
  | 116 => ⟨S4x128x128, .f32⟩
  | 117 => ⟨S_, .f32⟩
  | 118 => ⟨S_, .f32⟩
  | 119 => ⟨S4x128x128, .i1⟩
  | 120 => ⟨S4x128x128, .f32⟩
  | 121 => ⟨S4x128x128, .f32⟩
  | 122 => ⟨S_, .f32⟩
  | 123 => ⟨S128, .f32⟩
  | 124 => ⟨S128, .f32⟩
  | 125 => ⟨S1x128, .f32⟩
  | 126 => ⟨S4x1, .f32⟩
  | 127 => ⟨S4x128, .f32⟩
  | _ => ⟨S16384x6144, .f32⟩

abbrev hbmTy0_1 (i : Nat) : BufTy := match i % 128 with
  | 0 => ⟨S4x128, .f32⟩
  | 1 => ⟨S4x128, .f32⟩
  | 2 => ⟨S4x128, .f32⟩
  | 3 => ⟨S4x128x1, .f32⟩
  | 4 => ⟨S_, .f32⟩
  | 5 => ⟨S128, .f32⟩
  | 6 => ⟨S128, .f32⟩
  | 7 => ⟨S1x128, .f32⟩
  | 8 => ⟨S4x1, .f32⟩
  | 9 => ⟨S4x128, .f32⟩
  | 10 => ⟨S4x128, .f32⟩
  | 11 => ⟨S4x128, .f32⟩
  | 12 => ⟨S4x128, .f32⟩
  | 13 => ⟨S4x128x1, .f32⟩
  | 14 => ⟨S_, .f32⟩
  | 15 => ⟨S4, .f32⟩
  | 16 => ⟨S4, .f32⟩
  | 17 => ⟨S4, .f32⟩
  | 18 => ⟨S4x1x1, .f32⟩
  | 19 => ⟨S4x32x128x4x256, .f32⟩
  | 20 => ⟨S32x4x4x128x256, .f32⟩
  | 21 => ⟨S4x32x128x4x256, .f32⟩
  | 22 => ⟨S32x4x4x128x256, .f32⟩
  | 23 => ⟨S4x32x128x4x512, .f32⟩
  | 24 => ⟨S32x4x4x128x512, .f32⟩
  | 25 => ⟨S_, .f32⟩
  | 26 => ⟨S32x4x4x128x512, .f32⟩
  | 27 => ⟨S_, .i32⟩
  | 28 => ⟨S32x4x4x128x256, .f32⟩
  | 29 => ⟨S32x4x4x128x256, .f32⟩
  | 30 => ⟨S32x4x4x128x512, .f32⟩
  | 31 => ⟨S4x128x128, .f32⟩
  | 32 => ⟨S4x128x1, .f32⟩
  | 33 => ⟨S4x1x1, .f32⟩
  | 34 => ⟨S4x128x1, .f32⟩
  | 35 => ⟨S_, .i32⟩
  | 36 => ⟨S4x4x256x512, .f32⟩
  | 37 => ⟨S32x4x4x128x512, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x4x4x128x256, .f32⟩
  | 45 => ⟨S4x4x128x256, .f32⟩
  | 46 => ⟨S_, .i32⟩
  | 47 => ⟨S_, .i32⟩
  | 48 => ⟨S_, .i32⟩
  | 49 => ⟨S_, .i32⟩
  | 50 => ⟨S1x4x4x128x256, .f32⟩
  | 51 => ⟨S4x4x128x256, .f32⟩
  | 52 => ⟨S_, .i32⟩
  | 53 => ⟨S_, .i32⟩
  | 54 => ⟨S_, .i32⟩
  | 55 => ⟨S_, .i32⟩
  | 56 => ⟨S1x4x4x128x512, .f32⟩
  | 57 => ⟨S4x4x128x512, .f32⟩
  | 58 => ⟨S4x4x128x128, .f32⟩
  | 59 => ⟨S1x4x128x128, .f32⟩
  | 60 => ⟨S4x4x128x128, .f32⟩
  | 61 => ⟨S4x4x128x128, .f32⟩
  | 62 => ⟨S4x4x128x512, .f32⟩
  | 63 => ⟨S4x4x128x512, .f32⟩
  | 64 => ⟨S1x4x128x1, .f32⟩
  | 65 => ⟨S4x4x128x512, .f32⟩
  | 66 => ⟨S4x4x128x512, .f32⟩
  | 67 => ⟨S4x4x128x512, .f32⟩
  | 68 => ⟨S1x4x1x1, .f32⟩
  | 69 => ⟨S4x4x256x512, .f32⟩
  | 70 => ⟨S4x4x256x512, .f32⟩
  | 71 => ⟨S1x4x128x1, .f32⟩
  | 72 => ⟨S4x4x128x256, .f32⟩
  | 73 => ⟨S4x4x128x256, .f32⟩
  | 74 => ⟨S4x4x256x512, .f32⟩
  | 75 => ⟨S4x4x256x512, .f32⟩
  | 76 => ⟨S1x4x4x128x512, .f32⟩
  | 77 => ⟨S_, .i32⟩
  | 78 => ⟨S_, .i32⟩
  | 79 => ⟨S_, .i32⟩
  | 80 => ⟨S_, .i32⟩
  | 81 => ⟨S32x4x4x128x512, .f32⟩
  | 82 => ⟨S_, .i32⟩
  | 83 => ⟨S_, .i32⟩
  | 84 => ⟨S4x32x128x4x512, .f32⟩
  | 85 => ⟨S4x4096x4x512, .f32⟩
  | 86 => ⟨S_, .f32⟩
  | 87 => ⟨S4x4096x4, .f32⟩
  | 88 => ⟨S4x4096x4x1, .f32⟩
  | 89 => ⟨S_, .f32⟩
  | 90 => ⟨S4x4096x4x1, .f32⟩
  | 91 => ⟨S4x4096x4x1, .f32⟩
  | 92 => ⟨S4x4096x4x512, .f32⟩
  | 93 => ⟨S4x4096x4x512, .f32⟩
  | 94 => ⟨S4x4096x4x512, .f32⟩
  | 95 => ⟨S_, .f32⟩
  | 96 => ⟨S4x4096x4, .f32⟩
  | 97 => ⟨S4x4096x4x1, .f32⟩
  | 98 => ⟨S_, .f32⟩
  | 99 => ⟨S4x4096x4x1, .f32⟩
  | 100 => ⟨S4x4096x4x1, .f32⟩
  | 101 => ⟨S4x4096x4x512, .f32⟩
  | 102 => ⟨S4x4096x4x512, .f32⟩
  | 103 => ⟨S_, .f32⟩
  | 104 => ⟨S4x4096x4x1, .f32⟩
  | 105 => ⟨S4x4096x4x1, .f32⟩
  | 106 => ⟨S4x4096x4x1, .f32⟩
  | 107 => ⟨S4x4096x4x512, .f32⟩
  | 108 => ⟨S4x4096x4x512, .f32⟩
  | 109 => ⟨S4x4096x2048, .f32⟩
  | 110 => ⟨S1x1x2048, .f32⟩
  | 111 => ⟨S4x4096x2048, .f32⟩
  | 112 => ⟨S4x4096x2048, .f32⟩
  | 113 => ⟨S1x1x2048, .f32⟩
  | 114 => ⟨S4x4096x2048, .f32⟩
  | 115 => ⟨S4x4096x2048, .f32⟩
  | 116 => ⟨S4x4096x6144, .f32⟩
  | 117 => ⟨S4x4096x2048, .f32⟩
  | 118 => ⟨S4x4096x2048, .f32⟩
  | 119 => ⟨S4x4096x2048, .f32⟩
  | 120 => ⟨S_, .f32⟩
  | 121 => ⟨S4x4096x2048, .f32⟩
  | 122 => ⟨S4x4096x2048, .f32⟩
  | 123 => ⟨S_, .f32⟩
  | 124 => ⟨S4x4096x2048, .f32⟩
  | 125 => ⟨S4x4096x2048, .f32⟩
  | 126 => ⟨S4x4096x2048, .f32⟩
  | 127 => ⟨S4x4096x2048, .f32⟩
  | _ => ⟨S16384x6144, .f32⟩

abbrev hbmTy0_2 (i : Nat) : BufTy := match i % 128 with
  | 0 => ⟨S16384x2048, .f32⟩
  | 1 => ⟨S16384x2048, .bf16⟩
  | _ => ⟨S16384x6144, .f32⟩

abbrev hbmTy (i : Nat) : BufTy := match i / 128 with
  | 0 => hbmTy0_0 i
  | 1 => hbmTy0_1 i
  | 2 => hbmTy0_2 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_5 : Ref sig .tc := ⟨.hbm, 90, rfl⟩
abbrev main_v80 : Ref sig .tc := ⟨.hbm, 91, rfl⟩
abbrev main_v81 : Ref sig .tc := ⟨.hbm, 92, rfl⟩
abbrev main_cst_6 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_7 : Ref sig .tc := ⟨.hbm, 105, rfl⟩
abbrev main_v93 : Ref sig .tc := ⟨.hbm, 106, rfl⟩
abbrev main_v94 : Ref sig .tc := ⟨.hbm, 107, rfl⟩
abbrev main_cst_8 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_9 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_11 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_12 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_13 : Ref sig .tc := ⟨.hbm, 153, rfl⟩
abbrev main_v132 : Ref sig .tc := ⟨.hbm, 154, rfl⟩
abbrev main_c_14 : Ref sig .tc := ⟨.hbm, 155, rfl⟩
abbrev main_v133_0 : Ref sig .tc := ⟨.hbm, 156, rfl⟩
abbrev main_v133_1 : Ref sig .tc := ⟨.hbm, 157, rfl⟩
abbrev main_v133_2 : Ref sig .tc := ⟨.hbm, 158, rfl⟩
abbrev main_v133_3 : Ref sig .tc := ⟨.hbm, 159, rfl⟩
abbrev main_v133_4 : Ref sig .tc := ⟨.hbm, 160, rfl⟩
abbrev main_v133_5 : Ref sig .tc := ⟨.hbm, 161, rfl⟩
abbrev main_v133_6 : Ref sig .tc := ⟨.hbm, 162, rfl⟩
abbrev main_v133_7 : Ref sig .tc := ⟨.hbm, 163, rfl⟩
abbrev main_v133_8 : Ref sig .tc := ⟨.hbm, 164, rfl⟩
abbrev main_v133_9 : Ref sig .tc := ⟨.hbm, 165, rfl⟩
abbrev main_while0c_c_29 : Ref sig .tc := ⟨.hbm, 166, rfl⟩
abbrev main_while0c_v167 : Ref sig .tc := ⟨.hbm, 167, rfl⟩
abbrev main_while0b_call1_c : Ref sig .tc := ⟨.hbm, 168, rfl⟩
abbrev main_while0b_call1_c_0 : Ref sig .tc := ⟨.hbm, 169, rfl⟩
abbrev main_while0b_call1_c_1 : Ref sig .tc := ⟨.hbm, 170, rfl⟩
abbrev main_while0b_call1_c_2 : Ref sig .tc := ⟨.hbm, 171, rfl⟩
abbrev main_while0b_call1_v0 : Ref sig .tc := ⟨.hbm, 172, rfl⟩
abbrev main_while0b_v167 : Ref sig .tc := ⟨.hbm, 173, rfl⟩
abbrev main_while0b_call2_c : Ref sig .tc := ⟨.hbm, 174, rfl⟩
abbrev main_while0b_call2_c_0 : Ref sig .tc := ⟨.hbm, 175, rfl⟩
abbrev main_while0b_call2_c_1 : Ref sig .tc := ⟨.hbm, 176, rfl⟩
abbrev main_while0b_call2_c_2 : Ref sig .tc := ⟨.hbm, 177, rfl⟩
abbrev main_while0b_call2_v0 : Ref sig .tc := ⟨.hbm, 178, rfl⟩
abbrev main_while0b_v168 : Ref sig .tc := ⟨.hbm, 179, rfl⟩
abbrev main_while0b_call3_c : Ref sig .tc := ⟨.hbm, 180, rfl⟩
abbrev main_while0b_call3_c_0 : Ref sig .tc := ⟨.hbm, 181, rfl⟩
abbrev main_while0b_call3_c_1 : Ref sig .tc := ⟨.hbm, 182, rfl⟩
abbrev main_while0b_call3_c_2 : Ref sig .tc := ⟨.hbm, 183, rfl⟩
abbrev main_while0b_call3_v0 : Ref sig .tc := ⟨.hbm, 184, rfl⟩
abbrev main_while0b_v169 : Ref sig .tc := ⟨.hbm, 185, rfl⟩
abbrev main_while0b_v170 : Ref sig .tc := ⟨.hbm, 186, rfl⟩
abbrev main_while0b_v171 : Ref sig .tc := ⟨.hbm, 187, rfl⟩
abbrev main_while0b_v172 : Ref sig .tc := ⟨.hbm, 188, rfl⟩
abbrev main_while0b_v173 : Ref sig .tc := ⟨.hbm, 189, rfl⟩
abbrev main_while0b_v174 : Ref sig .tc := ⟨.hbm, 190, rfl⟩
abbrev main_while0b_v175 : Ref sig .tc := ⟨.hbm, 191, rfl⟩
abbrev main_while0b_v176 : Ref sig .tc := ⟨.hbm, 192, rfl⟩
abbrev main_while0b_v177 : Ref sig .tc := ⟨.hbm, 193, rfl⟩
abbrev main_while0b_v178 : Ref sig .tc := ⟨.hbm, 194, rfl⟩
abbrev main_while0b_v179 : Ref sig .tc := ⟨.hbm, 195, rfl⟩
abbrev main_while0b_v180 : Ref sig .tc := ⟨.hbm, 196, rfl⟩
abbrev main_while0b_v181 : Ref sig .tc := ⟨.hbm, 197, rfl⟩
abbrev main_while0b_v182 : Ref sig .tc := ⟨.hbm, 198, rfl⟩
abbrev main_while0b_v183 : Ref sig .tc := ⟨.hbm, 199, rfl⟩
abbrev main_while0b_v184 : Ref sig .tc := ⟨.hbm, 200, rfl⟩
abbrev main_while0b_v185 : Ref sig .tc := ⟨.hbm, 201, rfl⟩
abbrev main_while0b_v186 : Ref sig .tc := ⟨.hbm, 202, rfl⟩
abbrev main_while0b_v187 : Ref sig .tc := ⟨.hbm, 203, rfl⟩
abbrev main_while0b_call4_v0 : Ref sig .tc := ⟨.hbm, 204, rfl⟩
abbrev main_while0b_call4_c : Ref sig .tc := ⟨.hbm, 205, rfl⟩
abbrev main_while0b_call4_c_0 : Ref sig .tc := ⟨.hbm, 206, rfl⟩
abbrev main_while0b_call4_c_1 : Ref sig .tc := ⟨.hbm, 207, rfl⟩
abbrev main_while0b_call4_c_2 : Ref sig .tc := ⟨.hbm, 208, rfl⟩
abbrev main_while0b_v188 : Ref sig .tc := ⟨.hbm, 209, rfl⟩
abbrev main_while0b_c_29 : Ref sig .tc := ⟨.hbm, 210, rfl⟩
abbrev main_while0b_v189 : Ref sig .tc := ⟨.hbm, 211, rfl⟩
abbrev main_v134 : Ref sig .tc := ⟨.hbm, 212, rfl⟩
abbrev main_v135 : Ref sig .tc := ⟨.hbm, 213, rfl⟩
abbrev main_cst_15 : Ref sig .tc := ⟨.hbm, 214, rfl⟩
abbrev main_v136 : Ref sig .tc := ⟨.hbm, 215, rfl⟩
abbrev main_v137 : Ref sig .tc := ⟨.hbm, 216, rfl⟩
abbrev main_cst_16 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_cst_17 : Ref sig .tc := ⟨.hbm, 223, rfl⟩
abbrev main_v143 : Ref sig .tc := ⟨.hbm, 224, rfl⟩
abbrev main_v144 : Ref sig .tc := ⟨.hbm, 225, rfl⟩
abbrev main_cst_18 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_19 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_call5_v0 : Ref sig .tc := ⟨.hbm, 246, rfl⟩
abbrev main_call5_v1 : Ref sig .tc := ⟨.hbm, 247, rfl⟩
abbrev main_call5_cst : Ref sig .tc := ⟨.hbm, 248, rfl⟩
abbrev main_call5_v2 : Ref sig .tc := ⟨.hbm, 249, rfl⟩
abbrev main_call5_v3 : Ref sig .tc := ⟨.hbm, 250, rfl⟩
abbrev main_call5_cst_0 : Ref sig .tc := ⟨.hbm, 251, rfl⟩
abbrev main_call5_v4 : Ref sig .tc := ⟨.hbm, 252, rfl⟩
abbrev main_call5_v5 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S74240x8x128 : Shape := ⟨3, ![74240, 8, 128]⟩
abbrev S290 : Shape := ⟨1, ![290]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S292 : Shape := ⟨1, ![292]⟩
abbrev S32x1x2048 : Shape := ⟨3, ![32, 1, 2048]⟩
abbrev S32x1x1024 : Shape := ⟨3, ![32, 1, 1024]⟩
abbrev S256x8x128 : Shape := ⟨3, ![256, 8, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 16
  | .vmem => 14
  | .smem => 1
  | _ => 0

abbrev bufTy : (tb : Table) → Fin (tcTables nBuf tb) → BufTy
  | .hbm, ⟨0, _⟩ => ⟨S74240x8x128, .f32⟩
  | .hbm, ⟨1, _⟩ => ⟨S290, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S32x1x2048, .f32⟩
  | .hbm, ⟨14, _⟩ => ⟨S32x1x1024, .f32⟩
  | .hbm, ⟨15, _⟩ => ⟨S74240x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x8x128, .f32⟩
  | .local _ .vmem, ⟨11, _⟩ => ⟨S256x8x128, .f32⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | _, _ => ⟨S74240x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![290], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v7 : BitVec 32) : BitVec 1 :=
  let arg0 : BitVec 32 := BitVec.ofNat 32 (i 0).val
  let c256_i32 : BitVec 32 := 256#32
  let v6 : BitVec 32 := Scalar.muli arg0 c256_i32
  let v8 : BitVec 1 := Scalar.cmpi .slt v6 v7
  let v15 : BitVec 32 := Scalar.extui v8
  let c0_i32_2 : BitVec 32 := 0#32
  let v16 : BitVec 1 := Scalar.cmpi .ne v15 c0_i32_2
  v16

def k0_cond3 (i : grid0.Coords) (v7 : BitVec 32) : BitVec 1 :=
  let arg0 : BitVec 32 := BitVec.ofNat 32 (i 0).val
  let c256_i32 : BitVec 32 := 256#32
  let v6 : BitVec 32 := Scalar.muli arg0 c256_i32
  let v8 : BitVec 1 := Scalar.cmpi .slt v6 v7
  let v_true : BitVec 1 := 1#1
  let v17 : BitVec 1 := Scalar.xori v8 v_true
  let v18 : BitVec 32 := Scalar.extui v17
  let c0_i32_3 : BitVec 32 := 0#32
  let v19 : BitVec 1 := Scalar.cmpi .ne v18 c0_i32_3
  v19

def cc0_transform_0 (inb_S292_S1_291 : ∀ a, (![291] : Fin 1 → Nat) a + S1.size a ≤ S292.size a) (numel1_S1 : S1.numel = 1) (pf : pre0.Contents (Elt F)) (i : grid0.Coords) : Fin 3 → Nat :=
  let arg0 : BitVec 32 := BitVec.ofNat 32 (i 0).val
  let c291 : Index := 291#32
  let v0 : BitVec 32 := pf.at 0 (Rect.unit (s := S292) ![291] S1.size inb_S292_S1_291) numel1_S1
  let v1 : BitVec 32 := Scalar.minsi arg0 v0
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S74240x8x128 : Shape := ⟨3, ![74240, 8, 128]⟩
abbrev S290 : Shape := ⟨1, ![290]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S290x256x1024 : Shape := ⟨3, ![290, 256, 1024]⟩
abbrev S_ : Shape := ⟨0, ![]⟩
abbrev S1x256x1024 : Shape := ⟨3, ![1, 256, 1024]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S1x2048 : Shape := ⟨2, ![1, 2048]⟩
abbrev S2048 : Shape := ⟨1, ![2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S290x1x1 : Shape := ⟨3, ![290, 1, 1]⟩

abbrev nBuf : Space → Nat
  | .hbm => 156
  | .vmem => 0
  | .smem => 0
  | _ => 0

abbrev hbmTy0_0 (i : Nat) : BufTy := match i % 128 with
  | 0 => ⟨S74240x8x128, .f32⟩
  | 1 => ⟨S290, .i32⟩
  | 2 => ⟨S1, .i32⟩
  | 3 => ⟨S32x1024x2048, .f32⟩
  | 4 => ⟨S32x2048, .f32⟩
  | 5 => ⟨S32x1024x1024, .f32⟩
  | 6 => ⟨S32x1024, .f32⟩
  | 7 => ⟨S290x256x1024, .f32⟩
  | 8 => ⟨S_, .f32⟩
  | 9 => ⟨S290x256x1024, .f32⟩
  | 10 => ⟨S_, .i32⟩
  | 11 => ⟨S290x256x1024, .f32⟩
  | 12 => ⟨S290, .i32⟩
  | 13 => ⟨S32x1024x2048, .f32⟩
  | 14 => ⟨S32x2048, .f32⟩
  | 15 => ⟨S32x1024x1024, .f32⟩
  | 16 => ⟨S32x1024, .f32⟩
  | 17 => ⟨S_, .i32⟩
  | 18 => ⟨S290x256x1024, .f32⟩
  | 19 => ⟨S_, .i32⟩
  | 20 => ⟨S_, .i1⟩
  | 21 => ⟨S_, .i32⟩
  | 22 => ⟨S_, .i32⟩
  | 23 => ⟨S1x256x1024, .f32⟩
  | 24 => ⟨S256x1024, .f32⟩
  | 25 => ⟨S1, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x1024x2048, .f32⟩
  | 49 => ⟨S1024x2048, .f32⟩
  | 50 => ⟨S256x2048, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x2048, .f32⟩
  | 65 => ⟨S2048, .f32⟩
  | 66 => ⟨S1x2048, .f32⟩
  | 67 => ⟨S256x2048, .f32⟩
  | 68 => ⟨S256x2048, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S_, .f32⟩
  | 75 => ⟨S_, .f32⟩
  | 76 => ⟨S_, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S_, .f32⟩
  | 83 => ⟨S256x1024, .f32⟩
  | 84 => ⟨S256x1024, .f32⟩
  | 85 => ⟨S_, .f32⟩
  | 86 => ⟨S256x1024, .f32⟩
  | 87 => ⟨S256x1024, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S256x1024, .f32⟩
  | 97 => ⟨S256x1024, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x1024x1024, .f32⟩
  | 120 => ⟨S1024x1024, .f32⟩
  | 121 => ⟨S256x1024, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S74240x8x128, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S1x1024, .f32⟩
  | 8 => ⟨S1024, .f32⟩
  | 9 => ⟨S1x1024, .f32⟩
  | 10 => ⟨S256x1024, .f32⟩
  | 11 => ⟨S256x1024, .f32⟩
  | 12 => ⟨S1x256x1024, .f32⟩
  | 13 => ⟨S_, .i32⟩
  | 14 => ⟨S_, .i32⟩
  | 15 => ⟨S290x256x1024, .f32⟩
  | 16 => ⟨S_, .i32⟩
  | 17 => ⟨S_, .i32⟩
  | 18 => ⟨S290, .i32⟩
  | 19 => ⟨S290, .i32⟩
  | 20 => ⟨S290, .i1⟩
  | 21 => ⟨S290x1x1, .i1⟩
  | 22 => ⟨S_, .f32⟩
  | 23 => ⟨S_, .f32⟩
  | 24 => ⟨S290x256x1024, .i1⟩
  | 25 => ⟨S290x256x1024, .f32⟩
  | 26 => ⟨S290x256x1024, .f32⟩
  | 27 => ⟨S74240x8x128, .f32⟩
  | _ => ⟨S74240x8x128, .f32⟩

abbrev hbmTy (i : Nat) : BufTy := match i / 128 with
  | 0 => hbmTy0_0 i
  | 1 => hbmTy0_1 i
  | _ => ⟨S74240x8x128, .f32⟩

abbrev bufTy : (tb : Table) → Fin (tcTables nBuf tb) → BufTy
  | .hbm, ⟨i, _⟩ => hbmTy i
  | _, _ => ⟨S74240x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_while0c_c_8 : Ref sig .tc := ⟨.hbm, 19, rfl⟩
abbrev main_while0c_v9 : Ref sig .tc := ⟨.hbm, 20, rfl⟩
abbrev main_while0b_call0_c : Ref sig .tc := ⟨.hbm, 21, rfl⟩
abbrev main_while0b_call0_c_0 : Ref sig .tc := ⟨.hbm, 22, rfl⟩
abbrev main_while0b_call0_v0 : Ref sig .tc := ⟨.hbm, 23, rfl⟩
abbrev main_while0b_v9 : Ref sig .tc := ⟨.hbm, 24, rfl⟩
abbrev main_while0b_call1_v0 : Ref sig .tc := ⟨.hbm, 25, rfl⟩
abbrev main_while0b_v10 : Ref sig .tc := ⟨.hbm, 26, rfl⟩
abbrev main_while0b_c_8 : Ref sig .tc := ⟨.hbm, 27, rfl⟩
abbrev main_while0b_v11 : Ref sig .tc := ⟨.hbm, 28, rfl⟩
abbrev main_while0b_c_9 : Ref sig .tc := ⟨.hbm, 29, rfl⟩
abbrev main_while0b_v12 : Ref sig .tc := ⟨.hbm, 30, rfl⟩
abbrev main_while0b_v13 : Ref sig .tc := ⟨.hbm, 31, rfl⟩
abbrev main_while0b_c_10 : Ref sig .tc := ⟨.hbm, 32, rfl⟩
abbrev main_while0b_c_11 : Ref sig .tc := ⟨.hbm, 33, rfl⟩
abbrev main_while0b_v14 : Ref sig .tc := ⟨.hbm, 34, rfl⟩
abbrev main_while0b_c_12 : Ref sig .tc := ⟨.hbm, 35, rfl⟩
abbrev main_while0b_c_13 : Ref sig .tc := ⟨.hbm, 36, rfl⟩
abbrev main_while0b_v15 : Ref sig .tc := ⟨.hbm, 37, rfl⟩
abbrev main_while0b_c_14 : Ref sig .tc := ⟨.hbm, 38, rfl⟩
abbrev main_while0b_v16 : Ref sig .tc := ⟨.hbm, 39, rfl⟩
abbrev main_while0b_c_15 : Ref sig .tc := ⟨.hbm, 40, rfl⟩
abbrev main_while0b_c_16 : Ref sig .tc := ⟨.hbm, 41, rfl⟩
abbrev main_while0b_v17 : Ref sig .tc := ⟨.hbm, 42, rfl⟩
abbrev main_while0b_c_17 : Ref sig .tc := ⟨.hbm, 43, rfl⟩
abbrev main_while0b_c_18 : Ref sig .tc := ⟨.hbm, 44, rfl⟩
abbrev main_while0b_v18 : Ref sig .tc := ⟨.hbm, 45, rfl⟩
abbrev main_while0b_c_19 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_c_20 : Ref sig .tc := ⟨.hbm, 51, rfl⟩
abbrev main_while0b_v23 : Ref sig .tc := ⟨.hbm, 52, rfl⟩
abbrev main_while0b_c_21 : Ref sig .tc := ⟨.hbm, 53, rfl⟩
abbrev main_while0b_v24 : Ref sig .tc := ⟨.hbm, 54, rfl⟩
abbrev main_while0b_v25 : Ref sig .tc := ⟨.hbm, 55, rfl⟩
abbrev main_while0b_c_22 : Ref sig .tc := ⟨.hbm, 56, rfl⟩
abbrev main_while0b_c_23 : Ref sig .tc := ⟨.hbm, 57, rfl⟩
abbrev main_while0b_v26 : Ref sig .tc := ⟨.hbm, 58, rfl⟩
abbrev main_while0b_c_24 : Ref sig .tc := ⟨.hbm, 59, rfl⟩
abbrev main_while0b_c_25 : Ref sig .tc := ⟨.hbm, 60, rfl⟩
abbrev main_while0b_v27 : Ref sig .tc := ⟨.hbm, 61, rfl⟩
abbrev main_while0b_c_26 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_cst_27 : Ref sig .tc := ⟨.hbm, 70, rfl⟩
abbrev main_while0b_v35 : Ref sig .tc := ⟨.hbm, 71, rfl⟩
abbrev main_while0b_v36 : Ref sig .tc := ⟨.hbm, 72, rfl⟩
abbrev main_while0b_v37 : Ref sig .tc := ⟨.hbm, 73, rfl⟩
abbrev main_while0b_cst_28 : Ref sig .tc := ⟨.hbm, 74, rfl⟩
abbrev main_while0b_cst_29 : Ref sig .tc := ⟨.hbm, 75, rfl⟩
abbrev main_while0b_call2_v0 : Ref sig .tc := ⟨.hbm, 76, rfl⟩
abbrev main_while0b_call2_v1 : Ref sig .tc := ⟨.hbm, 77, rfl⟩
abbrev main_while0b_call2_v2 : Ref sig .tc := ⟨.hbm, 78, rfl⟩
abbrev main_while0b_call2_v3 : Ref sig .tc := ⟨.hbm, 79, rfl⟩
abbrev main_while0b_call2_v4 : Ref sig .tc := ⟨.hbm, 80, rfl⟩
abbrev main_while0b_v38 : Ref sig .tc := ⟨.hbm, 81, rfl⟩
abbrev main_while0b_cst_30 : Ref sig .tc := ⟨.hbm, 82, rfl⟩
abbrev main_while0b_v39 : Ref sig .tc := ⟨.hbm, 83, rfl⟩
abbrev main_while0b_v40 : Ref sig .tc := ⟨.hbm, 84, rfl⟩
abbrev main_while0b_cst_31 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_cst_32 : Ref sig .tc := ⟨.hbm, 90, rfl⟩
abbrev main_while0b_v45 : Ref sig .tc := ⟨.hbm, 91, rfl⟩
abbrev main_while0b_v46 : Ref sig .tc := ⟨.hbm, 92, rfl⟩
abbrev main_while0b_cst_33 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_c_34 : Ref sig .tc := ⟨.hbm, 98, rfl⟩
abbrev main_while0b_v51 : Ref sig .tc := ⟨.hbm, 99, rfl⟩
abbrev main_while0b_c_35 : Ref sig .tc := ⟨.hbm, 100, rfl⟩
abbrev main_while0b_v52 : Ref sig .tc := ⟨.hbm, 101, rfl⟩
abbrev main_while0b_v53 : Ref sig .tc := ⟨.hbm, 102, rfl⟩
abbrev main_while0b_c_36 : Ref sig .tc := ⟨.hbm, 103, rfl⟩
abbrev main_while0b_c_37 : Ref sig .tc := ⟨.hbm, 104, rfl⟩
abbrev main_while0b_v54 : Ref sig .tc := ⟨.hbm, 105, rfl⟩
abbrev main_while0b_c_38 : Ref sig .tc := ⟨.hbm, 106, rfl⟩
abbrev main_while0b_c_39 : Ref sig .tc := ⟨.hbm, 107, rfl⟩
abbrev main_while0b_v55 : Ref sig .tc := ⟨.hbm, 108, rfl⟩
abbrev main_while0b_c_40 : Ref sig .tc := ⟨.hbm, 109, rfl⟩
abbrev main_while0b_v56 : Ref sig .tc := ⟨.hbm, 110, rfl⟩
abbrev main_while0b_c_41 : Ref sig .tc := ⟨.hbm, 111, rfl⟩
abbrev main_while0b_c_42 : Ref sig .tc := ⟨.hbm, 112, rfl⟩
abbrev main_while0b_v57 : Ref sig .tc := ⟨.hbm, 113, rfl⟩
abbrev main_while0b_c_43 : Ref sig .tc := ⟨.hbm, 114, rfl⟩
abbrev main_while0b_c_44 : Ref sig .tc := ⟨.hbm, 115, rfl⟩
abbrev main_while0b_v58 : Ref sig .tc := ⟨.hbm, 116, rfl⟩
abbrev main_while0b_c_45 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_c_46 : Ref sig .tc := ⟨.hbm, 122, rfl⟩
abbrev main_while0b_v63 : Ref sig .tc := ⟨.hbm, 123, rfl⟩
abbrev main_while0b_c_47 : Ref sig .tc := ⟨.hbm, 124, rfl⟩
abbrev main_while0b_v64 : Ref sig .tc := ⟨.hbm, 125, rfl⟩
abbrev main_while0b_v65 : Ref sig .tc := ⟨.hbm, 126, rfl⟩
abbrev main_while0b_c_48 : Ref sig .tc := ⟨.hbm, 127, rfl⟩
abbrev main_while0b_c_49 : Ref sig .tc := ⟨.hbm, 128, rfl⟩
abbrev main_while0b_v66 : Ref sig .tc := ⟨.hbm, 129, rfl⟩
abbrev main_while0b_c_50 : Ref sig .tc := ⟨.hbm, 130, rfl⟩
abbrev main_while0b_c_51 : Ref sig .tc := ⟨.hbm, 131, rfl⟩
abbrev main_while0b_v67 : Ref sig .tc := ⟨.hbm, 132, rfl⟩
abbrev main_while0b_c_52 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_call3_v0 : Ref sig .tc := ⟨.hbm, 140, rfl⟩
abbrev main_while0b_call3_c : Ref sig .tc := ⟨.hbm, 141, rfl⟩
abbrev main_while0b_call3_c_0 : Ref sig .tc := ⟨.hbm, 142, rfl⟩
abbrev main_while0b_v74 : Ref sig .tc := ⟨.hbm, 143, rfl⟩
abbrev main_while0b_c_53 : Ref sig .tc := ⟨.hbm, 144, rfl⟩
abbrev main_while0b_v75 : Ref sig .tc := ⟨.hbm, 145, rfl⟩
abbrev main_v3 : Ref sig .tc := ⟨.hbm, 146, rfl⟩
abbrev main_v4 : Ref sig .tc := ⟨.hbm, 147, rfl⟩
abbrev main_v5 : Ref sig .tc := ⟨.hbm, 148, rfl⟩
abbrev main_v6 : Ref sig .tc := ⟨.hbm, 149, rfl⟩
abbrev main_cst_0 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v7 : Ref sig .tc := ⟨.hbm, 154, rfl⟩
abbrev main_v8 : Ref sig .tc := ⟨.hbm, 155, rfl⟩

abbrev nD : Nat := 1
abbrev τ : Topo := Topo.v7x

variable {F : FTy → Type} [FloatOps F]

abbrev main_while0_count : Scf.Loop 32 := ⟨0#32, 290#32, 1#32⟩
-- ==== Kernel3.lean ====
abbrev S16384x1024 : Shape := ⟨2, ![16384, 1024]⟩
abbrev S1024x3072 : Shape := ⟨2, ![1024, 3072]⟩
abbrev S16384x8x128 : Shape := ⟨3, ![16384, 8, 128]⟩
abbrev S16384x3072 : Shape := ⟨2, ![16384, 3072]⟩
abbrev S4x2x4096x8x128 : Shape := ⟨5, ![4, 2, 4096, 8, 128]⟩
abbrev S256x1024 : Shape := ⟨2, ![256, 1024]⟩
abbrev S256x8x128 : Shape := ⟨3, ![256, 8, 128]⟩
abbrev S256x3072 : Shape := ⟨2, ![256, 3072]⟩
abbrev S1x2x256x8x128 : Shape := ⟨5, ![1, 2, 256, 8, 128]⟩
abbrev S1x1x256x8x128 : Shape := ⟨5, ![1, 1, 256, 8, 128]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S16384x8x128, .f32⟩
  | .hbm, ⟨3, _⟩ => ⟨S16384x8x128, .f32⟩
  | .hbm, ⟨4, _⟩ => ⟨S16384x3072, .f32⟩
  | .hbm, ⟨5, _⟩ => ⟨S4x2x4096x8x128, .f32⟩
  | .hbm, ⟨6, _⟩ => ⟨S4x2x4096x8x128, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .f32⟩
  | .local _ .vmem, ⟨3, _⟩ => ⟨S256x8x128, .f32⟩
  | .local _ .vmem, ⟨4, _⟩ => ⟨S256x8x128, .f32⟩
  | .local _ .vmem, ⟨5, _⟩ => ⟨S256x8x128, .f32⟩
  | .local _ .vmem, ⟨6, _⟩ => ⟨S256x8x128, .f32⟩
  | .local _ .vmem, ⟨7, _⟩ => ⟨S256x3072, .f32⟩
  | .local _ .vmem, ⟨8, _⟩ => ⟨S256x3072, .f32⟩
  | .local _ .vmem, ⟨9, _⟩ => ⟨S1x2x256x8x128, .f32⟩
  | .local _ .vmem, ⟨10, _⟩ => ⟨S1x2x256x8x128, .f32⟩
  | .local _ .vmem, ⟨11, _⟩ => ⟨S1x2x256x8x128, .f32⟩
  | .local _ .vmem, ⟨12, _⟩ => ⟨S1x2x256x8x128, .f32⟩
  | .local _ .vmem, ⟨13, _⟩ => ⟨S1024x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_6 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024x3072 : Shape := ⟨2, ![1024, 3072]⟩
abbrev S16384x8x128 : Shape := ⟨3, ![16384, 8, 128]⟩
abbrev S16384x3072 : Shape := ⟨2, ![16384, 3072]⟩
abbrev S4x4096x3x8x128 : Shape := ⟨5, ![4, 4096, 3, 8, 128]⟩
abbrev S4x4096x1x8x128 : Shape := ⟨5, ![4, 4096, 1, 8, 128]⟩
abbrev S4x4096x8x128 : Shape := ⟨4, ![4, 4096, 8, 128]⟩
abbrev S4x1x4096x8x128 : Shape := ⟨5, ![4, 1, 4096, 8, 128]⟩
abbrev S4x2x4096x8x128 : Shape := ⟨5, ![4, 2, 4096, 8, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S16384x8x128, .f32⟩
  | .hbm, ⟨3, _⟩ => ⟨S16384x8x128, .f32⟩
  | .hbm, ⟨4, _⟩ => ⟨S16384x3072, .f32⟩
  | .hbm, ⟨5, _⟩ => ⟨S4x4096x3x8x128, .f32⟩
  | .hbm, ⟨6, _⟩ => ⟨S4x4096x1x8x128, .f32⟩
  | .hbm, ⟨7, _⟩ => ⟨S4x4096x8x128, .f32⟩
  | .hbm, ⟨8, _⟩ => ⟨S4x4096x1x8x128, .f32⟩
  | .hbm, ⟨9, _⟩ => ⟨S4x4096x8x128, .f32⟩
  | .hbm, ⟨10, _⟩ => ⟨S4x4096x8x128, .f32⟩
  | .hbm, ⟨11, _⟩ => ⟨S4x1x4096x8x128, .f32⟩
  | .hbm, ⟨12, _⟩ => ⟨S4x1x4096x8x128, .f32⟩
  | .hbm, ⟨13, _⟩ => ⟨S4x2x4096x8x128, .f32⟩
  | .hbm, ⟨14, _⟩ => ⟨S4x4096x8x128, .f32⟩
  | .hbm, ⟨15, _⟩ => ⟨S4x1x4096x8x128, .f32⟩
  | .hbm, ⟨16, _⟩ => ⟨S4x1x4096x8x128, .f32⟩
  | .hbm, ⟨17, _⟩ => ⟨S4x2x4096x8x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel4.lean ====
abbrev S16384x1024 : Shape := ⟨2, ![16384, 1024]⟩
abbrev S1024x6144 : Shape := ⟨2, ![1024, 6144]⟩
abbrev S16384x6144 : Shape := ⟨2, ![16384, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .f32⟩
  | .hbm, ⟨2, _⟩ => ⟨S16384x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .f32⟩
  | .hbm, ⟨2, _⟩ => ⟨S16384x6144, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S16384x2048 : Shape := ⟨2, ![16384, 2048]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S16384x1024 : Shape := ⟨2, ![16384, 1024]⟩
abbrev S4x3x1024 : Shape := ⟨3, ![4, 3, 1024]⟩
abbrev S4x1x1024 : Shape := ⟨3, ![4, 1, 1024]⟩
abbrev S256x1024 : Shape := ⟨2, ![256, 1024]⟩
abbrev S1x3x1024 : Shape := ⟨3, ![1, 3, 1024]⟩
abbrev S1x1x1024 : Shape := ⟨3, ![1, 1, 1024]⟩
abbrev S264x1024 : Shape := ⟨2, ![264, 1024]⟩
abbrev S8x1024 : Shape := ⟨2, ![8, 1024]⟩
abbrev S256x256 : Shape := ⟨2, ![256, 256]⟩
abbrev S1x256x256 : Shape := ⟨3, ![1, 256, 256]⟩
abbrev S1x256 : Shape := ⟨2, ![1, 256]⟩
abbrev S3x1024 : Shape := ⟨2, ![3, 1024]⟩

abbrev nBuf : Space → Nat
  | .hbm => 15
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .bf16⟩
  | .hbm, ⟨13, _⟩ => ⟨S4x3x1024, .f32⟩
  | .hbm, ⟨14, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .f32⟩
  | .local _ .vmem, ⟨7, _⟩ => ⟨S1x1024, .f32⟩
  | .local _ .vmem, ⟨8, _⟩ => ⟨S4x256x256, .f32⟩
  | .local _ .vmem, ⟨9, _⟩ => ⟨S1x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S1x3x1024, .f32⟩
  | .local _ .vmem, ⟨14, _⟩ => ⟨S1x3x1024, .f32⟩
  | .local _ .vmem, ⟨15, _⟩ => ⟨S1x1x1024, .f32⟩
  | .local _ .vmem, ⟨16, _⟩ => ⟨S1x1x1024, .f32⟩
  | .local _ .vmem, ⟨17, _⟩ => ⟨S264x1024, .f32⟩
  | .local _ .vmem, ⟨18, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference5Ideal.lean ====
abbrev S16384x2048 : Shape := ⟨2, ![16384, 2048]⟩
abbrev S4x1024 : Shape := ⟨2, ![4, 1024]⟩
abbrev S1024 : Shape := ⟨1, ![1024]⟩
abbrev S4x256x256 : Shape := ⟨3, ![4, 256, 256]⟩
abbrev S4x4096x2048 : Shape := ⟨3, ![4, 4096, 2048]⟩
abbrev S4x4096x1024 : Shape := ⟨3, ![4, 4096, 1024]⟩
abbrev S_ : Shape := ⟨0, ![]⟩
abbrev S4x3x1024 : Shape := ⟨3, ![4, 3, 1024]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x4x256 : Shape := ⟨4, ![4, 4096, 4, 256]⟩
abbrev S4x256x4x4096 : Shape := ⟨4, ![4, 256, 4, 4096]⟩
abbrev S4096x4x1024 : Shape := ⟨3, ![4096, 4, 1024]⟩
abbrev S1x4x1024 : Shape := ⟨3, ![1, 4, 1024]⟩
abbrev S16384x1024 : Shape := ⟨2, ![16384, 1024]⟩
abbrev S4x1x1024 : Shape := ⟨3, ![4, 1, 1024]⟩

abbrev nBuf : Space → Nat
  | .hbm => 162
  | .vmem => 0
  | .smem => 0
  | _ => 0

abbrev hbmTy0_0 (i : Nat) : BufTy := match i % 128 with
  | 0 => ⟨S16384x2048, .f32⟩
  | 1 => ⟨S4x1024, .f32⟩
  | 2 => ⟨S1024, .f32⟩
  | 3 => ⟨S4x256x256, .f32⟩
  | 4 => ⟨S1024, .f32⟩
  | 5 => ⟨S4x256x256, .f32⟩
  | 6 => ⟨S1024, .f32⟩
  | 7 => ⟨S1024, .f32⟩
  | 8 => ⟨S4x4096x2048, .f32⟩
  | 9 => ⟨S4x4096x1024, .f32⟩
  | 10 => ⟨S_, .f32⟩
  | 11 => ⟨S4x3x1024, .f32⟩
  | 12 => ⟨S4x4099x1024, .f32⟩
  | 13 => ⟨S4x4096x1024, .f32⟩
  | 14 => ⟨S1x1024, .f32⟩
  | 15 => ⟨S1024, .f32⟩
  | 16 => ⟨S1x1x1024, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x4096x1024, .f32⟩
  | 23 => ⟨S1x1024, .f32⟩
  | 24 => ⟨S1024, .f32⟩
  | 25 => ⟨S1x1x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S1x1024, .f32⟩
  | 31 => ⟨S1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x4x256, .f32⟩
  | 44 => ⟨S4x256x4x4096, .f32⟩
  | 45 => ⟨S4x4096x4x256, .f32⟩
  | 46 => ⟨S4x4096x1024, .f32⟩
  | 47 => ⟨S1x1x1024, .f32⟩
  | 48 => ⟨S4x4096x1024, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S_, .f32⟩
  | 56 => ⟨S4x4096x1024, .f32⟩
  | 57 => ⟨S4x4096x1024, .f32⟩
  | 58 => ⟨S4x256x4x4096, .f32⟩
  | 59 => ⟨S4x4096x4x256, .f32⟩
  | 60 => ⟨S4x4096x1024, .f32⟩
  | 61 => ⟨S1x1x1024, .f32⟩
  | 62 => ⟨S4x4096x1024, .f32⟩
  | 63 => ⟨S4x4096x1024, .f32⟩
  | 64 => ⟨S4x4096x1024, .f32⟩
  | 65 => ⟨S4x4096x1024, .f32⟩
  | 66 => ⟨S_, .f32⟩
  | 67 => ⟨S4x4096x1024, .f32⟩
  | 68 => ⟨S4x4096x1024, .f32⟩
  | 69 => ⟨S_, .f32⟩
  | 70 => ⟨S4x4096x1024, .f32⟩
  | 71 => ⟨S4x4096x1024, .f32⟩
  | 72 => ⟨S_, .f32⟩
  | 73 => ⟨S4x4096x1024, .f32⟩
  | 74 => ⟨S4x4096x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S_, .f32⟩
  | 95 => ⟨S4x4096x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S_, .f32⟩
  | 103 => ⟨S4x1024, .f32⟩
  | 104 => ⟨S4096x4x1024, .f32⟩
  | 105 => ⟨S4096x4x1024, .f32⟩
  | 106 => ⟨S_, .f32⟩
  | 107 => ⟨S4096x4x1024, .f32⟩
  | 108 => ⟨S_, .i32⟩
  | 109 => ⟨S4096x4x1024, .f32⟩
  | 110 => ⟨S4096x4x1024, .f32⟩
  | 111 => ⟨S_, .i32⟩
  | 112 => ⟨S4x1024, .f32⟩
  | 113 => ⟨S4096x4x1024, .f32⟩
  | 114 => ⟨S_, .i32⟩
  | 115 => ⟨S_, .i1⟩
  | 116 => ⟨S_, .i32⟩
  | 117 => ⟨S_, .i32⟩
  | 118 => ⟨S1x4x1024, .f32⟩
  | 119 => ⟨S4x1024, .f32⟩
  | 120 => ⟨S_, .i32⟩
  | 121 => ⟨S_, .i32⟩
  | 122 => ⟨S1x4x1024, .f32⟩
  | 123 => ⟨S4x1024, .f32⟩
  | 124 => ⟨S4x1024, .f32⟩
  | 125 => ⟨S4x1024, .f32⟩
  | 126 => ⟨S1x4x1024, .f32⟩
  | 127 => ⟨S_, .i32⟩
  | _ => ⟨S16384x2048, .f32⟩

abbrev hbmTy0_1 (i : Nat) : BufTy := match i % 128 with
  | 0 => ⟨S_, .i32⟩
  | 1 => ⟨S4096x4x1024, .f32⟩
  | 2 => ⟨S_, .i32⟩
  | 3 => ⟨S_, .i32⟩
  | 4 => ⟨S4x4096x1024, .f32⟩
  | 5 => ⟨S4x4096x2048, .f32⟩
  | 6 => ⟨S4x4096x1024, .f32⟩
  | 7 => ⟨S4x4096x1024, .f32⟩
  | 8 => ⟨S4x4096x1024, .f32⟩
  | 9 => ⟨S_, .f32⟩
  | 10 => ⟨S4x4096x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .bf16⟩
  | 26 => ⟨S16384x1024, .bf16⟩
  | 27 => ⟨S4x4096x2048, .f32⟩
  | 28 => ⟨S4x4096x1024, .f32⟩
  | 29 => ⟨S_, .f32⟩
  | 30 => ⟨S4x3x1024, .f32⟩
  | 31 => ⟨S4x4099x1024, .f32⟩
  | 32 => ⟨S4x3x1024, .f32⟩
  | 33 => ⟨S4x1x1024, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_6 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_7 : Ref sig .tc := ⟨.hbm, 106, rfl⟩
abbrev main_v77 : Ref sig .tc := ⟨.hbm, 107, rfl⟩
abbrev main_c : Ref sig .tc := ⟨.hbm, 108, rfl⟩
abbrev main_v78_0 : Ref sig .tc := ⟨.hbm, 109, rfl⟩
abbrev main_v78_1 : Ref sig .tc := ⟨.hbm, 110, rfl⟩
abbrev main_v78_2 : Ref sig .tc := ⟨.hbm, 111, rfl⟩
abbrev main_v78_3 : Ref sig .tc := ⟨.hbm, 112, rfl⟩
abbrev main_v78_4 : Ref sig .tc := ⟨.hbm, 113, rfl⟩
abbrev main_while0c_c_17 : Ref sig .tc := ⟨.hbm, 114, rfl⟩
abbrev main_while0c_v104 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v104 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v105 : Ref sig .tc := ⟨.hbm, 123, rfl⟩
abbrev main_while0b_v106 : Ref sig .tc := ⟨.hbm, 124, rfl⟩
abbrev main_while0b_v107 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v108 : Ref sig .tc := ⟨.hbm, 129, rfl⟩
abbrev main_while0b_c_17 : Ref sig .tc := ⟨.hbm, 130, rfl⟩
abbrev main_while0b_v109 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_8 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_9 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_10 : Ref sig .tc := ⟨.hbm, 145, rfl⟩
abbrev main_v90 : Ref sig .tc := ⟨.hbm, 146, rfl⟩
abbrev main_v91 : Ref sig .tc := ⟨.hbm, 147, rfl⟩
abbrev main_cst_11 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_12 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩

abbrev nD : Nat := 1
abbrev τ : Topo := Topo.v7x

variable {F : FTy → Type} [FloatOps F]

abbrev main_while0_count : Scf.Loop 32 := ⟨0#32, 4096#32, 1#32⟩
-- ==== Kernel6.lean ====
abbrev S128x2048 : Shape := ⟨2, ![128, 2048]⟩
abbrev S32x3x1024 : Shape := ⟨3, ![32, 3, 1024]⟩
abbrev S32x1024 : Shape := ⟨2, ![32, 1024]⟩
abbrev S4x1024 : Shape := ⟨2, ![4, 1024]⟩
abbrev S1024 : Shape := ⟨1, ![1024]⟩
abbrev S4x256x256 : Shape := ⟨3, ![4, 256, 256]⟩
abbrev S32x4x2048 : Shape := ⟨3, ![32, 4, 2048]⟩
abbrev S32x1x1024 : Shape := ⟨3, ![32, 1, 1024]⟩
abbrev S1x1024 : Shape := ⟨2, ![1, 1024]⟩
abbrev S32x4x1024 : Shape := ⟨3, ![32, 4, 1024]⟩
abbrev S1x4x2048 : Shape := ⟨3, ![1, 4, 2048]⟩
abbrev S1x3x1024 : Shape := ⟨3, ![1, 3, 1024]⟩
abbrev S1x1x1024 : Shape := ⟨3, ![1, 1, 1024]⟩
abbrev S1x4x1024 : Shape := ⟨3, ![1, 4, 1024]⟩
abbrev S4x2048 : Shape := ⟨2, ![4, 2048]⟩
abbrev S3x1024 : Shape := ⟨2, ![3, 1024]⟩
abbrev S7x1024 : Shape := ⟨2, ![7, 1024]⟩
abbrev S4x256 : Shape := ⟨2, ![4, 256]⟩
abbrev S1x256x256 : Shape := ⟨3, ![1, 256, 256]⟩
abbrev S256x256 : Shape := ⟨2, ![256, 256]⟩
abbrev S1x256 : Shape := ⟨2, ![1, 256]⟩
abbrev S1x1x256 : Shape := ⟨3, ![1, 1, 256]⟩

abbrev nBuf : Space → Nat
  | .hbm => 19
  | .vmem => 19
  | .smem => 0
  | _ => 0

abbrev bufTy : (tb : Table) → Fin (tcTables nBuf tb) → BufTy
  | .hbm, ⟨0, _⟩ => ⟨S128x2048, .f32⟩
  | .hbm, ⟨1, _⟩ => ⟨S32x3x1024, .f32⟩
  | .hbm, ⟨2, _⟩ => ⟨S32x1024, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S4x256x256, .f32⟩
  | .hbm, ⟨8, _⟩ => ⟨S1024, .f32⟩
  | .hbm, ⟨9, _⟩ => ⟨S1024, .f32⟩
  | .hbm, ⟨10, _⟩ => ⟨S32x4x2048, .f32⟩
  | .hbm, ⟨11, _⟩ => ⟨S32x1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S32x4x1024, .f32⟩
  | .hbm, ⟨17, _⟩ => ⟨S32x3x1024, .f32⟩
  | .hbm, ⟨18, _⟩ => ⟨S32x1x1024, .f32⟩
  | .local _ .vmem, ⟨0, _⟩ => ⟨S1x4x2048, .f32⟩
  | .local _ .vmem, ⟨1, _⟩ => ⟨S1x4x2048, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x1024, .f32⟩
  | .local _ .vmem, ⟨7, _⟩ => ⟨S1x1024, .f32⟩
  | .local _ .vmem, ⟨8, _⟩ => ⟨S4x256x256, .f32⟩
  | .local _ .vmem, ⟨9, _⟩ => ⟨S1x1024, .f32⟩
  | .local _ .vmem, ⟨10, _⟩ => ⟨S4x256x256, .f32⟩
  | .local _ .vmem, ⟨11, _⟩ => ⟨S1x1024, .f32⟩
  | .local _ .vmem, ⟨12, _⟩ => ⟨S1x1024, .f32⟩
  | .local _ .vmem, ⟨13, _⟩ => ⟨S1x4x1024, .f32⟩
  | .local _ .vmem, ⟨14, _⟩ => ⟨S1x4x1024, .f32⟩
  | .local _ .vmem, ⟨15, _⟩ => ⟨S1x3x1024, .f32⟩
  | .local _ .vmem, ⟨16, _⟩ => ⟨S1x3x1024, .f32⟩
  | .local _ .vmem, ⟨17, _⟩ => ⟨S1x1x1024, .f32⟩
  | .local _ .vmem, ⟨18, _⟩ => ⟨S1x1x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S128x2048 : Shape := ⟨2, ![128, 2048]⟩
abbrev S32x3x1024 : Shape := ⟨3, ![32, 3, 1024]⟩
abbrev S32x1024 : Shape := ⟨2, ![32, 1024]⟩
abbrev S4x1024 : Shape := ⟨2, ![4, 1024]⟩
abbrev S1024 : Shape := ⟨1, ![1024]⟩
abbrev S4x256x256 : Shape := ⟨3, ![4, 256, 256]⟩
abbrev S32x4x2048 : Shape := ⟨3, ![32, 4, 2048]⟩
abbrev S32x4x1024 : Shape := ⟨3, ![32, 4, 1024]⟩
abbrev S32x7x1024 : Shape := ⟨3, ![32, 7, 1024]⟩
abbrev S1x1024 : Shape := ⟨2, ![1, 1024]⟩
abbrev S1x1x1024 : Shape := ⟨3, ![1, 1, 1024]⟩
abbrev S32x4x4x256 : Shape := ⟨4, ![32, 4, 4, 256]⟩
abbrev S4x256x32x4 : Shape := ⟨4, ![4, 256, 32, 4]⟩
abbrev S_ : Shape := ⟨0, ![]⟩
abbrev S4x32x1024 : Shape := ⟨3, ![4, 32, 1024]⟩
abbrev S1x32x1024 : Shape := ⟨3, ![1, 32, 1024]⟩
abbrev S32x1x1024 : Shape := ⟨3, ![32, 1, 1024]⟩

abbrev nBuf : Space → Nat
  | .hbm => 156
  | .vmem => 0
  | .smem => 0
  | _ => 0

abbrev hbmTy0_0 (i : Nat) : BufTy := match i % 128 with
  | 0 => ⟨S128x2048, .f32⟩
  | 1 => ⟨S32x3x1024, .f32⟩
  | 2 => ⟨S32x1024, .f32⟩
  | 3 => ⟨S4x1024, .f32⟩
  | 4 => ⟨S1024, .f32⟩
  | 5 => ⟨S4x256x256, .f32⟩
  | 6 => ⟨S1024, .f32⟩
  | 7 => ⟨S4x256x256, .f32⟩
  | 8 => ⟨S1024, .f32⟩
  | 9 => ⟨S1024, .f32⟩
  | 10 => ⟨S32x4x2048, .f32⟩
  | 11 => ⟨S32x4x1024, .f32⟩
  | 12 => ⟨S32x7x1024, .f32⟩
  | 13 => ⟨S32x4x1024, .f32⟩
  | 14 => ⟨S1x1024, .f32⟩
  | 15 => ⟨S1024, .f32⟩
  | 16 => ⟨S1x1x1024, .f32⟩
  | 17 => ⟨S32x4x1024, .f32⟩
  | 18 => ⟨S32x4x1024, .f32⟩
  | 19 => ⟨S1x1x1024, .f32⟩
  | 20 => ⟨S32x4x1024, .f32⟩
  | 21 => ⟨S32x4x1024, .f32⟩
  | 22 => ⟨S32x4x1024, .f32⟩
  | 23 => ⟨S1x1024, .f32⟩
  | 24 => ⟨S1024, .f32⟩
  | 25 => ⟨S1x1x1024, .f32⟩
  | 26 => ⟨S32x4x1024, .f32⟩
  | 27 => ⟨S32x4x1024, .f32⟩
  | 28 => ⟨S32x4x1024, .f32⟩
  | 29 => ⟨S32x4x1024, .f32⟩
  | 30 => ⟨S1x1024, .f32⟩
  | 31 => ⟨S1024, .f32⟩
  | 32 => ⟨S1x1x1024, .f32⟩
  | 33 => ⟨S32x4x1024, .f32⟩
  | 34 => ⟨S32x4x1024, .f32⟩
  | 35 => ⟨S32x4x1024, .f32⟩
  | 36 => ⟨S32x4x1024, .f32⟩
  | 37 => ⟨S1x1024, .f32⟩
  | 38 => ⟨S1024, .f32⟩
  | 39 => ⟨S1x1x1024, .f32⟩
  | 40 => ⟨S32x4x1024, .f32⟩
  | 41 => ⟨S32x4x1024, .f32⟩
  | 42 => ⟨S32x4x1024, .f32⟩
  | 43 => ⟨S32x4x4x256, .f32⟩
  | 44 => ⟨S4x256x32x4, .f32⟩
  | 45 => ⟨S32x4x4x256, .f32⟩
  | 46 => ⟨S32x4x1024, .f32⟩
  | 47 => ⟨S1x1x1024, .f32⟩
  | 48 => ⟨S32x4x1024, .f32⟩
  | 49 => ⟨S32x4x1024, .f32⟩
  | 50 => ⟨S32x4x1024, .f32⟩
  | 51 => ⟨S32x4x1024, .f32⟩
  | 52 => ⟨S_, .f32⟩
  | 53 => ⟨S32x4x1024, .f32⟩
  | 54 => ⟨S32x4x1024, .f32⟩
  | 55 => ⟨S_, .f32⟩
  | 56 => ⟨S32x4x1024, .f32⟩
  | 57 => ⟨S32x4x1024, .f32⟩
  | 58 => ⟨S4x256x32x4, .f32⟩
  | 59 => ⟨S32x4x4x256, .f32⟩
  | 60 => ⟨S32x4x1024, .f32⟩
  | 61 => ⟨S1x1x1024, .f32⟩
  | 62 => ⟨S32x4x1024, .f32⟩
  | 63 => ⟨S32x4x1024, .f32⟩
  | 64 => ⟨S32x4x1024, .f32⟩
  | 65 => ⟨S32x4x1024, .f32⟩
  | 66 => ⟨S_, .f32⟩
  | 67 => ⟨S32x4x1024, .f32⟩
  | 68 => ⟨S32x4x1024, .f32⟩
  | 69 => ⟨S_, .f32⟩
  | 70 => ⟨S32x4x1024, .f32⟩
  | 71 => ⟨S32x4x1024, .f32⟩
  | 72 => ⟨S_, .f32⟩
  | 73 => ⟨S32x4x1024, .f32⟩
  | 74 => ⟨S32x4x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S32x4x1024, .f32⟩
  | 92 => ⟨S32x4x1024, .f32⟩
  | 93 => ⟨S32x4x1024, .f32⟩
  | 94 => ⟨S_, .f32⟩
  | 95 => ⟨S32x4x1024, .f32⟩
  | 96 => ⟨S32x4x1024, .f32⟩
  | 97 => ⟨S32x4x1024, .f32⟩
  | 98 => ⟨S32x4x1024, .f32⟩
  | 99 => ⟨S32x4x1024, .f32⟩
  | 100 => ⟨S32x4x1024, .f32⟩
  | 101 => ⟨S32x4x1024, .f32⟩
  | 102 => ⟨S4x32x1024, .f32⟩
  | 103 => ⟨S4x32x1024, .f32⟩
  | 104 => ⟨S_, .f32⟩
  | 105 => ⟨S4x32x1024, .f32⟩
  | 106 => ⟨S_, .i32⟩
  | 107 => ⟨S4x32x1024, .f32⟩
  | 108 => ⟨S4x32x1024, .f32⟩
  | 109 => ⟨S_, .i32⟩
  | 110 => ⟨S32x1024, .f32⟩
  | 111 => ⟨S4x32x1024, .f32⟩
  | 112 => ⟨S_, .i32⟩
  | 113 => ⟨S_, .i1⟩
  | 114 => ⟨S_, .i32⟩
  | 115 => ⟨S_, .i32⟩
  | 116 => ⟨S1x32x1024, .f32⟩
  | 117 => ⟨S32x1024, .f32⟩
  | 118 => ⟨S_, .i32⟩
  | 119 => ⟨S_, .i32⟩
  | 120 => ⟨S1x32x1024, .f32⟩
  | 121 => ⟨S32x1024, .f32⟩
  | 122 => ⟨S32x1024, .f32⟩
  | 123 => ⟨S32x1024, .f32⟩
  | 124 => ⟨S1x32x1024, .f32⟩
  | 125 => ⟨S_, .i32⟩
  | 126 => ⟨S_, .i32⟩
  | 127 => ⟨S4x32x1024, .f32⟩
  | _ => ⟨S128x2048, .f32⟩

abbrev hbmTy0_1 (i : Nat) : BufTy := match i % 128 with
  | 0 => ⟨S_, .i32⟩
  | 1 => ⟨S_, .i32⟩
  | 2 => ⟨S32x4x1024, .f32⟩
  | 3 => ⟨S32x4x2048, .f32⟩
  | 4 => ⟨S32x4x1024, .f32⟩
  | 5 => ⟨S32x4x1024, .f32⟩
  | 6 => ⟨S32x4x1024, .f32⟩
  | 7 => ⟨S_, .f32⟩
  | 8 => ⟨S32x4x1024, .f32⟩
  | 9 => ⟨S32x4x1024, .f32⟩
  | 10 => ⟨S32x4x1024, .f32⟩
  | 11 => ⟨S_, .f32⟩
  | 12 => ⟨S32x4x1024, .f32⟩
  | 13 => ⟨S32x4x1024, .f32⟩
  | 14 => ⟨S32x4x1024, .f32⟩
  | 15 => ⟨S_, .f32⟩
  | 16 => ⟨S32x4x1024, .f32⟩
  | 17 => ⟨S32x4x1024, .f32⟩
  | 18 => ⟨S_, .f32⟩
  | 19 => ⟨S32x4x1024, .f32⟩
  | 20 => ⟨S32x4x1024, .f32⟩
  | 21 => ⟨S32x4x1024, .f32⟩
  | 22 => ⟨S32x4x1024, .f32⟩
  | 23 => ⟨S32x4x2048, .f32⟩
  | 24 => ⟨S32x4x1024, .f32⟩
  | 25 => ⟨S32x7x1024, .f32⟩
  | 26 => ⟨S32x3x1024, .f32⟩
  | 27 => ⟨S32x1x1024, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_c : Ref sig .tc := ⟨.hbm, 106, rfl⟩
abbrev main_v76_0 : Ref sig .tc := ⟨.hbm, 107, rfl⟩
abbrev main_v76_1 : Ref sig .tc := ⟨.hbm, 108, rfl⟩
abbrev main_v76_2 : Ref sig .tc := ⟨.hbm, 109, rfl⟩
abbrev main_v76_3 : Ref sig .tc := ⟨.hbm, 110, rfl⟩
abbrev main_v76_4 : Ref sig .tc := ⟨.hbm, 111, rfl⟩
abbrev main_while0c_c_14 : Ref sig .tc := ⟨.hbm, 112, rfl⟩
abbrev main_while0c_v99 : Ref sig .tc := ⟨.hbm, 113, rfl⟩
abbrev main_while0b_call1_c : Ref sig .tc := ⟨.hbm, 114, rfl⟩
abbrev main_while0b_call1_c_0 : Ref sig .tc := ⟨.hbm, 115, rfl⟩
abbrev main_while0b_call1_v0 : Ref sig .tc := ⟨.hbm, 116, rfl⟩
abbrev main_while0b_v99 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_call3_v0 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_v103 : Ref sig .tc := ⟨.hbm, 127, rfl⟩
abbrev main_while0b_c_14 : Ref sig .tc := ⟨.hbm, 128, rfl⟩
abbrev main_while0b_v104 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_6 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_7 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_8 : Ref sig .tc := ⟨.hbm, 143, rfl⟩
abbrev main_v88 : Ref sig .tc := ⟨.hbm, 144, rfl⟩
abbrev main_v89 : Ref sig .tc := ⟨.hbm, 145, rfl⟩
abbrev main_cst_9 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩

abbrev nD : Nat := 1
abbrev τ : Topo := Topo.v7x

variable {F : FTy → Type} [FloatOps F]

abbrev main_while0_count : Scf.Loop 32 := ⟨0#32, 4#32, 1#32⟩
-- ==== Proof.RetMath.lean ====
/-
  Chunked retention over the real numbers. With keys `k m`, values `v m`, queries `q n` at positions `m n` and a decay
  `exp lg` per position, the state before position `n` and the output at position `n` are closed sums over the positions
  before. A pass in chunks of ANY length `C` — the state carried from chunk to chunk, the positions of one chunk met
  through a masked product — computes these sums: `st_chunk` and `out_chunk`. The kernel cuts the sequence in chunks of
  256 positions and the reference in chunks of 128, so each is an instance.
-/
module

public import Idealize.ShloMosaic.Lib.Pipeline.ValueKit

@[expose] public section

noncomputable section

namespace Cert.Proof.Ret

variable {D E : Type} [Fintype D]

/-- The state before position `n`: every earlier key times its value, decayed by the positions passed since. -/
def st (lg : ℝ) (k : ℕ → D → ℝ) (v : ℕ → E → ℝ) (n : ℕ) (d : D) (e : E) : ℝ :=
  ∑ m ∈ Finset.range n, Real.exp (((n : ℝ) - 1 - m) * lg) * (k m d * v m e)

/-- The output at position `n`: the values up to it, weighted by the decayed products of the query with their keys. -/
def out (lg : ℝ) (q k : ℕ → D → ℝ) (v : ℕ → E → ℝ) (n : ℕ) (e : E) : ℝ :=
  ∑ m ∈ Finset.range (n + 1), Real.exp (((n : ℝ) - m) * lg) * ((∑ d, q n d * k m d) * v m e)

omit [Fintype D] in
theorem st_zero (lg : ℝ) (k : ℕ → D → ℝ) (v : ℕ → E → ℝ) (d : D) (e : E) : st lg k v 0 d e = 0 := by
  simp [st]

omit [Fintype D] in
/-- The state over one chunk of `C` positions. -/
theorem st_chunk (C N : ℕ) (lg : ℝ) (k : ℕ → D → ℝ) (v : ℕ → E → ℝ) (d : D) (e : E) :
    Real.exp ((C : ℝ) * lg) * st lg k v N d e
      + ∑ j : Fin C, (k (N + j) d * Real.exp (((C : ℝ) - 1 - (j : ℕ)) * lg)) * v (N + j) e
      = st lg k v (N + C) d e := by
  unfold st
  rw [Finset.sum_range_add, Finset.mul_sum,
    Fin.sum_univ_eq_sum_range (fun j => (k (N + j) d * Real.exp (((C : ℝ) - 1 - j) * lg)) * v (N + j) e) C]
  refine congrArg₂ _ (Finset.sum_congr rfl fun m _ => ?_) (Finset.sum_congr rfl fun j _ => ?_)
  · rw [← mul_assoc, ← Real.exp_add]
    refine congrArg (· * _) (congrArg Real.exp ?_)
    push_cast; ring
  · rw [mul_comm (k _ _), mul_assoc]
    refine congrArg (· * _) (congrArg Real.exp ?_)
    push_cast; ring

/-- The outputs of one chunk of `C` positions. -/
theorem out_chunk (C N : ℕ) (lg : ℝ) (q k : ℕ → D → ℝ) (v : ℕ → E → ℝ) (i : Fin C) (e : E) :
    (∑ j : Fin C, ((∑ d, q (N + i) d * k (N + j) d)
        * (if (j : ℕ) ≤ i then Real.exp (((i : ℕ) - (j : ℕ) : ℝ) * lg) else 0)) * v (N + j) e)
      + (∑ d, q (N + i) d * st lg k v N d e) * Real.exp (((i : ℕ) + 1 : ℝ) * lg)
      = out lg q k v (N + i) e := by
  unfold out st
  rw [show N + (i : ℕ) + 1 = N + (i + 1) from rfl, Finset.sum_range_add, add_comm]
  refine congrArg₂ _ ?_ ?_
  · simp only [Finset.mul_sum, Finset.sum_mul]
    rw [Finset.sum_comm]
    refine Finset.sum_congr rfl fun m _ => Finset.sum_congr rfl fun d _ => ?_
    rw [show Real.exp ((((N + i : ℕ) : ℝ) - m) * lg)
      = Real.exp (((N : ℝ) - 1 - m) * lg) * Real.exp (((i : ℕ) + 1 : ℝ) * lg) by
        rw [← Real.exp_add]; refine congrArg Real.exp ?_; push_cast; ring]
    ring
  · rw [Fin.sum_univ_eq_sum_range (fun j => ((∑ d, q (N + i) d * k (N + j) d)
        * (if j ≤ (i : ℕ) then Real.exp (((i : ℕ) - (j : ℕ) : ℝ) * lg) else 0)) * v (N + j) e) C]
    rw [← Finset.sum_subset (s₁ := Finset.range ((i : ℕ) + 1)) (fun x hx => by
      have := i.isLt; simp only [Finset.mem_range] at hx ⊢; omega) (fun x _ hx => by
      simp only [Finset.mem_range] at hx
      rw [if_neg (by omega)]; ring)]
    refine Finset.sum_congr rfl fun j hj => ?_
    simp only [Finset.mem_range] at hj
    rw [if_pos (by omega)]
    rw [show ((((N + i : ℕ) : ℝ) - ((N + j : ℕ) : ℝ)) * lg) = (((i : ℕ) - (j : ℕ) : ℝ) * lg) by push_cast; ring]
    ring

/-- A finite sum of reals is a real of the extended line. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The state over one chunk, in the extended reals: all entries real. -/
theorem chunk_state (C N : ℕ) (lg : ℝ) (k : ℕ → D → ℝ) (v : ℕ → E → ℝ)
    (S : D → E → EReal) (cd : EReal) (kx : Fin C → D → EReal) (kd : Fin C → EReal) (vx : Fin C → E → EReal)
    (hS : ∀ d e, S d e = (st lg k v N d e : ℝ)) (hcd : cd = (Real.exp ((C : ℝ) * lg) : ℝ))
    (hk : ∀ j d, kx j d = (k (N + j) d : ℝ)) (hkd : ∀ j, kd j = (Real.exp (((C : ℝ) - 1 - (j : ℕ)) * lg) : ℝ))
    (hv : ∀ j e, vx j e = (v (N + j) e : ℝ)) (d : D) (e : E) :
    cd * S d e + ∑ j : Fin C, (kx j d * kd j) * vx j e = (st lg k v (N + C) d e : ℝ) := by
  rw [← st_chunk, EReal.coe_add, EReal.coe_mul, coe_sum, hcd, hS]
  refine congrArg _ (Finset.sum_congr rfl fun j _ => ?_)
  rw [hk, hkd, hv, EReal.coe_mul, EReal.coe_mul]

/-- The outputs of one chunk, in the extended reals: all entries real. -/
theorem chunk_out (C N : ℕ) (lg : ℝ) (q k : ℕ → D → ℝ) (v : ℕ → E → ℝ)
    (S : D → E → EReal) (qx kx : Fin C → D → EReal) (dm : Fin C → Fin C → EReal) (cr : Fin C → EReal)
    (vx : Fin C → E → EReal)
    (hS : ∀ d e, S d e = (st lg k v N d e : ℝ)) (hq : ∀ j d, qx j d = (q (N + j) d : ℝ))
    (hk : ∀ j d, kx j d = (k (N + j) d : ℝ))
    (hdm : ∀ i j, dm i j = ((if (j : ℕ) ≤ i then Real.exp (((i : ℕ) - (j : ℕ) : ℝ) * lg) else 0 : ℝ) : EReal))
    (hcr : ∀ i, cr i = (Real.exp (((i : ℕ) + 1 : ℝ) * lg) : ℝ))
    (hv : ∀ j e, vx j e = (v (N + j) e : ℝ)) (i : Fin C) (e : E) :
    (∑ j : Fin C, ((∑ d, qx i d * kx j d) * dm i j) * vx j e) + (∑ d, qx i d * S d e) * cr i
      = (out lg q k v (N + i) e : ℝ) := by
  rw [← out_chunk, EReal.coe_add, EReal.coe_mul, coe_sum, coe_sum, hcr]
  refine congrArg₂ _ (Finset.sum_congr rfl fun j _ => ?_) (congrArg (· * _) (Finset.sum_congr rfl fun d _ => ?_))
  · rw [hdm, hv, EReal.coe_mul, EReal.coe_mul, coe_sum]
    refine congrArg (fun x => x * _ * _) (Finset.sum_congr rfl fun d _ => ?_)
    rw [hq, hk, EReal.coe_mul]
  · rw [hq, hS, EReal.coe_mul]

end Cert.Proof.Ret

end
-- ==== Proof.RetForm.lean ====
/-
  The two elementwise pieces around the retention sums, as functions of the extended reals that the kernel's and the
  reference's arrays are both read as: the rotary turn of a row (`rope`) and the group norm with its gate (`gnz`).
-/
module

public import proofs.«01_k».proof.Proof.RetMath

@[expose] public section

noncomputable section

open Idealize.ShloMosaic

namespace Cert.Proof.Ret

/-- One row of 256 entries turned by 128 angles: entry `d` with its partner 128 further (or before). -/
def rope (x : Fin 256 → EReal) (c s : Fin 128 → EReal) (d : Fin 256) : EReal :=
  if h : (d : ℕ) < 128 then
    x d * c ⟨d, h⟩ - x ⟨128 + d, by omega⟩ * s ⟨d, h⟩
  else
    x d * c ⟨d - 128, by omega⟩ + x ⟨d - 128, by omega⟩ * s ⟨d - 128, by omega⟩

/-- A turned row of reals is real. -/
theorem rope_coe (x : Fin 256 → EReal) (c s : Fin 128 → EReal) (hx : ∀ d, ∃ r : ℝ, x d = r) (hc : ∀ d, ∃ r : ℝ, c d = r)
    (hs : ∀ d, ∃ r : ℝ, s d = r) (d : Fin 256) : ∃ r : ℝ, rope x c s d = r := by
  unfold rope
  split
  · obtain ⟨a, ha⟩ := hx d; obtain ⟨b, hb⟩ := hc ⟨d, by assumption⟩
    obtain ⟨a', ha'⟩ := hx ⟨128 + d, by omega⟩; obtain ⟨b', hb'⟩ := hs ⟨d, by assumption⟩
    exact ⟨a * b - a' * b', by rw [ha, hb, ha', hb']; norm_cast⟩
  · obtain ⟨a, ha⟩ := hx d; obtain ⟨b, hb⟩ := hc ⟨d - 128, by omega⟩
    obtain ⟨a', ha'⟩ := hx ⟨d - 128, by omega⟩; obtain ⟨b', hb'⟩ := hs ⟨d - 128, by omega⟩
    exact ⟨a * b + a' * b', by rw [ha, hb, ha', hb']; norm_cast⟩

/-- The mean of a row of 512 entries. -/
def mean (o : Fin 512 → EReal) : EReal := Ideal.div (∑ x, o x) (Ideal.ofBits .f32 0x44000000#32)

/-- A row of 512 outputs brought to mean 0 and variance 1, scaled and shifted, and gated. -/
def gnz (o : Fin 512 → EReal) (g gam bet : EReal) (e : Fin 512) : EReal :=
  g * Ideal.logistic g
    * ((o e - mean o) * Ideal.rsqrt (mean (fun x => (o x - mean o) * (o x - mean o)) + Ideal.ofBits .f32 0x3727C5AC#32)
      * gam + bet)

end Cert.Proof.Ret

end
-- ==== Proof.RetTab.lean ====
/-
  The tables of retention as scalars: the logarithm of a head's decay, the decays of a chunk, the angles of the rotary
  turn. All are real numbers.
-/
module

public import proofs.«01_k».proof.Proof.RetForm

@[expose] public section

noncomputable section

open Idealize.ShloMosaic

namespace Cert.Proof.Ret

theorem lit_ten_thousand : Ideal.ofBits .f32 0x461C4000#32 = ((10000 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_sixteenth : Ideal.ofBits .f32 0x3D800000#32 = ((1 / 16 : ℝ) : EReal) := by
  simp [Ideal.ofBits, Ideal.ieee, -EReal.coe_mul]; norm_num
theorem lit_neg_five : Ideal.ofBits .f32 3231711232#32 = ((-5 : ℝ) : EReal) := by
  simp [Ideal.ofBits, Ideal.ieee, -EReal.coe_mul, -EReal.coe_neg]; norm_num
theorem lit_ln_two : ∃ r : ℝ, 0 < r ∧ Ideal.ofBits .f32 1060205080#32 = (r : EReal) := by
  refine ⟨11629080 / 16777216, by norm_num, ?_⟩
  simp [Ideal.ofBits, Ideal.ieee, -EReal.coe_mul]; norm_num

/-- A small natural number read from its 32-bit pattern. -/
theorem ofNat_real (n : ℕ) (h : n < 2147483648) :
    (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]
    omega
  rw [this]; norm_cast

/-- The logarithm of the decay of head `h`. -/
def lgE (h : Fin 4) : EReal :=
  Ideal.log1p (-Ideal.exp (Ideal.ofBits .f32 1060205080#32
    * (Ideal.ofBits .f32 3231711232#32 - (FloatOps.sitofp (F := Ideal) .f32 (BitVec.ofNat 32 (h : ℕ)) : EReal))))

theorem lgE_real (h : Fin 4) : ∃ r : ℝ, lgE h = r := by
  obtain ⟨l, hl, hL⟩ := lit_ln_two
  unfold lgE Ideal.log1p
  rw [hL, lit_neg_five, ofNat_real _ (by omega), ← EReal.coe_sub, ← EReal.coe_mul, Ideal.exp_coe, ← EReal.coe_neg,
    ← EReal.coe_one, ← EReal.coe_add, Ideal.log_coe, if_neg]
  · exact ⟨_, rfl⟩
  · rw [not_le]
    have h1 : Real.exp (l * (-5 - ((h : ℕ) : ℝ))) < 1 := by
      rw [Real.exp_lt_one_iff]
      have : (0 : ℝ) ≤ ((h : ℕ) : ℝ) := Nat.cast_nonneg _
      nlinarith
    linarith

/-- The logarithm of the decay of head `h`, as a real number. -/
def lgR (h : Fin 4) : ℝ := (lgE h).toReal
theorem lgE_eq (h : Fin 4) : lgE h = (lgR h : ℝ) := by
  obtain ⟨r, hr⟩ := lgE_real h
  rw [lgR, hr, EReal.toReal_coe]

/-- The angle of pair `d` at position `n`. -/
def ang (n : ℕ) (d : Fin 128) : EReal :=
  (FloatOps.sitofp (F := Ideal) .f32 (IntOp.addi (0#32) (BitVec.ofNat 32 n)) : EReal)
    * Ideal.pow (Ideal.ofBits .f32 1176256512#32)
        (Ideal.div (-(FloatOps.sitofp (F := Ideal) .f32 (BitVec.ofNat 32 (d : ℕ)) : EReal)) (Ideal.ofBits .f32 1124073472#32))

theorem ang_real (n : ℕ) (hn : n < 2147483648) (d : Fin 128) : ∃ r : ℝ, ang n d = r := by
  unfold ang
  rw [show IntOp.addi (0#32) (BitVec.ofNat 32 n) = BitVec.ofNat 32 n from BitVec.zero_add _, ofNat_real n hn,
    ofNat_real _ (by omega), lit_ten_thousand, lit_128, ← EReal.coe_neg]
  unfold Ideal.div
  rw [if_neg (by norm_num), ← EReal.coe_inv, ← EReal.coe_mul]
  exact ⟨_ * Real.rpow _ _, (EReal.coe_mul _ _).symm⟩

/-- The cosine and the sine of the angle. -/
def cosE (n : ℕ) (d : Fin 128) : EReal := Ideal.cos (ang n d)
def sinE (n : ℕ) (d : Fin 128) : EReal := Ideal.sin (ang n d)

theorem cosE_real (n : ℕ) (hn : n < 2147483648) (d : Fin 128) : ∃ r : ℝ, cosE n d = r := by
  obtain ⟨r, hr⟩ := ang_real n hn d
  exact ⟨Real.cos r, by rw [cosE, hr, Ideal.cos_coe]⟩
theorem sinE_real (n : ℕ) (hn : n < 2147483648) (d : Fin 128) : ∃ r : ℝ, sinE n d = r := by
  obtain ⟨r, hr⟩ := ang_real n hn d
  exact ⟨Real.sin r, by rw [sinE, hr, Ideal.sin_coe]⟩

/-- The decay between two positions of a chunk: 0 for a later key. -/
theorem mask_real (lg : ℝ) (i j : ℕ) (hi : i < 2147483648) (hj : j < 2147483648) (z : EReal) (hz : z = 0) :
    (if (0 : EReal) ≤ (FloatOps.sitofp (F := Ideal) .f32 (BitVec.ofNat 32 i) : EReal) - (FloatOps.sitofp (F := Ideal) .f32 (BitVec.ofNat 32 j) : EReal)
      then Ideal.exp (max ((FloatOps.sitofp (F := Ideal) .f32 (BitVec.ofNat 32 i) : EReal) - (FloatOps.sitofp (F := Ideal) .f32 (BitVec.ofNat 32 j) : EReal)) 0 * (lg : EReal))
      else z)
      = ((if j ≤ i then Real.exp (((i : ℕ) - (j : ℕ) : ℝ) * lg) else 0 : ℝ) : EReal) := by
  rw [ofNat_real i hi, ofNat_real j hj, ← EReal.coe_sub, hz]
  by_cases h : j ≤ i
  · have h0 : (0 : ℝ) ≤ (i : ℝ) - j := by have : (j : ℝ) ≤ i := by exact_mod_cast h
                                          linarith
    rw [if_pos (by exact_mod_cast h0), if_pos h, max_eq_left (by exact_mod_cast h0), ← EReal.coe_mul, Ideal.exp_coe]
  · have h0 : (i : ℝ) - j < 0 := by have : (i : ℝ) < j := by exact_mod_cast (by omega : i < j)
                                    linarith
    rw [if_neg (by rw [not_le]; exact_mod_cast h0), if_neg h, EReal.coe_zero]

end Cert.Proof.Ret

end
-- ==== Proof.RetBlocks.lean ====
/-
  The blocks the kernel's points read: the projection's blocks and the tables' blocks, at coordinates.
-/
module

public import proofs.«01_k».proof.Proof.RetTab
public import proofs.«01_k».proof.Proof.Gen.KernelIdeal.Value

@[expose] public section

set_option maxRecDepth 16384

noncomputable section

open Idealize.ShloMosaic Idealize.ShloMosaic.TcCoe Idealize.SL.Sem

namespace Cert.Proof.RetBlocks

open Cert.KernelIdeal Cert.KernelIdeal.Gen Cert.Proof.Ret

/-- The block every window reads at a point. -/
theorem idx : ∀ t : Fin cfg0.N,
    win0_0.index t = ![t.val / 64 * 16 + t.val % 16, t.val / 16 % 4]
    ∧ win0_1.index t = ![t.val / 64 * 16 + t.val % 16, 4 + t.val / 16 % 4]
    ∧ win0_2.index t = ![t.val / 64 * 16 + t.val % 16, 4 + t.val / 16 % 4]
    ∧ win0_3.index t = ![t.val / 64 * 16 + t.val % 16, 8 + t.val / 16 % 4]
    ∧ win0_4.index t = ![t.val % 16, 0]
    ∧ win0_5.index t = ![t.val % 16, 0]
    ∧ win0_6.index t = ![t.val / 16 % 4, 0, 0]
    ∧ win0_7.index t = ![t.val / 16 % 4, 0, 0]
    ∧ win0_8.index t = ![t.val / 16 % 4, 0, 0]
    ∧ win0_9.index t = ![t.val / 16 % 4, 0, 0]
    ∧ win0_10.index t = ![0, t.val / 16 % 4]
    ∧ win0_11.index t = ![0, t.val / 16 % 4]
    ∧ win0_12.index t = ![t.val / 64 * 16 + t.val % 16, t.val / 16 % 4]
    ∧ win0_13.index t = ![t.val / 64, t.val / 16 % 4, 0, 0] :=
  (by decide +kernel : ∀ t : Fin grid0.N, _)

variable (m : (ℓ : Loc nD τ sig) → Buf (Elt Ideal) ℓ) (c : Dev nD)

/-- The angle without the addition of 0. -/
theorem ang_eq (n : ℕ) (d : Fin 128) : ang n d = (FloatOps.sitofp (F := Ideal) .f32 (BitVec.ofNat 32 n) : EReal)
    * Ideal.pow (Ideal.ofBits .f32 1176256512#32)
        (Ideal.div (-(FloatOps.sitofp (F := Ideal) .f32 (BitVec.ofNat 32 (d : ℕ)) : EReal)) (Ideal.ofBits .f32 1124073472#32)) := by
  unfold ang
  rw [show IntOp.addi (0#32) (BitVec.ofNat 32 n) = BitVec.ofNat 32 n from BitVec.zero_add _]

theorem cos_tab (n : Fin 4096) (d : Fin 128) : (V m c main_v13 : FVec Ideal S4096x128 .f32) (ix2 n d) = cosE n d := by
  rw [cosE, ang_eq]
  simp only [V, hostOps0, hostOps0_1, hostOps0_2, List.flatten_cons, List.flatten_nil, List.append_nil, List.cons_append, List.nil_append]
  after_results_simp
  pointwise
  try rfl

theorem sin_tab (n : Fin 4096) (d : Fin 128) : (V m c main_v14 : FVec Ideal S4096x128 .f32) (ix2 n d) = sinE n d := by
  rw [sinE, ang_eq]
  simp only [V, hostOps0, hostOps0_1, hostOps0_2, List.flatten_cons, List.flatten_nil, List.append_nil, List.cons_append, List.nil_append]
  after_results_simp
  pointwise
  try rfl

theorem dm_tab (h : Fin 4) (i j : Fin 256) : (V m c main_v39 : FVec Ideal S4x256x256 .f32) (ix3 h i j)
    = ((if (j : ℕ) ≤ i then Real.exp (((i : ℕ) - (j : ℕ) : ℝ) * lgR h) else 0 : ℝ) : EReal) := by
  rw [← mask_real (lgR h) i j (by omega) (by omega) 0 rfl, ← lgE_eq h]
  simp only [V, hostOps0, hostOps0_1, hostOps0_2, List.flatten_cons, List.flatten_nil, List.append_nil, List.cons_append, List.nil_append]
  after_results_simp
  simp only [StableHlo.TRef.toBuf, StableHlo.TRef.ofBuf, cast_eq]
  pointwise
  rfl

theorem cr_tab (h : Fin 4) (i : Fin 256) : (V m c main_v48 : FVec Ideal S4x256x1 .f32) (ix3 h i 0) = ((Real.exp (((i : ℕ) + 1 : ℝ) * lgR h) : ℝ) : EReal) := by
  have e : (V m c main_v48 : FVec Ideal S4x256x1 .f32) (ix3 h i 0) = Ideal.exp ((FloatOps.sitofp (F := Ideal) .f32 (BitVec.ofNat 32 (i : ℕ)) + 1 : EReal) * lgE h) := by
    simp only [V, hostOps0, hostOps0_1, hostOps0_2, List.flatten_cons, List.flatten_nil, List.append_nil, List.cons_append, List.nil_append]
    after_results_simp
    pointwise
    try rfl
  rw [e, lgE_eq, ofNat_real _ (by omega), ← EReal.coe_one, ← EReal.coe_add, ← EReal.coe_mul, Ideal.exp_coe]

theorem kd_tab (h : Fin 4) (i : Fin 256) : (V m c main_v58 : FVec Ideal S4x256x1 .f32) (ix3 h i 0) = ((Real.exp (((256 : ℕ) - 1 - (i : ℕ) : ℝ) * lgR h) : ℝ) : EReal) := by
  have e : (V m c main_v58 : FVec Ideal S4x256x1 .f32) (ix3 h i 0) = Ideal.exp (((Ideal.ofBits .f32 0x43800000#32 - 1) - FloatOps.sitofp (F := Ideal) .f32 (BitVec.ofNat 32 (i : ℕ)) : EReal) * lgE h) := by
    simp only [V, hostOps0, hostOps0_1, hostOps0_2, List.flatten_cons, List.flatten_nil, List.append_nil, List.cons_append, List.nil_append]
    after_results_simp
    pointwise
    try rfl
  rw [e, lgE_eq, ofNat_real _ (by omega), lit_256, ← EReal.coe_one, ← EReal.coe_sub, ← EReal.coe_sub, ← EReal.coe_mul, Ideal.exp_coe]
  norm_num

theorem cd_tab (h : Fin 4) : (V m c main_v62 : FVec Ideal S4x1x1 .f32) (ix3 h 0 0) = ((Real.exp (((256 : ℕ) : ℝ) * lgR h) : ℝ) : EReal) := by
  have e : (V m c main_v62 : FVec Ideal S4x1x1 .f32) (ix3 h 0 0) = Ideal.exp (Ideal.ofBits .f32 0x43800000#32 * lgE h) := by
    simp only [V, hostOps0, hostOps0_1, hostOps0_2, List.flatten_cons, List.flatten_nil, List.append_nil, List.cons_append, List.nil_append]
    after_results_simp
    pointwise
    try rfl
  rw [e, lgE_eq, lit_256, ← EReal.coe_mul, Ideal.exp_coe]
  norm_num

theorem gg_tab (n : Fin 2048) : (V m c main_v63 : FVec Ideal S1x2048 .f32) (ix2 0 n) = (m ((c : Thread nD τ).loc main_arg1) : FVec Ideal S2048 .f32) (ix1 n) := by
    simp only [V, hostOps0, hostOps0_1, hostOps0_2, List.flatten_cons, List.flatten_nil, List.append_nil, List.cons_append, List.nil_append]
    after_results_simp
    pointwise
    try rfl

theorem bb_tab (n : Fin 2048) : (V m c main_v64 : FVec Ideal S1x2048 .f32) (ix2 0 n) = (m ((c : Thread nD τ).loc main_arg2) : FVec Ideal S2048 .f32) (ix1 n) := by
    simp only [V, hostOps0, hostOps0_1, hostOps0_2, List.flatten_cons, List.flatten_nil, List.append_nil, List.cons_append, List.nil_append]
    after_results_simp
    pointwise
    try rfl

/-- The batch row, the head and the position of row `i` at point `t`. -/
def tb (t : Fin cfg0.N) : Fin 4 := ⟨t.val / 64, by have : t.val < 256 := lt_of_lt_of_eq t.isLt N_0; omega⟩
def th (t : Fin cfg0.N) : Fin 4 := ⟨t.val / 16 % 4, by omega⟩
def tn (t : Fin cfg0.N) (i : Fin 256) : Fin 4096 := ⟨256 * (t.val % 16) + i, by omega⟩
/-- Row `b * 4096 + n` of the projection. -/
def row (b : Fin 4) (n : Fin 4096) : Fin 16384 := ⟨(b : ℕ) * 4096 + n, by omega⟩

theorem q_blk (t : Fin cfg0.N) (i d : Fin 256) : (iblk m c 0 t : FVec Ideal S256x256 .f32) (ix2 i d)
    = (m ((c : Thread nD τ).loc main_arg0) : FVec Ideal S16384x6144 .f32) (ix2 (row (tb t) (tn t i)) ⟨(th t : ℕ) * 256 + d, by omega⟩) := by
  blk_point [iblk, V_main_arg0, idx t, row, tb, th, tn]

theorem k_blk (t : Fin cfg0.N) (i d : Fin 256) : (iblk m c 1 t : FVec Ideal S256x256 .f32) (ix2 i d)
    = (m ((c : Thread nD τ).loc main_arg0) : FVec Ideal S16384x6144 .f32) (ix2 (row (tb t) (tn t i)) ⟨1024 + ((th t : ℕ) * 256 + d), by omega⟩) := by
  blk_point [iblk, V_main_arg0, idx t, row, tb, th, tn]

theorem v_blk (t : Fin cfg0.N) (i : Fin 256) (e : Fin 512) : (iblk m c 2 t : FVec Ideal S256x512 .f32) (ix2 i e)
    = (m ((c : Thread nD τ).loc main_arg0) : FVec Ideal S16384x6144 .f32) (ix2 (row (tb t) (tn t i)) ⟨2048 + ((th t : ℕ) * 512 + e), by omega⟩) := by
  blk_point [iblk, V_main_arg0, idx t, row, tb, th, tn]

theorem g_blk (t : Fin cfg0.N) (i : Fin 256) (e : Fin 512) : (iblk m c 3 t : FVec Ideal S256x512 .f32) (ix2 i e)
    = (m ((c : Thread nD τ).loc main_arg0) : FVec Ideal S16384x6144 .f32) (ix2 (row (tb t) (tn t i)) ⟨4096 + ((th t : ℕ) * 512 + e), by omega⟩) := by
  blk_point [iblk, V_main_arg0, idx t, row, tb, th, tn]

theorem cos_blk (t : Fin cfg0.N) (i : Fin 256) (d : Fin 128) : (iblk m c 4 t : FVec Ideal S256x128 .f32) (ix2 i d) = cosE (tn t i) d := by
  rw [← cos_tab m c]
  blk_simp [iblk]
  blk_ext [idx t, tn]

theorem sin_blk (t : Fin cfg0.N) (i : Fin 256) (d : Fin 128) : (iblk m c 5 t : FVec Ideal S256x128 .f32) (ix2 i d) = sinE (tn t i) d := by
  rw [← sin_tab m c]
  blk_simp [iblk]
  blk_ext [idx t, tn]

theorem dm_blk (t : Fin cfg0.N) (i j : Fin 256) : (iblk m c 6 t : FVec Ideal S1x256x256 .f32) (ix3 0 i j)
    = ((if (j : ℕ) ≤ i then Real.exp (((i : ℕ) - (j : ℕ) : ℝ) * lgR (th t)) else 0 : ℝ) : EReal) := by
  rw [← dm_tab m c]
  blk_simp [iblk]
  blk_ext [idx t, th]

theorem cr_blk (t : Fin cfg0.N) (i : Fin 256) : (iblk m c 7 t : FVec Ideal S1x256x1 .f32) (ix3 0 i 0)
    = ((Real.exp (((i : ℕ) + 1 : ℝ) * lgR (th t)) : ℝ) : EReal) := by
  rw [← cr_tab m c]
  blk_simp [iblk]
  blk_ext [idx t, th]

theorem kd_blk (t : Fin cfg0.N) (i : Fin 256) : (iblk m c 8 t : FVec Ideal S1x256x1 .f32) (ix3 0 i 0)
    = ((Real.exp (((256 : ℕ) - 1 - (i : ℕ) : ℝ) * lgR (th t)) : ℝ) : EReal) := by
  rw [← kd_tab m c]
  blk_simp [iblk]
  blk_ext [idx t, th]

theorem cd_blk (t : Fin cfg0.N) : (iblk m c 9 t : FVec Ideal S1x1x1 .f32) (ix3 0 0 0)
    = ((Real.exp (((256 : ℕ) : ℝ) * lgR (th t)) : ℝ) : EReal) := by
  rw [← cd_tab m c]
  blk_simp [iblk]
  blk_ext [idx t, th]

theorem gg_blk (t : Fin cfg0.N) (e : Fin 512) : (iblk m c 10 t : FVec Ideal S1x512 .f32) (ix2 0 e)
    = (m ((c : Thread nD τ).loc main_arg1) : FVec Ideal S2048 .f32) (ix1 ⟨(th t : ℕ) * 512 + e, by omega⟩) := by
  rw [← gg_tab m c]
  blk_simp [iblk]
  blk_ext [idx t, th]

theorem bb_blk (t : Fin cfg0.N) (e : Fin 512) : (iblk m c 11 t : FVec Ideal S1x512 .f32) (ix2 0 e)
    = (m ((c : Thread nD τ).loc main_arg2) : FVec Ideal S2048 .f32) (ix1 ⟨(th t : ℕ) * 512 + e, by omega⟩) := by
  rw [← bb_tab m c]
  blk_simp [iblk]
  blk_ext [idx t, th]

end Cert.Proof.RetBlocks

end
-- ==== Proof.RetRef.lean ====
/-
  The reference's tables and operands read at an index.
-/
module

public import proofs.«01_k».proof.Proof.RetTab
public import proofs.«01_k».proof.Proof.Gen.ReferenceIdeal.Step

@[expose] public section

set_option maxRecDepth 16384

noncomputable section

open Idealize.ShloMosaic Idealize.ShloMosaic.TcCoe Idealize.SL.Sem

namespace Cert.Proof.RetRef

open Cert.ReferenceIdeal Cert.ReferenceIdeal.Gen Cert.ReferenceIdeal.Step Cert.Proof.Ret

theorem cos_at (n : Fin 4096) (d : Fin 128) : K_main_v25 (F := Ideal) (ix2 n d) = cosE n d := by
  pointwise [K_main_v25, K_main_v24, K_main_v22, K_main_v23, K_main_v20, K_main_v21, K_main_v19, K_main_v18, K_main_v12, K_main_v11,K_main_c, K_main_v10, K_main_v17, K_main_cst_2, K_main_v16, K_main_v15, K_main_v14, K_main_v13, K_main_cst_1]
  rfl

theorem sin_at (n : Fin 4096) (d : Fin 128) : K_main_v27 (F := Ideal) (ix2 n d) = sinE n d := by
  pointwise [K_main_v27, K_main_v24, K_main_v22, K_main_v23, K_main_v20, K_main_v21, K_main_v19, K_main_v18, K_main_v12, K_main_v11,K_main_c, K_main_v10, K_main_v17, K_main_cst_2, K_main_v16, K_main_v15, K_main_v14, K_main_v13, K_main_cst_1]
  rfl

theorem cos'_at (n : Fin 4096) (d : Fin 128) : K_main_v58 (F := Ideal) (ix2 n d) = cosE n d := by
  pointwise [K_main_v58, K_main_v57, K_main_v56, K_main_v55, K_main_v54, K_main_v53, K_main_v52, K_main_v51, K_main_v12, K_main_v11,K_main_c, K_main_v10, K_main_v50, K_main_cst_4, K_main_v49, K_main_v48, K_main_v47, K_main_v46, K_main_cst_3]
  rfl

theorem sin'_at (n : Fin 4096) (d : Fin 128) : K_main_v60 (F := Ideal) (ix2 n d) = sinE n d := by
  pointwise [K_main_v60, K_main_v57, K_main_v56, K_main_v55, K_main_v54, K_main_v53, K_main_v52, K_main_v51, K_main_v12, K_main_v11,K_main_c, K_main_v10, K_main_v50, K_main_cst_4, K_main_v49, K_main_v48, K_main_v47, K_main_v46, K_main_cst_3]
  rfl

theorem lg_at (h : Fin 4) : K_main_v86 (F := Ideal) (ix1 h) = (lgR h : ℝ) := by
  rw [← lgE_eq]
  pointwise [K_main_v86, K_main_v85, K_main_v84, K_main_v83, K_main_v82, K_main_v81, K_main_v80, K_main_v79, K_main_cst_5, K_main_cst_6]
  rfl

theorem dm_at (h : Fin 4) (i j : Fin 128) : K_main_v103 (F := Ideal) (ix3 h i j)
    = ((if (j : ℕ) ≤ i then Real.exp (((i : ℕ) - (j : ℕ) : ℝ) * lgR h) else 0 : ℝ) : EReal) := by
  rw [← mask_real (lgR h) i j (by omega) (by omega) 0 rfl, ← lg_at h]
  pointwise [K_main_v103, K_main_call0_v1, K_main_call0_v2, K_main_call0_v0, K_main_cst_9, K_main_v102, K_main_v101, K_main_v100, K_main_v99, K_main_v98, K_main_v97, K_main_v96, K_main_v95, K_main_v94, K_main_v93, K_main_v92, K_main_v91, K_main_v90, K_main_v89, K_main_v88, K_main_v87, K_main_cst_7, K_main_cst_8]
  refine if_congr Iff.rfl rfl ?_
  exact Ideal.ofBits_zero_f32

theorem cr_at (h : Fin 4) (i : Fin 128) : K_main_v112 (F := Ideal) (ix3 h i 0) = (Real.exp (((i : ℕ) + 1 : ℝ) * lgR h) : ℝ) := by
  have e : K_main_v112 (F := Ideal) (ix3 h i 0) = Ideal.exp ((FloatOps.sitofp (F := Ideal) .f32 (BitVec.ofNat 32 (i : ℕ)) + 1 : EReal) * K_main_v86 (F := Ideal) (ix1 h)) := by
    pointwise [K_main_v112, K_main_v111, K_main_v110, K_main_v109, K_main_v108, K_main_v107, K_main_v106, K_main_v105, K_main_v104, K_main_cst_10, K_main_v87]
  rw [e, lg_at, ofNat_real _ (by omega), ← EReal.coe_one, ← EReal.coe_add, ← EReal.coe_mul, Ideal.exp_coe]

theorem kd_at (h : Fin 4) (i : Fin 128) : K_main_v121 (F := Ideal) (ix3 h i 0) = (Real.exp (((128 : ℕ) - 1 - (i : ℕ) : ℝ) * lgR h) : ℝ) := by
  have e : K_main_v121 (F := Ideal) (ix3 h i 0) = Ideal.exp ((Ideal.ofBits .f32 1123942400#32 - FloatOps.sitofp (F := Ideal) .f32 (BitVec.ofNat 32 (i : ℕ)) : EReal) * K_main_v86 (F := Ideal) (ix1 h)) := by
    pointwise [K_main_v121, K_main_v120, K_main_v119, K_main_v118, K_main_v117, K_main_v116, K_main_v115, K_main_v114, K_main_v113, K_main_cst_11, K_main_v87]
  rw [e, lg_at, ofNat_real _ (by omega), lit_127, ← EReal.coe_sub, ← EReal.coe_mul, Ideal.exp_coe]
  norm_num

theorem cd_at (h : Fin 4) : K_main_v125 (F := Ideal) (ix3 h 0 0) = (Real.exp (((128 : ℕ) : ℝ) * lgR h) : ℝ) := by
  have e : K_main_v125 (F := Ideal) (ix3 h 0 0) = Ideal.exp (Ideal.ofBits .f32 1124073472#32 * K_main_v86 (F := Ideal) (ix1 h)) := by
    pointwise [K_main_v125, K_main_v124, K_main_v123, K_main_v122, K_main_cst_12]
  rw [e, lg_at, lit_128, ← EReal.coe_mul, Ideal.exp_coe]
  norm_num

variable (x : (⟨S16384x6144, .f32⟩ : BufTy).Contents (Elt Ideal))

/-- Row `b * 4096 + n` of the projection. -/
def row (b : Fin 4) (n : Fin 4096) : Fin 16384 := ⟨(b : ℕ) * 4096 + n, by omega⟩
/-- The query entries of head `h`, turned. -/
def qE (b h : Fin 4) (n : Fin 4096) (d : Fin 256) : EReal :=
  rope (fun d => x (ix2 (row b n) ⟨(h : ℕ) * 256 + d, by omega⟩)) (cosE n) (sinE n) d
/-- The key entries of head `h`, scaled and turned. -/
def kE (b h : Fin 4) (n : Fin 4096) (d : Fin 256) : EReal :=
  rope (fun d => x (ix2 (row b n) ⟨1024 + ((h : ℕ) * 256 + d), by omega⟩) * Ideal.ofBits .f32 0x3D800000#32) (cosE n) (sinE n) d
/-- The value entries of head `h`. -/
def vE (b h : Fin 4) (n : Fin 4096) (e : Fin 512) : EReal := x (ix2 (row b n) ⟨2048 + ((h : ℕ) * 512 + e), by omega⟩)

theorem q_raw (b h : Fin 4) (n : Fin 4096) (d : Fin 256) : A_main_v3 x (ix4 b n h d) = x (ix2 (row b n) ⟨(h : ℕ) * 256 + d, by omega⟩) := by
  pointwise [A_main_v3, A_main_v2, A_main_v1]
  blk_point [row]

theorem k_raw (b h : Fin 4) (n : Fin 4096) (d : Fin 256) : A_main_v7 x (ix4 b n h d)
    = x (ix2 (row b n) ⟨1024 + ((h : ℕ) * 256 + d), by omega⟩) * Ideal.ofBits .f32 0x3D800000#32 := by
  pointwise [A_main_v7, A_main_v5, A_main_v4, A_main_v1, K_main_v6, K_main_cst_0]
  blk_point [row]

theorem v_raw (b h : Fin 4) (n : Fin 4096) (e : Fin 512) : A_main_v9 x (ix4 b n h e) = vE x b h n e := by
  pointwise [A_main_v9, A_main_v8, A_main_v1]
  blk_point [vE, row]

theorem q_at (b h : Fin 4) (n : Fin 4096) (d : Fin 256) : A_main_v45 x (ix4 b n h d) = qE x b h n d := by
  unfold qE
  simp only [← q_raw, ← cos_at, ← sin_at]
  pointwise [A_main_v45, rope]
  pointwise [A_main_v44, A_main_v43, A_main_v40, A_main_v37, A_main_v36, A_main_v33, A_main_v30, A_main_v29, K_main_v42, K_main_v39, K_main_v35, K_main_v32, K_main_v41, K_main_v38, K_main_v34, K_main_v31, K_main_v28, K_main_v26]
  simp only [cos_at, sin_at, q_raw]
  split
  · rfl
  · rename_i hd
    have hh : 128 + ((d : ℕ) - 128) = d := by omega
    simp only [hh]

theorem k_at (b h : Fin 4) (n : Fin 4096) (d : Fin 256) : A_main_v78 x (ix4 b n h d) = kE x b h n d := by
  unfold kE
  simp only [← k_raw, ← cos'_at, ← sin'_at]
  pointwise [A_main_v78, rope]
  pointwise [A_main_v77, A_main_v76, A_main_v73, A_main_v70, A_main_v69, A_main_v66, A_main_v63, A_main_v62, K_main_v75, K_main_v72, K_main_v68, K_main_v65, K_main_v74, K_main_v71, K_main_v67, K_main_v64, K_main_v61, K_main_v59]
  simp only [cos'_at, sin'_at, k_raw]
  split
  · rfl
  · rename_i hd
    have hh : 128 + ((d : ℕ) - 128) = d := by omega
    simp only [hh]

/-- Position `i` of chunk `c`. -/
def pos (c : Fin 32) (i : Fin 128) : Fin 4096 := ⟨(c : ℕ) * 128 + i, by omega⟩

/-- An array of width 256 cut into chunks: chunk first, head before position. -/
theorem cut_qk (y : (⟨S4x4096x4x256, .f32⟩ : BufTy).Contents (Elt Ideal)) (c : Fin 32) (b h : Fin 4) (i : Fin 128) (d : Fin 256) :
    transpose S32x4x4x128x256 [1, 0, 3, 2, 4] (shapeCast S4x32x128x4x256 y shapeCasts_S4x4096x4x256_S4x32x128x4x256) transposes_S4x32x128x4x256_S32x4x4x128x256_1_0_3_2_4 (ix5 c b h i d)
      = y (ix4 b (pos c i) h d) := by
  unfold pos
  pointwise []

/-- An array of width 512 cut into chunks. -/
theorem cut_v (y : (⟨S4x4096x4x512, .f32⟩ : BufTy).Contents (Elt Ideal)) (c : Fin 32) (b h : Fin 4) (i : Fin 128) (d : Fin 512) :
    transpose S32x4x4x128x512 [1, 0, 3, 2, 4] (shapeCast S4x32x128x4x512 y shapeCasts_S4x4096x4x512_S4x32x128x4x512) transposes_S4x32x128x4x512_S32x4x4x128x512_1_0_3_2_4 (ix5 c b h i d)
      = y (ix4 b (pos c i) h d) := by
  unfold pos
  pointwise []

theorem q_chunk (c : Fin 32) (b h : Fin 4) (i : Fin 128) (d : Fin 256) : A_main_v127 x (ix5 c b h i d) = qE x b h (pos c i) d :=
  (cut_qk (A_main_v45 x) c b h i d).trans (q_at x b h (pos c i) d)

theorem k_chunk (c : Fin 32) (b h : Fin 4) (i : Fin 128) (d : Fin 256) : A_main_v129 x (ix5 c b h i d) = kE x b h (pos c i) d :=
  (cut_qk (A_main_v78 x) c b h i d).trans (k_at x b h (pos c i) d)

theorem v_chunk (c : Fin 32) (b h : Fin 4) (i : Fin 128) (e : Fin 512) : A_main_v131 x (ix5 c b h i e) = vE x b h (pos c i) e :=
  (cut_v (A_main_v9 x) c b h i e).trans (v_raw x b h (pos c i) e)

/-! The same as real numbers, for a projection whose entries are all real. -/

def qR (b h : Fin 4) (n : ℕ) (d : Fin 256) : ℝ := if hn : n < 4096 then (qE x b h ⟨n, hn⟩ d).toReal else 0
def kR (b h : Fin 4) (n : ℕ) (d : Fin 256) : ℝ := if hn : n < 4096 then (kE x b h ⟨n, hn⟩ d).toReal else 0
def vR (b h : Fin 4) (n : ℕ) (e : Fin 512) : ℝ := if hn : n < 4096 then (vE x b h ⟨n, hn⟩ e).toReal else 0

variable {x} (hx : ∀ i, ∃ r : ℝ, x i = r)
include hx

theorem qE_eq (b h : Fin 4) (n : Fin 4096) (d : Fin 256) : qE x b h n d = (qR x b h n d : ℝ) := by
  obtain ⟨r, hr⟩ := rope_coe (fun d => x (ix2 (row b n) ⟨(h : ℕ) * 256 + d, by omega⟩)) (cosE n) (sinE n) (fun _ => hx _)
    (fun d => cosE_real n (by omega) d) (fun d => sinE_real n (by omega) d) d
  unfold qR
  rw [dif_pos n.isLt, show qE x b h n d = r from hr, EReal.toReal_coe]

theorem kE_eq (b h : Fin 4) (n : Fin 4096) (d : Fin 256) : kE x b h n d = (kR x b h n d : ℝ) := by
  obtain ⟨r, hr⟩ := rope_coe (fun d => x (ix2 (row b n) ⟨1024 + ((h : ℕ) * 256 + d), by omega⟩) * Ideal.ofBits .f32 0x3D800000#32) (cosE n) (sinE n)
    (fun d => by
      obtain ⟨a, ha⟩ := hx (ix2 (row b n) ⟨1024 + ((h : ℕ) * 256 + d), by omega⟩)
      exact ⟨a * (1 / 16), by rw [ha, lit_sixteenth, EReal.coe_mul]⟩)
    (fun d => cosE_real n (by omega) d) (fun d => sinE_real n (by omega) d) d
  unfold kR
  rw [dif_pos n.isLt, show kE x b h n d = r from hr, EReal.toReal_coe]

theorem vE_eq (b h : Fin 4) (n : Fin 4096) (e : Fin 512) : vE x b h n e = (vR x b h n e : ℝ) := by
  obtain ⟨r, hr⟩ := hx (ix2 (row b n) ⟨2048 + ((h : ℕ) * 512 + e), by omega⟩)
  unfold vR
  rw [dif_pos n.isLt, show vE x b h n e = r from hr, EReal.toReal_coe]

end Cert.Proof.RetRef

end
-- ==== Proof.RetStep.lean ====
/-
  One chunk of the reference read at an index: its slices of the queries, keys and values, the outputs it writes, the
  state it leaves.
-/
module

public import proofs.«01_k».proof.Proof.RetForm
public import proofs.«01_k».proof.Proof.Gen.ReferenceIdeal.Step
public import Idealize.ShloMosaic.Lib.WordCmp

@[expose] public section

set_option maxRecDepth 16384

noncomputable section

open Idealize.ShloMosaic Idealize.ShloMosaic.TcCoe Idealize.SL.Sem

namespace Cert.Proof.RetStep

open Cert.ReferenceIdeal Cert.ReferenceIdeal.Gen Cert.ReferenceIdeal.Step Cert.Proof.Ret

variable (j : Fin 32) (s : State Ideal)

theorem start_eq (j : ℕ) (hj : j < 32) (a : Fin 5) :
    (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) a (Shape.Idx.first h_S_)).toInt
      = ((![j, 0, 0, 0, 0] : Fin 5 → ℕ) a : Int) := by
  match a with
  | ⟨0, _⟩ => exact WordCmp.toInt_ofNat_of_lt (by omega)
  | ⟨1, _⟩ => rfl
  | ⟨2, _⟩ => rfl
  | ⟨3, _⟩ => rfl
  | ⟨4, _⟩ => rfl

theorem fits_qk (j : ℕ) (hj : j < 32) : S32x4x4x128x256.Slices ![j, 0, 0, 0, 0] S1x4x4x128x256 := by
  refine ⟨rfl, fun a => ?_⟩
  match a with
  | ⟨0, _⟩ => show j + 1 ≤ 32; omega
  | ⟨1, _⟩ => exact le_refl 4
  | ⟨2, _⟩ => exact le_refl 4
  | ⟨3, _⟩ => exact le_refl 128
  | ⟨4, _⟩ => exact le_refl 256

theorem fits_v (j : ℕ) (hj : j < 32) : S32x4x4x128x512.Slices ![j, 0, 0, 0, 0] S1x4x4x128x512 := by
  refine ⟨rfl, fun a => ?_⟩
  match a with
  | ⟨0, _⟩ => show j + 1 ≤ 32; omega
  | ⟨1, _⟩ => exact le_refl 4
  | ⟨2, _⟩ => exact le_refl 4
  | ⟨3, _⟩ => exact le_refl 128
  | ⟨4, _⟩ => exact le_refl 512

theorem q_slice (b h : Fin 4) (i : Fin 128) (d : Fin 256) : b5 j s (ix4 b h i d) = s.main_v133_0 (ix5 j b h i d) := by
  have e : b4 (j : ℕ) s = extractStridedSlice S1x4x4x128x256 ![(j : ℕ), 0, 0, 0, 0] s.main_v133_0 (fits_qk j j.isLt) :=
    WordCmp.dynamicSlice_eq_extract _ _ _ _ _ _ (start_eq j j.isLt)
  unfold b5
  rw [e]
  pointwise []

theorem k_slice (b h : Fin 4) (i : Fin 128) (d : Fin 256) : b11 j s (ix4 b h i d) = s.main_v133_1 (ix5 j b h i d) := by
  have e : b10 (j : ℕ) s = extractStridedSlice S1x4x4x128x256 ![(j : ℕ), 0, 0, 0, 0] s.main_v133_1 (fits_qk j j.isLt) :=
    WordCmp.dynamicSlice_eq_extract _ _ _ _ _ _ (start_eq j j.isLt)
  unfold b11
  rw [e]
  pointwise []

theorem v_slice (b h : Fin 4) (i : Fin 128) (e : Fin 512) : b17 j s (ix4 b h i e) = s.main_v133_2 (ix5 j b h i e) := by
  have e' : b16 (j : ℕ) s = extractStridedSlice S1x4x4x128x512 ![(j : ℕ), 0, 0, 0, 0] s.main_v133_2 (fits_v j j.isLt) :=
    WordCmp.dynamicSlice_eq_extract _ _ _ _ _ _ (start_eq j j.isLt)
  unfold b17
  rw [e']
  pointwise []

/-- The outputs of the chunk. -/
theorem out_at (b h : Fin 4) (i : Fin 128) (e : Fin 512) : b27 j s (ix4 b h i e)
    = (∑ m : Fin 128, ((∑ d : Fin 256, b5 j s (ix4 b h i d) * b11 j s (ix4 b h m d)) * K_main_v103 (F := Ideal) (ix3 h i m)) * b17 j s (ix4 b h m e))
      + (∑ d : Fin 256, b5 j s (ix4 b h i d) * s.main_v133_8 (ix4 b h d e)) * K_main_v112 (F := Ideal) (ix3 h i 0) := by
  pointwise [b27, b26, b25, b24, b23, b22, b21, b20, b19, b18]

/-- The state after the chunk. -/
theorem state_at (b h : Fin 4) (d : Fin 256) (e : Fin 512) : b35 j s (ix4 b h d e)
    = K_main_v125 (F := Ideal) (ix3 h 0 0) * s.main_v133_8 (ix4 b h d e)
      + ∑ m : Fin 128, (b11 j s (ix4 b h m d) * K_main_v121 (F := Ideal) (ix3 h m 0)) * b17 j s (ix4 b h m e) := by
  pointwise [b35, b34, b33, b32, b31, b30, b29, b28]

/-- The outputs written so far: the chunk's own, the others as they were. -/
theorem write_at (c : Fin 32) (b h : Fin 4) (i : Fin 128) (e : Fin 512) : b41 j s (ix5 c b h i e)
    = if (c : ℕ) = j then b27 j s (ix4 b h i e) else s.main_v133_9 (ix5 c b h i e) := by
  have e' : b41 (j : ℕ) s = updateSlice s.main_v133_9 (b36 j s) ![(j : ℕ), 0, 0, 0, 0] (fits_v j j.isLt) :=
    WordCmp.dynamicUpdateSlice_eq_update _ _ _ _ _ _ (start_eq j j.isLt)
  rw [e']
  pointwise [b36]
  by_cases h1 : (c : ℕ) = j
  · rw [dif_pos ⟨by omega, by omega⟩, if_pos h1]
  · rw [dif_neg (by omega), if_neg h1]

end Cert.Proof.RetStep

end
-- ==== Proof.RetFin.lean ====
/-
  What the reference makes of the outputs after its loop: norm over a head, scale, shift and gate.
-/
module

public import proofs.«01_k».proof.Proof.RetForm
public import proofs.«01_k».proof.Proof.Gen.ReferenceIdeal.Step

@[expose] public section

set_option maxRecDepth 16384

noncomputable section

open Idealize.ShloMosaic Idealize.ShloMosaic.TcCoe Idealize.SL.Sem

namespace Cert.Proof.RetFin

open Cert.ReferenceIdeal Cert.ReferenceIdeal.Gen Cert.ReferenceIdeal.Step Cert.Proof.Ret

variable (s : State Ideal) (x : (⟨S16384x6144, .f32⟩ : BufTy).Contents (Elt Ideal)) (g b : (⟨S2048, .f32⟩ : BufTy).Contents (Elt Ideal))

theorem z_at (B H : Fin 4) (n : Fin 4096) (e : Fin 512) :
    R_main_v166 s x g b (ix2 ⟨(B : ℕ) * 4096 + n, by omega⟩ ⟨(H : ℕ) * 512 + e, by omega⟩)
      = gnz (fun e => s.main_v133_9 (ix5 ⟨(n : ℕ) / 128, by omega⟩ B H ⟨(n : ℕ) % 128, by omega⟩ e))
          (x (ix2 ⟨(B : ℕ) * 4096 + n, by omega⟩ ⟨4096 + ((H : ℕ) * 512 + e), by omega⟩))
          (g (ix1 ⟨(H : ℕ) * 512 + e, by omega⟩)) (b (ix1 ⟨(H : ℕ) * 512 + e, by omega⟩)) e := by
  pointwise [R_main_v166]
  rfl

end Cert.Proof.RetFin

end
-- ==== Proof.RetRun.lean ====
module

public import proofs.«01_k».proof.Proof.Gen.ReferenceIdeal.Run
public import proofs.«01_k».proof.Proof.Gen.ReferenceIdeal.Step

/-! The reference's run as a sequence of states: chunk after chunk, the carried state and the outputs written so far. -/

@[expose] public section

set_option maxRecDepth 16384

noncomputable section

namespace Cert.Proof.RetRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The states the loop goes through: state number `j` is the one before chunk `j`. -/
def chunks (x : (⟨S16384x6144, .f32⟩ : BufTy).Contents (Elt F)) : ℕ → State F
  | 0 => init x
  | j + 1 => step j (chunks x j)

/-- A device's buffers carry state `s` before chunk `j`: the five arrays of the state, the four tables, the counter. -/
def Carries (V : Valuation τ sig (Elt F)) (s : State F) (j : ℕ) : Prop :=
  (V (Proc.devRef .tc main_v133_8) = s.main_v133_8 ∧ V (Proc.devRef .tc main_v133_9) = s.main_v133_9)
  ∧ (V (Proc.devRef .tc main_v133_0) = s.main_v133_0 ∧ V (Proc.devRef .tc main_v133_1) = s.main_v133_1
    ∧ V (Proc.devRef .tc main_v133_2) = s.main_v133_2)
  ∧ (V (Proc.devRef .tc main_v133_3) = K_main_v103 (F := F) ∧ V (Proc.devRef .tc main_v133_4) = K_main_v112 (F := F)
    ∧ V (Proc.devRef .tc main_v133_5) = K_main_v125 (F := F) ∧ V (Proc.devRef .tc main_v133_6) = K_main_v121 (F := F))
  ∧ V (Proc.devRef .tc main_v133_7) = constantI S_ 32 (BitVec.ofNat 32 j)

variable {V : Valuation τ sig (Elt F)} {s : State F} {j : ℕ}

/-- The new state a trip leaves. -/
theorem next_state (h : Carries V s j) : Value.step_main_v133_8 V = (step j s).main_v133_8 := by
  obtain ⟨⟨h8, h9⟩, ⟨h0, h1, h2⟩, ⟨h3, h4, h5, h6⟩, h7⟩ := h
  unfold Value.step_main_v133_8 res_main_while0b_v168 res_main_while0b_v169
  rw [h8, h1, h2, h5, h6, h7]
  rfl

/-- The outputs a trip leaves. -/
theorem next_out (h : Carries V s j) : Value.step_main_v133_9 V = (step j s).main_v133_9 := by
  obtain ⟨⟨h8, h9⟩, ⟨h0, h1, h2⟩, ⟨h3, h4, h5, h6⟩, h7⟩ := h
  unfold Value.step_main_v133_9 res_main_while0b_v167 res_main_while0b_v168 res_main_while0b_v169
  rw [h8, h9, h0, h1, h2, h3, h4, h7]
  rfl

/-- The counter a trip leaves. -/
theorem next_num (h : Carries V s j) : Value.step_main_v133_7 V = constantI S_ 32 (BitVec.ofNat 32 (j + 1)) := by
  unfold Value.step_main_v133_7
  rw [h.2.2.2]
  funext i
  show BitVec.ofNat 32 j + 1#32 = BitVec.ofNat 32 (j + 1)
  rw [BitVec.ofNat_add]

/-- A trip takes state `s` to `step j s`. -/
theorem carries_next (h : Carries V s j) : Carries (STEP V) (step j s) (j + 1) :=
  ⟨⟨(STEP_main_v133_8 V).trans (next_state h), (STEP_main_v133_9 V).trans (next_out h)⟩,
   ⟨(STEP_main_v133_0 V).trans h.2.1.1, (STEP_main_v133_1 V).trans h.2.1.2.1, (STEP_main_v133_2 V).trans h.2.1.2.2⟩,
   ⟨(STEP_main_v133_3 V).trans h.2.2.1.1, (STEP_main_v133_4 V).trans h.2.2.1.2.1,
    (STEP_main_v133_5 V).trans h.2.2.1.2.2.1, (STEP_main_v133_6 V).trans h.2.2.1.2.2.2⟩,
   (STEP_main_v133_7 V).trans (next_num h)⟩

variable (m : (ℓ : Loc nD τ sig) → Buf (Elt F) ℓ) (c : Dev nD)

set_option maxRecDepth 65536 in
set_option maxHeartbeats 1000000 in
/-- The loop starts from the first state. -/
theorem carries_entry : Carries (entryContents preI m c) (init (m ((c.tc : Thread nD τ).loc main_arg0))) 0 := by
  refine ⟨⟨?_, ?_⟩, ⟨?_, ?_, ?_⟩, ⟨?_, ?_, ?_, ?_⟩, ?_⟩ <;>
    (simp only [entryContents, afterL_cons, afterL_nil]; after_reads_simp) <;> rfl

/-- Before chunk `k` the buffers carry state `k`. -/
theorem carries_all : ∀ k, Carries (STEP^[k] (entryContents preI m c)) (chunks (m ((c.tc : Thread nD τ).loc main_arg0)) k) k
  | 0 => carries_entry m c
  | k + 1 => by
    rw [Function.iterate_succ_apply']
    exact carries_next (carries_all k)

/-- What the operations after the loop make of the last state and the arguments. -/
theorem finish (h : Carries V s j) {x : (⟨S16384x6144, .f32⟩ : BufTy).Contents (Elt F)}
    {g b : (⟨S2048, .f32⟩ : BufTy).Contents (Elt F)} (hx : V (Proc.devRef .tc main_arg0) = x)
    (hg : V (Proc.devRef .tc main_arg1) = g) (hb : V (Proc.devRef .tc main_arg2) = b) :
    out_main_v166 V = R_main_v166 s x g b := by
  obtain ⟨⟨h8, h9⟩, _⟩ := h
  unfold out_main_v166
  rw [h9, hx, hg, hb]
  rfl

/-- Every run of the reference ends with the gated outputs and the state after 32 chunks. -/
theorem run_chunks (ρ : Dev nD → PrngReg) :
    θ_run (defs (F := F)) (onTc (τ := τ) (main (F := F))) ⟨m, fun _ => 0, ρ⟩ fun r => ∀ c : Dev nD,
      r.2.mem ((c.tc : Thread nD τ).loc main_v166)
          = R_main_v166 (chunks (m ((c.tc : Thread nD τ).loc main_arg0)) 32) (m ((c.tc : Thread nD τ).loc main_arg0))
              (m ((c.tc : Thread nD τ).loc main_arg1)) (m ((c.tc : Thread nD τ).loc main_arg2))
      ∧ r.2.mem ((c.tc : Thread nD τ).loc main_v133_8) = (chunks (m ((c.tc : Thread nD τ).loc main_arg0)) 32).main_v133_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := carries_all m c 32
    ⟨(h c).1.trans (finish hk (iter_main_arg0 m c 32) (iter_main_arg1 m c 32) (iter_main_arg2 m c 32)),
     (h c).2.1.trans hk.1.1, (h c).2.2⟩) (Value.run m ρ)

end Cert.Proof.RetRun

end
-- ==== Proof.RetChunk.lean ====
/-
  The reference's loop in closed form: before chunk `j` the state is the decayed sum over the first `128 j` positions, and
  the outputs of the chunks before `j` are written.
-/
module

public import proofs.«01_k».proof.Proof.RetRef
public import proofs.«01_k».proof.Proof.RetStep
public import proofs.«01_k».proof.Proof.RetFin
public import proofs.«01_k».proof.Proof.RetRun

@[expose] public section

set_option maxRecDepth 16384

noncomputable section

open Idealize.ShloMosaic Idealize.ShloMosaic.TcCoe Idealize.SL.Sem

namespace Cert.Proof.RetChunk

open Cert.ReferenceIdeal Cert.ReferenceIdeal.Gen Cert.ReferenceIdeal.Step Cert.Proof.Ret Cert.Proof.RetRef Cert.Proof.RetStep
open Cert.Proof.RetRun (chunks)

variable (x : (⟨S16384x6144, .f32⟩ : BufTy).Contents (Elt Ideal))

/-- The state of head `h` of row `b` after `n` positions. -/
def stR (b h : Fin 4) (n : ℕ) (d : Fin 256) (e : Fin 512) : ℝ := st (lgR h) (kR x b h) (vR x b h) n d e
/-- The output of head `h` of row `b` at position `n`. -/
def outR (b h : Fin 4) (n : ℕ) (e : Fin 512) : ℝ := out (lgR h) (qR x b h) (kR x b h) (vR x b h) n e

/-- The operands of the loop stay as they are. -/
theorem operands (j : ℕ) : (chunks x j).main_v133_0 = A_main_v127 x ∧ (chunks x j).main_v133_1 = A_main_v129 x
    ∧ (chunks x j).main_v133_2 = A_main_v131 x := by
  induction j with
  | zero => exact ⟨rfl, rfl, rfl⟩
  | succ j ih => exact ih

variable {x} (hx : ∀ i, ∃ r : ℝ, x i = r)
include hx

theorem q_j (j : Fin 32) (b h : Fin 4) (i : Fin 128) (d : Fin 256) :
    b5 j (chunks x j) (ix4 b h i d) = (qR x b h ((j : ℕ) * 128 + i) d : ℝ) := by
  rw [q_slice, (operands x j).1, q_chunk, qE_eq hx]; rfl
theorem k_j (j : Fin 32) (b h : Fin 4) (i : Fin 128) (d : Fin 256) :
    b11 j (chunks x j) (ix4 b h i d) = (kR x b h ((j : ℕ) * 128 + i) d : ℝ) := by
  rw [k_slice, (operands x j).2.1, k_chunk, kE_eq hx]; rfl
theorem v_j (j : Fin 32) (b h : Fin 4) (i : Fin 128) (e : Fin 512) :
    b17 j (chunks x j) (ix4 b h i e) = (vR x b h ((j : ℕ) * 128 + i) e : ℝ) := by
  rw [v_slice, (operands x j).2.2, v_chunk, vE_eq hx]; rfl

/-- The state before chunk `j`. -/
theorem state_all : ∀ j : ℕ, j ≤ 32 → ∀ (b h : Fin 4) (d : Fin 256) (e : Fin 512),
    (chunks x j).main_v133_8 (ix4 b h d e) = (stR x b h (j * 128) d e : ℝ)
  | 0, _, b, h, d, e => by
    show K_main_v0 (F := Ideal) (ix4 b h d e) = _
    rw [stR, Nat.zero_mul, st_zero, EReal.coe_zero]
    pointwise [K_main_v0, K_main_cst]
  | j + 1, hj, b, h, d, e => by
    have ih := state_all j (by omega)
    show b35 j (chunks x j) (ix4 b h d e) = _
    rw [show (j + 1) * 128 = j * 128 + 128 by ring]
    refine (state_at ⟨j, by omega⟩ (chunks x j) b h d e).trans ?_
    exact chunk_state 128 (j * 128) (lgR h) (kR x b h) (vR x b h) (fun d e => (chunks x j).main_v133_8 (ix4 b h d e)) _
      (fun m d => b11 j (chunks x j) (ix4 b h m d)) (fun m => K_main_v121 (F := Ideal) (ix3 h m 0)) (fun m e => b17 j (chunks x j) (ix4 b h m e))
      (fun d e => ih b h d e) (cd_at h) (fun m d => k_j hx ⟨j, by omega⟩ b h m d) (fun m => kd_at h m)
      (fun m e => v_j hx ⟨j, by omega⟩ b h m e) d e

/-- The outputs of chunk `j`. -/
theorem out_j (j : Fin 32) (b h : Fin 4) (i : Fin 128) (e : Fin 512) :
    b27 j (chunks x j) (ix4 b h i e) = (outR x b h ((j : ℕ) * 128 + i) e : ℝ) :=
  (out_at j (chunks x j) b h i e).trans
    (chunk_out 128 ((j : ℕ) * 128) (lgR h) (qR x b h) (kR x b h) (vR x b h) (fun d e => (chunks x j).main_v133_8 (ix4 b h d e))
      (fun m d => b5 j (chunks x j) (ix4 b h m d)) (fun m d => b11 j (chunks x j) (ix4 b h m d))
      (fun i m => K_main_v103 (F := Ideal) (ix3 h i m)) (fun i => K_main_v112 (F := Ideal) (ix3 h i 0))
      (fun m e => b17 j (chunks x j) (ix4 b h m e))
      (fun d e => state_all hx j (by omega) b h d e) (fun m d => q_j hx j b h m d) (fun m d => k_j hx j b h m d)
      (fun i m => dm_at h i m) (fun i => cr_at h i) (fun m e => v_j hx j b h m e) i e)

/-- The outputs written before chunk `j`. -/
theorem out_all : ∀ j : ℕ, j ≤ 32 → ∀ (c : Fin 32), (c : ℕ) < j → ∀ (b h : Fin 4) (i : Fin 128) (e : Fin 512),
    (chunks x j).main_v133_9 (ix5 c b h i e) = (outR x b h ((c : ℕ) * 128 + i) e : ℝ)
  | 0, _, c, hc, _, _, _, _ => absurd hc (by omega)
  | j + 1, hj, c, hc, b, h, i, e => by
    show b41 j (chunks x j) (ix5 c b h i e) = _
    refine (write_at ⟨j, by omega⟩ (chunks x j) c b h i e).trans ?_
    by_cases hcj : (c : ℕ) = j
    · rw [if_pos hcj, ← show ((⟨j, by omega⟩ : Fin 32) : ℕ) = c from hcj.symm]
      exact out_j hx ⟨j, by omega⟩ b h i e
    · rw [if_neg hcj]
      exact out_all j (by omega) c (by omega) b h i e

/-- The reference's state after the loop. -/
theorem ref_state (b h : Fin 4) (d : Fin 256) (e : Fin 512) :
    (chunks x 32).main_v133_8 (ix4 b h d e) = (stR x b h 4096 d e : ℝ) := state_all hx 32 (le_refl _) b h d e

/-- The reference's gated outputs. -/
theorem ref_z (g bb : (⟨S2048, .f32⟩ : BufTy).Contents (Elt Ideal)) (B H : Fin 4) (n : Fin 4096) (e : Fin 512) :
    R_main_v166 (chunks x 32) x g bb (ix2 ⟨(B : ℕ) * 4096 + n, by omega⟩ ⟨(H : ℕ) * 512 + e, by omega⟩)
      = gnz (fun e => (outR x B H n e : ℝ))
          (x (ix2 ⟨(B : ℕ) * 4096 + n, by omega⟩ ⟨4096 + ((H : ℕ) * 512 + e), by omega⟩))
          (g (ix1 ⟨(H : ℕ) * 512 + e, by omega⟩)) (bb (ix1 ⟨(H : ℕ) * 512 + e, by omega⟩)) e := by
  refine (Cert.Proof.RetFin.z_at (chunks x 32) x g bb B H n e).trans ?_
  refine congrArg (fun o => gnz o _ _ _ e) (funext fun e => ?_)
  rw [out_all hx 32 (le_refl _) _ (by show (n : ℕ) / 128 < 32; omega)]
  rw [show ((⟨(n : ℕ) / 128, by omega⟩ : Fin 32) : ℕ) * 128 + ((⟨(n : ℕ) % 128, by omega⟩ : Fin 128) : ℕ) = n from Nat.div_add_mod' _ _]

end Cert.Proof.RetChunk

end
-- ==== Proof.RetPay.lean ====
/-
  The prompt kernel's payloads read at an index: what one grid point computes of its blocks.
-/
module

public import proofs.«01_k».proof.Proof.RetForm
public import proofs.«01_k».proof.Proof.Gen.KernelIdeal.Skeleton

@[expose] public section

set_option maxRecDepth 16384

noncomputable section

open Idealize.ShloMosaic Idealize.ShloMosaic.TcCoe Idealize.SL.Sem

namespace Cert.Proof.RetPay

open Cert.KernelIdeal Cert.KernelIdeal.Gen Cert.Proof.Ret

/-- The rotated query block. -/
theorem pay7_at (v3 v5 : Vec Ideal S256x128 .f32) (v7 : Vec Ideal S256x256 .f32) (i d : Fin 256) :
    k0_pay7 v3 v5 v7 (ix2 i d)
      = rope (fun d => v7 (ix2 i d)) (fun d => v3 (ix2 i d)) (fun d => v5 (ix2 i d)) d := by
  pointwise [k0_pay7, k0_pay4, k0_pay5, rope]
  split
  · rfl
  · blk_point []

/-- The scaled and rotated key block. -/
theorem pay6_at (v3 v5 : Vec Ideal S256x128 .f32) (v7 : Vec Ideal S256x256 .f32) (i d : Fin 256) :
    k0_pay6 v3 v5 v7 (ix2 i d)
      = rope (fun d => v7 (ix2 i d) * Ideal.ofBits .f32 0x3D800000#32) (fun d => v3 (ix2 i d)) (fun d => v5 (ix2 i d)) d := by
  pointwise [k0_pay6, k0_pay4, k0_pay5, rope]
  split
  · rfl
  · blk_point []

/-- The masked products of queries with keys. -/
theorem pay9_at (v3 v5 : Vec Ideal S256x128 .f32) (v7 v17 : Vec Ideal S256x256 .f32) (v34 : Vec Ideal S1x256x256 .f32) (i j : Fin 256) :
    k0_pay9 v3 v5 v7 v17 v34 (ix2 i j)
      = (∑ d : Fin 256, k0_pay7 v3 v5 v7 (ix2 i d) * k0_pay6 v3 v5 v17 (ix2 j d)) * v34 (ix3 0 i j) := by
  pointwise [k0_pay9]

/-- The state after the point. -/
theorem pay10_at (v28 : FVec Ideal S256x256 .f32) (v32 : FVec Ideal S256x512 .bf16) (v37 : Vec Ideal S256x512 .f32) (v47 : Vec Ideal S1x256x1 .f32) (v53 : Vec Ideal S1x1x1 .f32) (d : Fin 256) (e : Fin 512) :
    k0_pay10 v28 v32 v37 v47 v53 (ix2 d e)
      = v53 (ix3 0 0 0) * v37 (ix2 d e) + ∑ j : Fin 256, (v28 (ix2 j d) * v47 (ix3 0 j 0)) * v32 (ix2 j e) := by
  pointwise [k0_pay10]

/-- The zero state. -/
theorem pay3_at (d : Fin 256) (e : Fin 512) : k0_pay3 (F := Ideal) (ix2 d e) = 0 := by
  pointwise [k0_pay3]

/-- The output rows of the point before the norm. -/
def orow (v29 : FVec Ideal S256x256 .bf16) (v32 : FVec Ideal S256x512 .bf16) (v36 : FVec Ideal S256x256 .f32) (v37 : Vec Ideal S256x512 .f32) (v42 : Vec Ideal S1x256x1 .f32)
    (i : Fin 256) (e : Fin 512) : EReal :=
  (∑ j : Fin 256, v36 (ix2 i j) * v32 (ix2 j e)) + (∑ d : Fin 256, v29 (ix2 i d) * v37 (ix2 d e)) * v42 (ix3 0 i 0)

theorem pay13_at (v29 : FVec Ideal S256x256 .bf16) (v32 : FVec Ideal S256x512 .bf16) (v36 : FVec Ideal S256x256 .f32) (v37 : Vec Ideal S256x512 .f32) (v42 : Vec Ideal S1x256x1 .f32) (i : Fin 256) (e : Fin 512) :
    k0_pay13 v29 v32 v36 v37 v42 (ix2 i e) = orow v29 v32 v36 v37 v42 i e - mean (orow v29 v32 v36 v37 v42 i) := by
  pointwise [k0_pay13, orow, mean]
  try rfl

theorem pay1_at (v62 : Vec Ideal S256x512 .f32) (v63 v65 : FVec Ideal S1x512 .f32) (v29 : FVec Ideal S256x256 .bf16) (v32 : FVec Ideal S256x512 .bf16) (v36 : FVec Ideal S256x256 .f32) (v37 : Vec Ideal S256x512 .f32) (v42 : Vec Ideal S1x256x1 .f32) (i : Fin 256) (e : Fin 512) :
    k0_pay1 v62 (k0_pay11 v63) (k0_pay12 v65) (k0_pay13 v29 v32 v36 v37 v42) (k0_pay14 v29 v32 v36 v37 v42) (ix2 i e)
      = gnz (orow v29 v32 v36 v37 v42 i) (v62 (ix2 i e)) (v63 (ix2 0 e)) (v65 (ix2 0 e)) e := by
  pointwise [k0_pay1, k0_pay11, k0_pay12, k0_pay14]
  unfold gnz
  simp only [pay13_at]
  try rfl

end Cert.Proof.RetPay

end
-- ==== Proof.RetKernel.lean ====
/-
  The kernel's points: the state after every point is the decayed sum over the positions so far, and every block of the
  output is the normed, gated output of retention.
-/
module

public import proofs.«01_k».proof.Proof.RetBlocks
public import proofs.«01_k».proof.Proof.RetChunk
public import proofs.«01_k».proof.Proof.RetPay

@[expose] public section

set_option maxRecDepth 16384

noncomputable section

open Idealize.ShloMosaic Idealize.ShloMosaic.TcCoe Idealize.SL.Sem

namespace Cert.Proof.RetKernel

open Cert.KernelIdeal Cert.KernelIdeal.Gen Cert.Proof.Ret Cert.Proof.RetBlocks Cert.Proof.RetPay
open Cert.Proof.RetRef (qE kE vE qE_eq kE_eq vE_eq qR kR vR)
open Cert.Proof.RetChunk (stR outR ref_z ref_state)
open Cert.Proof.RetRun (chunks)

theorem gnz_congr {o o' : Fin 512 → EReal} {g g' a a' b b' : EReal} (ho : ∀ e, o e = o' e) (hg : g = g') (ha : a = a') (hb : b = b') (e : Fin 512) :
    gnz o g a b e = gnz o' g' a' b' e := by
  rw [show o = o' from funext ho, hg, ha, hb]

variable (m : (ℓ : Loc nD τ sig) → Buf (Elt Ideal) ℓ) (c : Dev nD)

/-- The projection. -/
abbrev xK : FVec Ideal S16384x6144 .f32 := m ((c : Thread nD τ).loc main_arg0)
/-- The queries, keys and values of a point as the kernel forms them. -/
abbrev qK (t : Fin cfg0.N) : FVec Ideal S256x256 .bf16 := k0_pay7 (iblk m c 4 t) (iblk m c 5 t) (iblk m c 0 t)
abbrev kK (t : Fin cfg0.N) : FVec Ideal S256x256 .f32 := k0_pay6 (iblk m c 4 t) (iblk m c 5 t) (iblk m c 1 t)
abbrev vK (t : Fin cfg0.N) : FVec Ideal S256x512 .bf16 := k0_pay8 (iblk m c 2 t)
abbrev sK (t : Fin cfg0.N) : FVec Ideal S256x256 .f32 := k0_pay9 (iblk m c 4 t) (iblk m c 5 t) (iblk m c 0 t) (iblk m c 1 t) (iblk m c 6 t)

theorem pay8_at (v : Vec Ideal S256x512 .f32) (i : Fin 256) (e : Fin 512) : k0_pay8 v (ix2 i e) = v (ix2 i e) := by
  pointwise [k0_pay8]
theorem pay2_at (v : FVec Ideal S256x512 .f32) (d : Fin 256) (e : Fin 512) : k0_pay2 v (ix4 0 0 d e) = v (ix2 d e) := by
  pointwise [k0_pay2]

theorem qK_at (t : Fin cfg0.N) (i d : Fin 256) : qK m c t (ix2 i d) = qE (xK m c) (tb t) (th t) (tn t i) d := by
  refine (pay7_at _ _ _ i d).trans ?_
  unfold qE
  congr 1
  · funext d; exact q_blk m c t i d
  · funext d; exact cos_blk m c t i d
  · funext d; exact sin_blk m c t i d

theorem kK_at (t : Fin cfg0.N) (i d : Fin 256) : kK m c t (ix2 i d) = kE (xK m c) (tb t) (th t) (tn t i) d := by
  refine (pay6_at _ _ _ i d).trans ?_
  unfold kE
  congr 1
  · funext d; exact congrArg (· * _) (k_blk m c t i d)
  · funext d; exact cos_blk m c t i d
  · funext d; exact sin_blk m c t i d

theorem vK_at (t : Fin cfg0.N) (i : Fin 256) (e : Fin 512) : vK m c t (ix2 i e) = vE (xK m c) (tb t) (th t) (tn t i) e :=
  (pay8_at _ i e).trans (v_blk m c t i e)

variable (hx : ∀ i, ∃ r : ℝ, xK m c i = r)
include hx

/-- One point takes the state over the positions before it to the state over the positions up to its end. -/
theorem step_state (t : Fin cfg0.N) (S : FVec Ideal S256x512 .f32)
    (hS : ∀ d e, S (ix2 d e) = (stR (xK m c) (tb t) (th t) (256 * (t.val % 16)) d e : ℝ)) (d : Fin 256) (e : Fin 512) :
    k0_pay10 (kK m c t) (vK m c t) S (iblk m c 8 t) (iblk m c 9 t) (ix2 d e)
      = (stR (xK m c) (tb t) (th t) (256 * (t.val % 16) + 256) d e : ℝ) := by
  refine (pay10_at _ _ _ _ _ d e).trans ?_
  exact chunk_state 256 (256 * (t.val % 16)) (lgR (th t)) (kR (xK m c) (tb t) (th t)) (vR (xK m c) (tb t) (th t))
    (fun d e => S (ix2 d e)) _ (fun j d => kK m c t (ix2 j d)) (fun j => (iblk m c 8 t : FVec Ideal S1x256x1 .f32) (ix3 0 j 0)) (fun j e => vK m c t (ix2 j e))
    hS (cd_blk m c t) (fun j d => (kK_at m c t j d).trans (kE_eq hx _ _ _ _)) (fun j => kd_blk m c t j)
    (fun j e => (vK_at m c t j e).trans (vE_eq hx _ _ _ _)) d e

/-- The rows a point writes before the norm. -/
theorem step_out (t : Fin cfg0.N) (S : FVec Ideal S256x512 .f32)
    (hS : ∀ d e, S (ix2 d e) = (stR (xK m c) (tb t) (th t) (256 * (t.val % 16)) d e : ℝ)) (i : Fin 256) (e : Fin 512) :
    orow (qK m c t) (vK m c t) (sK m c t) S (iblk m c 7 t) i e = (outR (xK m c) (tb t) (th t) (256 * (t.val % 16) + i) e : ℝ) := by
  unfold orow
  have h9 : ∀ j, sK m c t (ix2 i j) = (∑ d : Fin 256, qK m c t (ix2 i d) * kK m c t (ix2 j d)) * (iblk m c 6 t : FVec Ideal S1x256x256 .f32) (ix3 0 i j) :=
    fun j => pay9_at _ _ _ _ _ i j
  simp only [h9]
  exact chunk_out 256 (256 * (t.val % 16)) (lgR (th t)) (qR (xK m c) (tb t) (th t)) (kR (xK m c) (tb t) (th t)) (vR (xK m c) (tb t) (th t))
    (fun d e => S (ix2 d e)) (fun j d => qK m c t (ix2 j d)) (fun j d => kK m c t (ix2 j d))
    (fun i j => (iblk m c 6 t : FVec Ideal S1x256x256 .f32) (ix3 0 i j)) (fun i => (iblk m c 7 t : FVec Ideal S1x256x1 .f32) (ix3 0 i 0)) (fun j e => vK m c t (ix2 j e))
    hS (fun j d => (qK_at m c t j d).trans (qE_eq hx _ _ _ _)) (fun j d => (kK_at m c t j d).trans (kE_eq hx _ _ _ _))
    (fun i j => dm_blk m c t i j) (fun i => cr_blk m c t i) (fun j e => (vK_at m c t j e).trans (vE_eq hx _ _ _ _)) i e

omit hx in
/-- The state a point starts from: zero at the first point of a head, else what the point before left. -/
def inS (t : Fin cfg0.N) : FVec Ideal S256x512 .f32 :=
  if t.val % 16 = 0 then (k0_pay3 (F := Ideal)) else (outsAt0 m c (t.val - 1) (Nat.lt_of_le_of_lt (Nat.sub_le _ _) t.isLt)).2.2

omit hx in
theorem scr_eq (t : Fin cfg0.N) : (outsAt0 m c t.val t.isLt).2.2 = k0_pay10 (kK m c t) (vK m c t) (inS m c t) (iblk m c 8 t) (iblk m c 9 t) := by
  unfold inS
  by_cases h0 : t.val % 16 = 0
  · rw [outsAt0_A m c t h0 (by omega), if_pos h0]
    frame_out
  · rw [if_neg h0]
    by_cases h1 : t.val % 16 = 15
    · rw [outsAt0_C m c t h0 h1]
      frame_out
      exact congrArg (fun S => k0_pay10 (kK m c t) (vK m c t) S (iblk m c 8 t) (iblk m c 9 t)) (Memref.IsWhole.read_unread _ _)
    · rw [outsAt0_B m c t h0 h1]
      frame_out
      exact congrArg (fun S => k0_pay10 (kK m c t) (vK m c t) S (iblk m c 8 t) (iblk m c 9 t)) (Memref.IsWhole.read_unread _ _)

omit hx in
theorem z_eq (t : Fin cfg0.N) : (outsAt0 m c t.val t.isLt).1 = k0_pay1 (iblk m c 3 t) (k0_pay11 (iblk m c 10 t)) (k0_pay12 (iblk m c 11 t))
    (k0_pay13 (qK m c t) (vK m c t) (sK m c t) (inS m c t) (iblk m c 7 t)) (k0_pay14 (qK m c t) (vK m c t) (sK m c t) (inS m c t) (iblk m c 7 t)) := by
  unfold inS
  by_cases h0 : t.val % 16 = 0
  · rw [outsAt0_A m c t h0 (by omega), if_pos h0]
    frame_out
  · rw [if_neg h0]
    by_cases h1 : t.val % 16 = 15
    · rw [outsAt0_C m c t h0 h1]
      frame_out
      exact congrArg (fun S => k0_pay1 (iblk m c 3 t) (k0_pay11 (iblk m c 10 t)) (k0_pay12 (iblk m c 11 t)) (k0_pay13 (qK m c t) (vK m c t) (sK m c t) S (iblk m c 7 t)) (k0_pay14 (qK m c t) (vK m c t) (sK m c t) S (iblk m c 7 t))) (Memref.IsWhole.read_unread _ _)
    · rw [outsAt0_B m c t h0 h1]
      frame_out
      exact congrArg (fun S => k0_pay1 (iblk m c 3 t) (k0_pay11 (iblk m c 10 t)) (k0_pay12 (iblk m c 11 t)) (k0_pay13 (qK m c t) (vK m c t) (sK m c t) S (iblk m c 7 t)) (k0_pay14 (qK m c t) (vK m c t) (sK m c t) S (iblk m c 7 t))) (Memref.IsWhole.read_unread _ _)

omit hx in
theorem fin_eq (t : Fin cfg0.N) (h1 : t.val % 16 = 15) : (outsAt0 m c t.val t.isLt).2.1
    = k0_pay2 (k0_pay10 (kK m c t) (vK m c t) (inS m c t) (iblk m c 8 t) (iblk m c 9 t)) := by
  unfold inS
  rw [if_neg (by omega), outsAt0_C m c t (by omega) h1]
  frame_out
  exact congrArg (fun S => k0_pay2 (k0_pay10 (kK m c t) (vK m c t) S (iblk m c 8 t) (iblk m c 9 t))) (Memref.IsWhole.read_unread _ _)

/-- The state every point starts from. -/
theorem inS_eq : ∀ (n : ℕ) (hn : n < cfg0.N) (d : Fin 256) (e : Fin 512),
    inS m c ⟨n, hn⟩ (ix2 d e) = (stR (xK m c) (tb ⟨n, hn⟩) (th ⟨n, hn⟩) (256 * (n % 16)) d e : ℝ) := by
  intro n
  induction n with
  | zero =>
    intro hn d e
    unfold inS
    rw [if_pos (by rfl), stR]
    exact (pay3_at d e).trans (by rw [show 256 * (0 % 16) = 0 from rfl, st_zero, EReal.coe_zero])
  | succ n ih =>
    intro hn d e
    unfold inS
    by_cases h0 : (n + 1) % 16 = 0
    · rw [if_pos h0, stR, h0, Nat.mul_zero, st_zero, EReal.coe_zero]
      exact pay3_at d e
    · rw [if_neg h0]
      have hn' : n < cfg0.N := Nat.lt_of_succ_lt hn
      refine (congrFun (scr_eq m c ⟨n, hn'⟩) (ix2 d e)).trans ?_
      refine (step_state m c hx ⟨n, hn'⟩ _ (ih hn') d e).trans ?_
      have e1 : tb ⟨n, hn'⟩ = tb ⟨n + 1, hn⟩ := Fin.ext (by show n / 64 = (n + 1) / 64; omega)
      have e2 : th ⟨n, hn'⟩ = th ⟨n + 1, hn⟩ := Fin.ext (by show n / 16 % 4 = (n + 1) / 16 % 4; omega)
      have e3 : 256 * (n % 16) + 256 = 256 * ((n + 1) % 16) := by omega
      rw [e1, e2]
      show ((stR (xK m c) _ _ (256 * (n % 16) + 256) d e : ℝ) : EReal) = _
      rw [e3]

/-- The block of the output a point writes. -/
theorem z_point (t : Fin cfg0.N) (i : Fin 256) (e : Fin 512) : ((outsAt0 m c t.val t.isLt).1 : FVec Ideal S256x512 .bf16) (ix2 i e)
    = gnz (fun e => (outR (xK m c) (tb t) (th t) (tn t i) e : ℝ)) (xK m c (ix2 (row (tb t) (tn t i)) ⟨4096 + ((th t : ℕ) * 512 + e), by omega⟩))
        ((m ((c : Thread nD τ).loc main_arg1) : FVec Ideal S2048 .f32) (ix1 ⟨(th t : ℕ) * 512 + e, by omega⟩))
        ((m ((c : Thread nD τ).loc main_arg2) : FVec Ideal S2048 .f32) (ix1 ⟨(th t : ℕ) * 512 + e, by omega⟩)) e := by
  rw [z_eq]
  refine (pay1_at _ _ _ _ _ _ _ _ i e).trans ?_
  exact gnz_congr (fun e => step_out m c hx t (inS m c t) (fun d e => inS_eq m c hx t.val t.isLt d e) i e) (g_blk m c t i e) (gg_blk m c t e) (bb_blk m c t e) e

/-- The final state the last point of a head writes. -/
theorem s_point (t : Fin cfg0.N) (h1 : t.val % 16 = 15) (d : Fin 256) (e : Fin 512) : ((outsAt0 m c t.val t.isLt).2.1 : FVec Ideal S1x1x256x512 .f32) (ix4 0 0 d e)
    = (stR (xK m c) (tb t) (th t) 4096 d e : ℝ) := by
  rw [fin_eq m c t h1]
  refine (pay2_at _ d e).trans ?_
  refine (step_state m c hx t _ (fun d e => inS_eq m c hx t.val t.isLt d e) d e).trans ?_
  rw [h1]

end Cert.Proof.RetKernel

end
-- ==== Proof.RetArr.lean ====
/-
  The kernel's two output arrays after the run are the reference's.
-/
module

public import proofs.«01_k».proof.Proof.RetKernel

@[expose] public section

set_option maxRecDepth 16384

noncomputable section

open Idealize.ShloMosaic Idealize.ShloMosaic.TcCoe Idealize.SL.Sem

namespace Cert.Proof.RetArr

open Cert.KernelIdeal Cert.KernelIdeal.Gen Cert.Proof.Ret Cert.Proof.RetBlocks Cert.Proof.RetKernel
open Cert.Proof.RetChunk (stR outR ref_z ref_state)
open Cert.Proof.RetRun (chunks)

/-- The reference's output array. -/
def R_z (x : FVec Ideal S16384x6144 .f32) (g bb : FVec Ideal S2048 .f32) : FVec Ideal S16384x2048 .bf16 :=
  Cert.ReferenceIdeal.Step.R_main_v166 (F := Ideal) (chunks x 32) x g bb
/-- The reference's final state. -/
def R_s (x : FVec Ideal S16384x6144 .f32) : FVec Ideal S4x4x256x512 .f32 := (chunks (F := Ideal) x 32).main_v133_8

variable (m : (ℓ : Loc nD τ sig) → Buf (Elt Ideal) ℓ) (c : Dev nD)
variable (hx : ∀ i, ∃ r : ℝ, xK m c i = r)
include hx

theorem z_ref (t : Fin cfg0.N) (i : Fin 256) (e : Fin 512) : ((outsAt0 m c t.val t.isLt).1 : FVec Ideal S256x512 .bf16) (ix2 i e)
    = R_z (xK m c) (m ((c : Thread nD τ).loc main_arg1)) (m ((c : Thread nD τ).loc main_arg2)) (ix2 (row (tb t) (tn t i)) ⟨(th t : ℕ) * 512 + e, by omega⟩) :=
  (z_point m c hx t i e).trans (ref_z hx _ _ (tb t) (th t) (tn t i) e).symm

theorem s_ref (t : Fin cfg0.N) (h1 : t.val % 16 = 15) (d : Fin 256) (e : Fin 512) : ((outsAt0 m c t.val t.isLt).2.1 : FVec Ideal S1x1x256x512 .f32) (ix4 0 0 d e)
    = R_s (xK m c) (ix4 (tb t) (th t) d e) :=
  (s_point m c hx t h1 d e).trans (ref_state hx (tb t) (th t) d e).symm

/-- The output array after the run. -/
theorem z_array : (dats m 0 c).arrAt 12 cfg0.N = R_z (xK m c) (m ((c : Thread nD τ).loc main_arg1)) (m ((c : Thread nD τ).loc main_arg2)) := by
  refine (dats m 0 c).arrAt_eq_of_covers 12 (R_z (xK m c) (m ((c : Thread nD τ).loc main_arg1)) (m ((c : Thread nD τ).loc main_arg2))) (by decide +kernel) fun t hf y => ?_
  blk_simp
  rw [after0_12]
  idx_vars y
  refine (z_ref m c hx t _ _).trans ?_
  blk_ext [idx t, row, tb, th, tn]

/-- The array of the final states after the run. -/
theorem s_array : (dats m 0 c).arrAt 13 cfg0.N = R_s (xK m c) := by
  refine (dats m 0 c).arrAt_eq_of_covers 13 (R_s (xK m c)) (by decide +kernel) fun t hf y => ?_
  have h1 := (flush0_13 t).mp hf
  blk_simp
  rw [after0_13]
  idx_vars y
  obtain rfl : y0 = 0 := Subsingleton.elim _ _
  obtain rfl : y1 = 0 := Subsingleton.elim _ _
  refine (s_ref m c hx t h1 _ _).trans ?_
  blk_ext [idx t, tb, th]

end Cert.Proof.RetArr

end
-- ==== Proof.RetClaim.lean ====
/-
  The claims about retention: the reference's frame, and the equation of kernel and reference.
-/
module

public import proofs.«01_k».proof.Defs
public import proofs.«01_k».proof.Proof.Gen.Kernel
public import proofs.«01_k».proof.Proof.Gen.Pre_finite_proj
public import proofs.«01_k».proof.Proof.RetArr

@[expose] public section

set_option maxRecDepth 16384

noncomputable section

open Idealize.ShloMosaic Idealize.SL.Sem

namespace Cert.Proof.RetClaim

local instance : Cert.KernelIdeal.Facts := Cert.KernelIdeal.Gen.facts
local instance : Cert.ReferenceIdeal.Facts := Cert.ReferenceIdeal.Gen.facts
local instance : Cert.Pre_finite_proj.Facts := Cert.Pre_finite_proj.Gen.facts

theorem ofBits_top : Ideal.ofBits .f32 0x7F800000#32 = ⊤ := by simp [Ideal.ofBits, Ideal.ieee]

/-- An extended real of absolute value below infinity is real. -/
theorem real_of_abs (v : EReal) (h : max v (-v) < ⊤) : ∃ r : ℝ, v = r := by
  induction v with
  | bot => exact absurd h (by simp)
  | coe r => exact ⟨r, rfl⟩
  | top => exact absurd h (by simp)

/-- Under the precondition every entry of the projection is real. -/
theorem real_of_pre {x : FVec Ideal Cert.Pre_finite_proj.S16384x6144 .f32} {g b : FVec Ideal Cert.Pre_finite_proj.S2048 .f32}
    (h : Cert.Pre_finite_proj.fn (F := Ideal) x g b = fun _ => 1#1) (i : Cert.Pre_finite_proj.S16384x6144.Idx) : ∃ r : ℝ, x i = r := by
  have hi := congrFun h i
  refine real_of_abs _ ?_
  rw [← ofBits_top]
  by_contra hn
  have h0 : Cert.Pre_finite_proj.fn (F := Ideal) x g b i = 0#1 := by
    show BitVec.ofBool (decide (max (x i) (-x i) < Ideal.ofBits .f32 0x7F800000#32)) = 0#1
    rw [decide_eq_false hn]; rfl
  rw [h0] at hi
  exact absurd hi (by decide)

/-- The reference leaves its arguments as they were, and it has no semaphore. -/
theorem frame_ref : Cert.quiescent_ReferenceIdeal := by
  intro m g _
  exact (θ_run Cert.ReferenceIdeal.defs _ _).mono (fun r h => ⟨fun c => (h c).2.2,
      sem_eq_zero_of_no_sems (by decide) r.2⟩)
    (Cert.ReferenceIdeal.Value.run (F := Ideal) m g)

/-- Kernel and reference end with the same outputs and the same final states. -/
theorem algebraic : Cert.algebraic_KernelIdeal_ReferenceIdeal_pre_finite_proj := by
  intro m g m' g' hpre hagree
  refine ⟨fun c => RetArr.R_z (RetKernel.xK m c) (m ((c.tc : Thread _ _).loc Cert.KernelIdeal.main_arg1)) (m ((c.tc : Thread _ _).loc Cert.KernelIdeal.main_arg2)),
    fun c => RetArr.R_s (RetKernel.xK m c), ?_, ?_⟩
  · refine (θ_run Cert.KernelIdeal.defs _ _).mono (fun r h c => ?_) (Cert.KernelIdeal.Value.run_blocks (F := Ideal) m g)
    have hx := real_of_pre (hpre c)
    exact ⟨(h c).1.trans (RetArr.z_array m c hx), (h c).2.1.trans (RetArr.s_array m c hx), (h c).2.2⟩
  · refine (θ_run Cert.ReferenceIdeal.defs _ _).mono (fun r h c => ?_) (RetRun.run_chunks (F := Ideal) m' g')
    obtain ⟨a0, a1, a2⟩ := hagree c
    refine ⟨(h c).1.trans ?_, (h c).2.1.trans ?_, (h c).2.2⟩
    · rw [a0, a1, a2]; rfl
    · rw [a0]; rfl

end Cert.Proof.RetClaim

end
-- ==== Proof.ExpBase.lean ====
/- The experts' call: the buffers the region finds, the table of block experts, the windows' blocks, and the reading of
   the frame claim off a run. -/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

/-- The resources of the launch. -/
abbrev MM (F : FTy → Type) : Type := MT nD τ sig Unit (Elt F) ℕ (UR sig nD τ) ℕ

variable (m : (ℓ : Loc nD τ sig) → Buf (Elt F) ℓ) (ρ : Dev nD → PrngReg)

/-- Window 5 (result 0 (%7)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__experts_v01_kernel (grid0.coords t) (Memref.whole main_v4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S292 .i32 := Memref.whole main_v4
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MM F) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MM F)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 5, through which its contents are stated (`View.read_writes_of_cover`: the
    choice does not matter). -/
abbrev VO0_5 : View sig .tc .vmem S256x8x128 .f32 := (Memref.whole cc0_stg5_0 : Memref sig .tc .vmem S256x8x128 .f32).view
/-- Each window's current staging memref at point `t`, spelled as the pipeline passes it (`bodyAt0`), and its wholeness. -/
abbrev ms0_0 (hO : Ok m) (t : Fin (cfgM m hO).N) : Memref sig .tc .vmem S256x8x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x8x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MM F))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Exp

end
-- ==== Proof.ExpRun.lean ====
/- The experts' body at one grid point, in its three cases: a live block that brings its expert's weights, a live block
   whose expert's weights are already in place, and a dead block, which is filled with zeros. -/
module

public import proofs.«01_k».proof.Proof.ExpBase
public import Idealize.ShloMosaic.Lib.VecWindow

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

/-- A whole staging buffer loaded whole. -/
theorem ld {s : Shape} {e : EltTy} {M : Memref sig .tc .vmem s e} (h : M.IsWhole) (x : s.Idx → Elt F e) {off : Fin s.rank → ℕ}
    (inb : ∀ a, off a + s.size a ≤ s.size a) :
    M.view.readAt (Elt F) (Rect.unit off s.size inb).toLoadRect (h.unread x) = x :=
  (View.readAt_full _ _ _).trans (h.read_unread x)

/-- The table's word at position `off`. -/
abbrev word (c : Dev nD) (xt : TbBuf0 (F := F) c tbM0_0) (off : Fin 1 → ℕ) (h : ∀ a, off a + S1.size a ≤ S292.size a) : BitVec 32 :=
  View.readAt (Elt F) tbM0_0.view (Rect.unit (s := S292) off S1.size h).toLoadRect xt (Shape.Idx.first (show 0 < S1.numel by decide))

/-- The number of live rows. -/
abbrev wLive (c : Dev nD) (xt : TbBuf0 (F := F) c tbM0_0) : BitVec 32 := word c xt ![290] inb_S292_S1_290

/-- Whether the block is live and its expert is another than the block's before it. -/
abbrev fresh (c : Dev nD) (i : grid0.Coords) (xt : TbBuf0 (F := F) c tbM0_0) : BitVec 1 :=
  Scalar.cmpi .ne (Scalar.extui (Scalar.andi (Scalar.cmpi .slt (Scalar.muli (BitVec.ofNat 32 (i 0).val) 256#32) (wLive c xt))
    (Scalar.ori (Scalar.cmpi .eq (BitVec.ofNat 32 (i 0).val) 0#32)
      (Scalar.cmpi .ne (word c xt (k0_off1 i) (k0_off1_inb i)) (word c xt (k0_off2 i) (k0_off2_inb i)))))) 0#32

set_option maxHeartbeats 1000000 in
/-- A dead block: zeros, the weights in place untouched. -/
theorem run_dead (c : Dev nD) (i : grid0.Coords) (arg2 : Memref sig .tc .vmem S256x8x128 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S256x8x128 .f32) (harg7 : arg7.IsWhole) (arg8 : Memref sig .tc .vmem S1024x2048 .bf16) (harg8 : arg8.IsWhole) (arg9 : Memref sig .tc .vmem S1024x1024 .bf16) (harg9 : arg9.IsWhole)
    (x0 : Vec F S256x8x128 .f32) (x1 : Vec F S1x1024x2048 .f32) (x2 : Vec F S1x1x2048 .f32) (x3 : Vec F S1x1024x1024 .f32) (x4 : Vec F S1x1x1024 .f32) (s0 : Vec F S1024x2048 .bf16) (s1 : Vec F S1024x1024 .bf16) (xt : TbBuf0 (F := F) c tbM0_0)
    (h1 : ¬ fresh c i xt = 1#1) (h2 : ¬ k0_cond2 i (wLive c xt) = 1#1) (h3 : k0_cond3 i (wLive c xt) = 1#1)
    (E : Set ℕ) (K : PUnit → sProp (MM F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s0 ∗ owns (c : Thread nD τ) arg9 fullShare s1 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (F := F)) ∗ owns (c : Thread nD τ) arg8 fullShare s0 ∗ owns (c : Thread nD τ) arg9 fullShare s1 ∗ tbPt0 c tbM0_0 xt) -∗ K ⟨⟩))
      ⊢ wp frame (wpE (defs₀ (F := F)) Variants.none c none) E (cc0__experts_v01_kernel i tbM0_0 htbM0_0 arg2 harg2 arg3 harg3 arg4 harg4 arg5 harg5 arg6 harg6 arg7 harg7 arg8 harg8 arg9 harg9) K := by
  simp only [cc0__experts_v01_kernel_eq_skeleton]; unfold cc0__experts_v01_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    rfl
  isplitl [HS0]
  · iexists _; isplitr
    swap; · iexact HS0
    ipureintro; exact harg8.read_unread _
  isplitl [HS1]
  · iexists _; isplitr
    swap; · iexact HS1
    ipureintro; exact harg9.read_unread _
  iexact HT0

set_option maxHeartbeats 1000000 in
/-- A live block whose weights are in place. -/
theorem run_keep (c : Dev nD) (i : grid0.Coords) (arg2 : Memref sig .tc .vmem S256x8x128 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S256x8x128 .f32) (harg7 : arg7.IsWhole) (arg8 : Memref sig .tc .vmem S1024x2048 .bf16) (harg8 : arg8.IsWhole) (arg9 : Memref sig .tc .vmem S1024x1024 .bf16) (harg9 : arg9.IsWhole)
    (x0 : Vec F S256x8x128 .f32) (x1 : Vec F S1x1024x2048 .f32) (x2 : Vec F S1x1x2048 .f32) (x3 : Vec F S1x1024x1024 .f32) (x4 : Vec F S1x1x1024 .f32) (s0 : Vec F S1024x2048 .bf16) (s1 : Vec F S1024x1024 .bf16) (xt : TbBuf0 (F := F) c tbM0_0)
    (h1 : ¬ fresh c i xt = 1#1) (h2 : k0_cond2 i (wLive c xt) = 1#1) (h3 : ¬ k0_cond3 i (wLive c xt) = 1#1)
    (E : Set ℕ) (K : PUnit → sProp (MM F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s0 ∗ owns (c : Thread nD τ) arg9 fullShare s1 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 s0 x2 s1 x4) ∗ owns (c : Thread nD τ) arg8 fullShare s0 ∗ owns (c : Thread nD τ) arg9 fullShare s1 ∗ tbPt0 c tbM0_0 xt) -∗ K ⟨⟩))
      ⊢ wp frame (wpE (defs₀ (F := F)) Variants.none c none) E (cc0__experts_v01_kernel i tbM0_0 htbM0_0 arg2 harg2 arg3 harg3 arg4 harg4 arg5 harg5 arg6 harg6 arg7 harg7 arg8 harg8 arg9 harg9) K := by
  simp only [cc0__experts_v01_kernel_eq_skeleton]; unfold cc0__experts_v01_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    rw [ld harg2, ld harg4, ld harg6, ld harg8, ld harg9]
  isplitl [HS0]
  · iexists _; isplitr
    swap; · iexact HS0
    ipureintro; exact harg8.read_unread _
  isplitl [HS1]
  · iexists _; isplitr
    swap; · iexact HS1
    ipureintro; exact harg9.read_unread _
  iexact HT0

set_option maxHeartbeats 1000000 in
/-- A live block that brings its weights. -/
theorem run_bring (c : Dev nD) (i : grid0.Coords) (arg2 : Memref sig .tc .vmem S256x8x128 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S256x8x128 .f32) (harg7 : arg7.IsWhole) (arg8 : Memref sig .tc .vmem S1024x2048 .bf16) (harg8 : arg8.IsWhole) (arg9 : Memref sig .tc .vmem S1024x1024 .bf16) (harg9 : arg9.IsWhole)
    (x0 : Vec F S256x8x128 .f32) (x1 : Vec F S1x1024x2048 .f32) (x2 : Vec F S1x1x2048 .f32) (x3 : Vec F S1x1024x1024 .f32) (x4 : Vec F S1x1x1024 .f32) (s0 : Vec F S1024x2048 .bf16) (s1 : Vec F S1024x1024 .bf16) (xt : TbBuf0 (F := F) c tbM0_0)
    (h1 : fresh c i xt = 1#1) (h2 : k0_cond2 i (wLive c xt) = 1#1) (h3 : ¬ k0_cond3 i (wLive c xt) = 1#1)
    (E : Set ℕ) (K : PUnit → sProp (MM F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s0 ∗ owns (c : Thread nD τ) arg9 fullShare s1 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 (k0_pay1 x1) x2 (k0_pay2 x3) x4) ∗ owns (c : Thread nD τ) arg8 fullShare (k0_pay1 x1) ∗ owns (c : Thread nD τ) arg9 fullShare (k0_pay2 x3) ∗ tbPt0 c tbM0_0 xt) -∗ K ⟨⟩))
      ⊢ wp frame (wpE (defs₀ (F := F)) Variants.none c none) E (cc0__experts_v01_kernel i tbM0_0 htbM0_0 arg2 harg2 arg3 harg3 arg4 harg4 arg5 harg5 arg6 harg6 arg7 harg7 arg8 harg8 arg9 harg9) K := by
  simp only [cc0__experts_v01_kernel_eq_skeleton]; unfold cc0__experts_v01_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    unfold run_bring.sl.v23 run_bring.sl.v45 run_bring.sl.HS0_1 run_bring.sl.HS1_1; rw [ld harg2, ld harg4, ld harg6, View.readCov_full, View.readCov_full, ld harg3, ld harg5]
  isplitl [HS0]
  · iexists _; isplitr
    swap; · iexact HS0
    ipureintro
    refine (View.read_writes_full _ _ _ _ _).trans ?_
    rw [ld harg3]
  isplitl [HS1]
  · iexists _; isplitr
    swap; · iexact HS1
    ipureintro
    refine (View.read_writes_full _ _ _ _ _).trans ?_
    rw [ld harg5]
  iexact HT0

end Cert.Kernel2Ideal.Exp

end
-- ==== Proof.ExpFrame.lean ====
/- The experts' call: the words that steer it, what its two scratch buffers hold between the blocks, its run at any
   float values, and the frame. -/
module

public import proofs.«01_k».proof.Proof.ExpRun
public import Idealize.ShloMosaic.Lib.Claim
public import Idealize.ShloMosaic.Lib.VecWindow

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

variable (m : (ℓ : Loc nD τ sig) → Buf (Elt F) ℓ) (ρ : Dev nD → PrngReg)

/-! ## The words that steer the body -/

theorem bit_cases (b : BitVec 1) : b = 0#1 ∨ b = 1#1 := by revert b; decide

/-- A block is either computed or zeroed. -/
theorem cond3_iff (i : grid0.Coords) (w : BitVec 32) : k0_cond3 i w = 1#1 ↔ ¬ k0_cond2 i w = 1#1 := by
  unfold k0_cond3 k0_cond2
  dsimp only
  rcases bit_cases (Scalar.cmpi .slt (Scalar.muli (BitVec.ofNat 32 (i 0).val) 256#32) w) with h | h <;> rw [h] <;> decide

/-- A block is computed when its first row is below the number of live rows. -/
theorem cond2_iff (i : grid0.Coords) (w : BitVec 32) :
    k0_cond2 i w = 1#1 ↔ (256 * (i 0).val : ℤ) < w.toInt := by
  unfold k0_cond2
  dsimp only
  have hi : (i 0).val < 290 := (i 0).isLt
  have e : (Scalar.muli (BitVec.ofNat 32 (i 0).val) 256#32 : BitVec 32) = BitVec.ofNat 32 (256 * (i 0).val) := by
    apply BitVec.eq_of_toNat_eq
    show (BitVec.ofNat 32 (i 0).val * 256#32).toNat = _
    rw [BitVec.toNat_mul, BitVec.toNat_ofNat, BitVec.toNat_ofNat, BitVec.toNat_ofNat]; omega
  rw [e]
  have e2 : Scalar.cmpi .slt (BitVec.ofNat 32 (256 * (i 0).val)) w = BitVec.ofBool (decide ((256 * (i 0).val : ℤ) < w.toInt)) := by
    show IntOp.cmpi .slt _ _ = _
    rw [WordCmp.cmpi_slt_eq, WordCmp.toInt_ofNat_of_lt (w := 32) (by omega)]
    push_cast; rfl
  rw [e2]
  by_cases h : (256 * (i 0).val : ℤ) < w.toInt
  · rw [decide_eq_true h]; exact ⟨fun _ => h, fun _ => by decide⟩
  · rw [decide_eq_false h]; exact ⟨fun h' => absurd h' (by decide), fun h' => absurd h' h⟩

/-- A block that brings weights in is computed. -/
theorem fresh_cond2 (c : Dev nD) (i : grid0.Coords) (xt : TbBuf0 (F := F) c tbM0_0) (h : fresh c i xt = 1#1) :
    k0_cond2 i (wLive c xt) = 1#1 := by
  unfold fresh at h; unfold k0_cond2; dsimp only
  rcases bit_cases (Scalar.cmpi .slt (Scalar.muli (BitVec.ofNat 32 (i 0).val) 256#32) (wLive c xt)) with h1 | h1
  · rw [h1] at h
    exfalso; revert h
    generalize Scalar.ori _ _ = b
    revert b; decide
  · rw [h1]; decide

/-- A computed block that brings no weights in is not the first, and its expert is the one before it. -/
theorem keep_words (c : Dev nD) (i : grid0.Coords) (xt : TbBuf0 (F := F) c tbM0_0) (h : ¬ fresh c i xt = 1#1)
    (h2 : k0_cond2 i (wLive c xt) = 1#1) :
    (i 0).val ≠ 0 ∧ word c xt (k0_off1 i) (k0_off1_inb i) = word c xt (k0_off2 i) (k0_off2_inb i) := by
  have h1 : Scalar.cmpi .slt (Scalar.muli (BitVec.ofNat 32 (i 0).val) 256#32) (wLive c xt) = 1#1 := by
    unfold k0_cond2 at h2; dsimp only at h2
    rcases bit_cases (Scalar.cmpi .slt (Scalar.muli (BitVec.ofNat 32 (i 0).val) 256#32) (wLive c xt)) with e | e
    · rw [e] at h2; exact absurd h2 (by decide)
    · exact e
  unfold fresh at h
  rw [h1] at h
  constructor
  · intro h0
    rw [h0] at h
    rw [show (Scalar.cmpi .eq (BitVec.ofNat 32 0) 0#32 : BitVec 1) = 1#1 by decide] at h
    apply h
    generalize Scalar.cmpi .ne (word c xt (k0_off1 i) (k0_off1_inb i)) (word c xt (k0_off2 i) (k0_off2_inb i)) = b
    revert b; decide
  · by_contra hne
    have e : Scalar.cmpi .ne (word c xt (k0_off1 i) (k0_off1_inb i)) (word c xt (k0_off2 i) (k0_off2_inb i)) = 1#1 := by
      show IntOp.cmpi .ne _ _ = _
      rw [WordCmp.cmpi_ne_eq, decide_eq_true hne]; rfl
    rw [e] at h
    apply h
    generalize Scalar.cmpi .eq (BitVec.ofNat 32 (i 0).val) 0#32 = b
    revert b; decide

theorem coords_val : ∀ t : Fin grid0.N, (grid0.coords t 0).val = t.val := by decide +kernel

/-- Where block `i`'s word before it lies. -/
theorem off2_eq (i i' : grid0.Coords) (h : (i' 0).val + 1 = (i 0).val) : k0_off2 i = k0_off1 i' := by
  have hi : (i 0).val < 290 := (i 0).isLt
  have key : ∀ n : Fin 289, (Scalar.indexCast (Scalar.maxsi (Scalar.subi (BitVec.ofNat 32 (n.val + 1)) 1#32) 0#32) : Index).toNat
      = (Scalar.indexCast (BitVec.ofNat 32 n.val) : Index).toNat := by decide +kernel
  unfold k0_off2 k0_off1; dsimp only
  rw [← h, key ⟨(i' 0).val, by omega⟩]

theorem word_congr (c : Dev nD) (xt : TbBuf0 (F := F) c tbM0_0) {o o' : Fin 1 → ℕ} (e : o = o') (h h') : word c xt o h = word c xt o' h' := by
  subst e; rfl

/-! ## What the launch leaves, block by block -/

/-- Block `t` is live. -/
abbrev live (c : Dev nD) (t : Fin grid0.N) : Prop := k0_cond2 (grid0.coords t) (wLive (F := F) c (tbl m 0)) = 1#1

/-- What block `t` leaves: its rows through its expert, or zeros. -/
def outAt (hO : Ok m) (c : Dev nD) (t : Fin (cfgM m hO).N) : Vec F S256x8x128 .f32 :=
  if live m c t then k0_pay3 (iblk m hO c 0 t) (k0_pay1 (iblk m hO c 1 t)) (iblk m hO c 2 t) (k0_pay2 (iblk m hO c 3 t)) (iblk m hO c 4 t)
  else k0_pay4 (F := F)

/-- Before point `p` the scratch buffers hold the weights of the block before it, if that block is live. -/
def inPlace (hO : Ok m) (c : Dev nD) (p : ℕ) (s0 : Vec F S1024x2048 .bf16) (s1 : Vec F S1024x1024 .bf16) : Prop :=
  ∀ t : Fin (cfgM m hO).N, t.val + 1 = p → live m c t → s0 = k0_pay1 (iblk m hO c 1 t) ∧ s1 = k0_pay2 (iblk m hO c 3 t)

/-- What is kept between the blocks. -/
def PhiE (hO : Ok m) (c : Dev nD) (p : ℕ) : sProp (MM F) :=
  iprop(∃ s0 s1, ⌜inPlace m hO c p s0 s1⌝ ∗ owns (c : Thread nD τ) scM0_0 fullShare s0 ∗ owns (c : Thread nD τ) scM0_1 fullShare s1
    ∗ (∃ r, prngReg c r) ∗ tbPt0 c tbM0_0 (tbl m 0))

/-- The pipeline's data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ p := PhiE m hO c p.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- Two blocks of one expert are brought the same weights. -/
theorem iblk1_congr (hO : Ok m) (c : Dev nD) (t t' : Fin (cfgM m hO).N)
    (h : word c (tbl m 0) (k0_off1 (grid0.coords t)) (k0_off1_inb _) = word c (tbl m 0) (k0_off1 (grid0.coords t')) (k0_off1_inb _)) :
    iblk m hO c 1 t = iblk m hO c 1 t' := by
  have hix : ((cfgM m hO).win 1).index t = ((cfgM m hO).win 1).index t' := by
    show ![(word c (tbl m 0) (k0_off1 (grid0.coords t)) (k0_off1_inb _)).toNat, _, _] = ![(word c (tbl m 0) (k0_off1 (grid0.coords t')) (k0_off1_inb _)).toNat, _, _]
    rw [h]
  have e : ∀ u, (dats m hO 0 c).fetched 1 u (iblk m hO c 1 t) = iblk m hO c 1 u := fun u => by
    unfold Dat.fetched Dat.blockOf; rw [A_eq]; rfl
  exact (e t).symm.trans (((dats m hO 0 c).fetched_congr 1 hix rfl _).trans (e t'))

/-- Two blocks of one expert are brought the same weights. -/
theorem iblk3_congr (hO : Ok m) (c : Dev nD) (t t' : Fin (cfgM m hO).N)
    (h : word c (tbl m 0) (k0_off1 (grid0.coords t)) (k0_off1_inb _) = word c (tbl m 0) (k0_off1 (grid0.coords t')) (k0_off1_inb _)) :
    iblk m hO c 3 t = iblk m hO c 3 t' := by
  have hix : ((cfgM m hO).win 3).index t = ((cfgM m hO).win 3).index t' := by
    show ![(word c (tbl m 0) (k0_off1 (grid0.coords t)) (k0_off1_inb _)).toNat, _, _] = ![(word c (tbl m 0) (k0_off1 (grid0.coords t')) (k0_off1_inb _)).toNat, _, _]
    rw [h]
  have e : ∀ u, (dats m hO 0 c).fetched 3 u (iblk m hO c 3 t) = iblk m hO c 3 u := fun u => by
    unfold Dat.fetched Dat.blockOf; rw [A_eq]; rfl
  exact (e t).symm.trans (((dats m hO 0 c).fetched_congr 3 hix rfl _).trans (e t'))

/-! ## The body at every point -/

/-- What the body is called with. -/
def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- What it returns. -/
def bodyPost (hO : Ok m) (c : Dev nD) (t : Fin (cfgM m hO).N) : sProp (MM F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = PhiE m hO c (t.val + 1) from rfl,
    show (dats m hO 0 c).owesAt () t.succ = (dats m hO 0 c).owesAt () t.castSucc from rfl,
    after0_0, after0_1, after0_2, after0_3, after0_4, after0_5]
  rw [show (dats m hO 0 c).Φ t.castSucc = PhiE m hO c t.val from rfl]
  unfold PhiE outAt
  iintro ⟨⟨%s0, %s1, %hS, HS0, HS1, Hg, HT0⟩, Ho, ⟨%d0, H0⟩, ⟨%d1, H1⟩, ⟨%d2, H2⟩, ⟨%d3, H3⟩, ⟨%d4, H4⟩, ⟨%d5, H5⟩⟩
  by_cases hl : live m c t
  · rw [if_pos hl]
    have h3 : ¬ k0_cond3 (grid0.coords t) (wLive c (tbl m 0)) = 1#1 := fun h => (cond3_iff _ _).mp h hl
    by_cases hf : fresh c (grid0.coords t) (tbl m 0) = 1#1
    · iapply (run_bring c (grid0.coords t) _ _ _ _ _ _ _ _ _ _ _ _ _ _ _ _ (iblk m hO c 0 t) (iblk m hO c 1 t) (iblk m hO c 2 t) (iblk m hO c 3 t) (iblk m hO c 4 t) s0 s1 (tbl m 0) hf hl h3 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      iintro ⟨H0, H1, H2, H3, H4, H5, HS0, HS1, HT0⟩
      isplitl [HS0 HS1 Hg HT0]
      · iexists _, _; isplitr
        swap
        · isplitl [HS0]; · iexact HS0
          isplitl [HS1]; · iexact HS1
          isplitl [Hg]; · iexact Hg
          iexact HT0
        ipureintro
        intro t' ht' _
        obtain rfl : t' = t := Fin.ext (by omega)
        exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
    · obtain ⟨h0, hw⟩ := keep_words c _ _ hf hl
      have hlt : t.val < 290 := t.isLt
      have ht0 : t.val ≠ 0 := fun h => h0 ((coords_val t).trans h)
      let t0 : Fin (cfgM m hO).N := ⟨t.val - 1, lt_of_le_of_lt (Nat.sub_le _ _) t.isLt⟩
      have hc : (grid0.coords t0 0).val + 1 = (grid0.coords t 0).val := by
        rw [coords_val, coords_val]; show t.val - 1 + 1 = t.val; omega
      have hl0 : live m c t0 := (cond2_iff _ _).mpr (by have := (cond2_iff _ _).mp hl; omega)
      have hw' : word c (tbl m 0) (k0_off1 (grid0.coords t)) (k0_off1_inb _) = word c (tbl m 0) (k0_off1 (grid0.coords t0)) (k0_off1_inb _) :=
        hw.trans (word_congr c _ (off2_eq _ _ hc) _ _)
      obtain ⟨e0, e1⟩ := hS t0 (by show t.val - 1 + 1 = t.val; omega) hl0
      rw [← iblk1_congr m hO c t t0 hw'] at e0
      rw [← iblk3_congr m hO c t t0 hw'] at e1
      subst e0 e1
      iapply (run_keep c (grid0.coords t) _ _ _ _ _ _ _ _ _ _ _ _ _ _ _ _ (iblk m hO c 0 t) (iblk m hO c 1 t) (iblk m hO c 2 t) (iblk m hO c 3 t) (iblk m hO c 4 t) _ _ (tbl m 0) hf hl h3 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      iintro ⟨H0, H1, H2, H3, H4, H5, HS0, HS1, HT0⟩
      isplitl [HS0 HS1 Hg HT0]
      · iexists _, _; isplitr
        swap
        · isplitl [HS0]; · iexact HS0
          isplitl [HS1]; · iexact HS1
          isplitl [Hg]; · iexact Hg
          iexact HT0
        ipureintro
        intro t' ht' _
        obtain rfl : t' = t := Fin.ext (by omega)
        exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
  · rw [if_neg hl]
    have h3 : k0_cond3 (grid0.coords t) (wLive c (tbl m 0)) = 1#1 := (cond3_iff _ _).mpr hl
    have hf : ¬ fresh c (grid0.coords t) (tbl m 0) = 1#1 := fun h => hl (fresh_cond2 c _ _ h)
    iapply (run_dead c (grid0.coords t) _ _ _ _ _ _ _ _ _ _ _ _ _ _ _ _ (iblk m hO c 0 t) (iblk m hO c 1 t) (iblk m hO c 2 t) (iblk m hO c 3 t) (iblk m hO c 4 t) s0 s1 (tbl m 0) hf hl h3 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    iintro ⟨H0, H1, H2, H3, H4, H5, HS0, HS1, HT0⟩
    isplitl [HS0 HS1 Hg HT0]
    · iexists _, _; isplitr
      swap
      · isplitl [HS0]; · iexact HS0
        isplitl [HS1]; · iexact HS1
        isplitl [Hg]; · iexact Hg
        iexact HT0
      ipureintro
      intro t' ht' hl'
      obtain rfl : t' = t := Fin.ext (by omega)
      exact absurd hl' hl
    isplitl [Ho]; · iexact Ho
    isplitl [H0]; · iexact H0
    isplitl [H1]; · iexact H1
    isplitl [H2]; · iexact H2
    isplitl [H3]; · iexact H3
    isplitl [H4]; · iexact H4
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem stored_aux (i : grid0.Coords) (w : BitVec 32) : (!(k0_cond2 i w == 1#1) && !(k0_cond3 i w == 1#1)) = false := by
  by_cases h : k0_cond2 i w = 1#1
  · rw [h]; rfl
  · rw [(cond3_iff i w).mpr h, show ((1#1 : BitVec 1) == 1#1) = true from rfl, Bool.not_true, Bool.and_false]

/-- The output is stored at every block, whatever the tables. -/
theorem idle_any (a : (pcfg0 (F := F)).Adm) (i : grid0.Coords) : (cfg0 a).idle 5 i = false :=
  stored_aux i (a.1.atD 0 ![290])

/-- The output is stored at every block. -/
theorem idle5 (hO : Ok m) (t : Fin (cfgM m hO).N) : (cfgM m hO).idle 5 ((cfgM m hO).grid.coords t) = false :=
  idle_any (adm m hO) (grid0.coords t)

set_option maxHeartbeats 1600000 in
/-- The library's body obligation. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have h : ∀ b : Bool, b = false → bodyPost m hO c t ⊢ iprop((dats m hO 0 c).Φ t.succ ∗ (dats m hO 0 c).owesAt () t.succ
      ∗ owns (c : Thread nD τ) (ms0_0 m hO t) fullShare ((dats m hO 0 c).after 0 t)
      ∗ owns (c : Thread nD τ) (ms0_1 m hO t) fullShare ((dats m hO 0 c).after 1 t)
      ∗ owns (c : Thread nD τ) (ms0_2 m hO t) fullShare ((dats m hO 0 c).after 2 t)
      ∗ owns (c : Thread nD τ) (ms0_3 m hO t) fullShare ((dats m hO 0 c).after 3 t)
      ∗ owns (c : Thread nD τ) (ms0_4 m hO t) fullShare ((dats m hO 0 c).after 4 t)
      ∗ (match b with
        | true => match ((cfgM m hO).win 5).flush t with
          | false => iprop(∃ d, owns (c : Thread nD τ) (ms0_5 m hO t) fullShare ((dats m hO 0 c).before 5 t d))
          | true => owns (c : Thread nD τ) (ms0_5 m hO t) fullShare ((dats m hO 0 c).after 5 t)
        | false => owns (c : Thread nD τ) (ms0_5 m hO t) fullShare ((dats m hO 0 c).after 5 t))) := by
    rintro _ rfl; exact .rfl
  exact h ((cfgM m hO).idle 5 ((cfgM m hO).grid.coords t)) (idle5 m hO t)

/-! ## The run and the frame -/

theorem hin (hO : Ok m) (c : Dev nD) : iprop(Pipeline.ΦA spec0 c ∗ Pipeline.ΦT pre0 (tbl m) c) ⊢ (dats m hO 0 c).Φ 0 := by
  rw [show (dats m hO 0 c).Φ 0 = PhiE m hO c 0 from rfl, PhiT0_eq, PhiA0_eq]
  unfold PhiE
  iintro ⟨⟨⟨⟨%s0, HS0⟩, ⟨%s1, HS1⟩⟩, Hg⟩, HT0⟩
  iexists _, _; isplitr
  swap
  · isplitl [HS0]; · iexact HS0
    isplitl [HS1]; · iexact HS1
    isplitl [Hg]; · iexact Hg
    iexact HT0
  ipureintro
  intro t ht _; exact absurd ht (Nat.succ_ne_zero _)

theorem hout (hO : Ok m) (c : Dev nD) : (dats m hO 0 c).Φ (Fin.last (cfgM m hO).N) ⊢ Pipeline.ΦA spec0 c := by
  rw [show (dats m hO 0 c).Φ (Fin.last (cfgM m hO).N) = PhiE m hO c (cfgM m hO).N from rfl, PhiA0_eq]
  unfold PhiE
  iintro ⟨%s0, %s1, -, HS0, HS1, Hg, -⟩
  isplitl [HS0 HS1]
  · isplitl [HS0]
    · iexists _; iexact HS0
    · iexists _; iexact HS1
  iexact Hg

set_option backward.isDefEq.respectTransparency.types false in
/-- The launch, every counter at zero at its end. -/
theorem run_main_counters (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The launch. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_counters m ρ hO)

/-- The frame, at any float values, for tables whose blocks lie inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) (run_main m ρ hO)) ((θ_run defs _ _).mono (fun _ h => h.2) (run_main_counters m ρ hO))

end Cert.Kernel2Ideal.Exp

end
-- ==== Proof.ExpSame.lean ====
/-
  The experts' program and its idealization have the same text, so the run of the one is the run of the other.
-/
module

public import proofs.«01_k».proof.Defs
public import proofs.«01_k».proof.Proof.Gen.Kernel2
public import proofs.«01_k».proof.Proof.Gen.Kernel2Ideal
public import proofs.«01_k».proof.Proof.ExpFrame

@[expose] public section

set_option maxRecDepth 16384

noncomputable section

open Idealize.ShloMosaic Idealize.ShloMosaic.TcCoe Idealize.SL.Sem

namespace Cert.Proof.ExpSame

local instance : Cert.Kernel2.Facts := Cert.Kernel2.Gen.facts
local instance : Cert.Kernel2Ideal.Facts := Cert.Kernel2Ideal.Gen.facts
variable {F : FTy → Type} [FloatOps F]

/-- The body. -/
theorem body_eq (i : Cert.Kernel2Ideal.grid0.Coords) : Cert.Kernel2.cc0__experts_v01_kernel (F := F) i = Cert.Kernel2Ideal.cc0__experts_v01_kernel (F := F) i := (rfl)

/-- The body table. -/
theorem tab_eq : Cert.Kernel2.defs₀ (F := F) = Cert.Kernel2Ideal.defs₀ (F := F) := by
  refine congrArg (Defs.onTc (nD := Cert.Kernel2Ideal.nD) (τ := Cert.Kernel2Ideal.τ) (sig := Cert.Kernel2Ideal.sig) (Λ := Cert.Kernel2Ideal.Λ₀)) ?_
  funext l x
  rcases l with ⟨_ | n, hl⟩
  · rcases x with ⟨t, s⟩
    exact (rfl)
  · exact absurd hl (by omega)

/-- The definitions. -/
theorem defs_eq : Cert.Kernel2.defs (F := F) = Cert.Kernel2Ideal.defs (F := F) :=
  congrArg (Pipeline.defs (Cert.Kernel2Ideal.pcfgs (F := F))) tab_eq

/-- The call. -/
theorem dom_eq : Cert.Kernel2.pcfg0 (F := F) = Cert.Kernel2Ideal.pcfg0 (F := F) := (rfl)

set_option maxHeartbeats 4000000 in
/-- The program. -/
theorem main_eq : Cert.Kernel2.main (F := F) = Cert.Kernel2Ideal.main (F := F) := by
  unfold Cert.Kernel2.main Cert.Kernel2Ideal.main
  exact (rfl)

/-- A post of the idealization's run is one of the program's. -/
theorem run_of (m : (ℓ : Loc Cert.Kernel2Ideal.nD Cert.Kernel2Ideal.τ Cert.Kernel2Ideal.sig) → Buf (Elt F) ℓ) (ρ : Dev Cert.Kernel2Ideal.nD → PrngReg) {P : _}
    (h : θ_run (Cert.Kernel2Ideal.defs (F := F)) (onTc (τ := Cert.Kernel2Ideal.τ) (Cert.Kernel2Ideal.main (F := F))) ⟨m, fun _ => 0, ρ⟩ P) :
    θ_run (Cert.Kernel2.defs (F := F)) (onTc (τ := Cert.Kernel2.τ) (Cert.Kernel2.main (F := F))) ⟨m, fun _ => 0, ρ⟩ P := by
  rw [← main_eq, ← defs_eq] at h
  exact h

end Cert.Proof.ExpSame
end
-- ==== Proof.ExpTab.lean ====
/- The experts' call: the table of block experts under the precondition, and that every block then lies inside its
   array. -/
module

public import proofs.«01_k».proof.Defs
public import proofs.«01_k».proof.Proof.ExpFrame
public import proofs.«01_k».proof.Proof.Gen.Pre_routed
public import Idealize.ShloMosaic.Lib.Affine
public import Idealize.ShloMosaic.Lib.Pipeline.ValueKit
public import Idealize.ShloMosaic.Lib.Pointwise

@[expose] public section

set_option maxRecDepth 16384

noncomputable section

namespace Cert.Kernel2Ideal.Exp

open Idealize.ShloMosaic Idealize.ShloMosaic.TcCoe Idealize.ShloMosaic.Tactic
open Idealize.SL Idealize.SL.Sem
open Cert.Kernel2Ideal.Gen

variable {F : FTy → Type} [FloatOps F]

variable (m : (ℓ : Loc nD τ sig) → Buf (Elt F) ℓ) (ρ : Dev nD → PrngReg)

/-- The expert of block `k`. -/
def eb (k : Fin 290) : BitVec 32 := (m (((0 : Dev nD) : Thread nD τ).loc main_arg1) : IVec S290 32) (ix1 k)
/-- The number of live blocks. -/
def nl : BitVec 32 := (m (((0 : Dev nD) : Thread nD τ).loc main_arg2) : IVec S1 32) (ix1 0)

theorem tbl_e (k : Fin 290) : (tbl m 0 : IVec S292 32) (ix1 ⟨k.val, by omega⟩) = eb m k := by
  show (V m (0 : Dev nD) main_v4 : IVec S292 32) (ix1 ⟨k.val, by omega⟩) = eb m k
  simp only [V, hostOps0]
  after_results_simp
  pointwise
  rfl

theorem tbl_live : (tbl m 0 : IVec S292 32) (ix1 ⟨290, by omega⟩) = nl m * 256#32 := by
  show (V m (0 : Dev nD) main_v4 : IVec S292 32) (ix1 ⟨290, by omega⟩) = _
  simp only [V, hostOps0]
  after_results_simp
  pointwise
  after_results_simp
  pointwise
  rfl

theorem tbl_last : (tbl m 0 : IVec S292 32) (ix1 ⟨291, by omega⟩) = nl m - 1#32 := by
  show (V m (0 : Dev nD) main_v4 : IVec S292 32) (ix1 ⟨291, by omega⟩) = _
  simp only [V, hostOps0]
  after_results_simp
  pointwise
  after_results_simp
  pointwise
  rfl

theorem word_at (c : Dev nD) (off : Fin 1 → ℕ) (h : ∀ a, off a + S1.size a ≤ S292.size a) (k : ℕ) (hk : k < 292) (e : off 0 = k) :
    word c (tbl m 0) off h = (tbl m 0 : IVec S292 32) (ix1 ⟨k, hk⟩) := by
  show (tbl m 0 : IVec S292 32) _ = _
  refine congrArg (tbl m 0 : IVec S292 32) ?_
  funext (a : Fin 1)
  obtain rfl : a = 0 := Subsingleton.elim _ _
  apply Fin.ext
  subst e
  rfl

/-- The tables the precondition admits: experts among the 32, at least one live block, no more than the blocks. -/
structure Routed : Prop where
  e : ∀ k, (eb m k).toNat < 32
  n1 : 1 ≤ (nl m).toNat
  n2 : (nl m).toNat ≤ 290

theorem routed_of [Cert.Pre_routed.Facts] (a0 : FVec F S74240x8x128 .f32) (a3 : FVec F S32x1024x2048 .f32) (a4 : FVec F S32x2048 .f32) (a5 : FVec F S32x1024x1024 .f32)
    (a6 : FVec F S32x1024 .f32)
    (h : Cert.Pre_routed.fn (F := F) a0 (m (((0 : Dev nD) : Thread nD τ).loc main_arg1)) (m (((0 : Dev nD) : Thread nD τ).loc main_arg2)) a3 a4 a5 a6 = fun _ => 1#1) :
    Routed m := by
  have key : ∀ k : Fin 290, (0#32).toInt ≤ (eb m k).toInt ∧ (eb m k).toInt < (32#32).toInt ∧ (1#32).toInt ≤ (nl m).toInt ∧ (nl m).toInt ≤ (290#32).toInt := fun k => by
    have hk : IntOp.andi (IntOp.andi (IntOp.andi (IntOp.cmpi .sge (eb m k) 0#32) (IntOp.cmpi .slt (eb m k) 32#32)) (IntOp.cmpi .sge (nl m) 1#32))
        (IntOp.cmpi .sle (nl m) 290#32) = 1#1 := by
      refine Eq.trans ?_ (congrFun h (ix1 k))
      simp only [Cert.Pre_routed.fn]
      pointwise
      rfl
    rw [WordCmp.cmpi_sge_eq, WordCmp.cmpi_slt_eq, WordCmp.cmpi_sge_eq, WordCmp.cmpi_sle_eq, WordCmp.andi_ofBool, WordCmp.andi_ofBool, WordCmp.andi_ofBool,
      WordCmp.ofBool_eq_one_iff] at hk
    simp only [Bool.and_eq_true, decide_eq_true_eq] at hk
    tauto
  have hz : (0#32 : BitVec 32).toInt = 0 := by decide
  have h1 : (1#32 : BitVec 32).toInt = 1 := by decide
  have h32 : (32#32 : BitVec 32).toInt = 32 := by decide
  have h290 : (290#32 : BitVec 32).toInt = 290 := by decide
  rw [hz, h32, h1, h290] at key
  have nn : ∀ x : BitVec 32, 0 ≤ x.toInt → (x.toNat : ℤ) = x.toInt := fun x hx => by
    rw [BitVec.toInt_eq_toNat_cond] at hx ⊢; split at hx <;> rename_i hh
    · rw [if_pos hh]
    · have := x.isLt; omega
  refine ⟨fun k => ?_, ?_, ?_⟩
  · have := key k; have := nn _ this.1; omega
  · have := key 0; have := nn (nl m) (by omega); omega
  · have := key 0; have := nn (nl m) (by omega); omega

theorem minsi_toNat (a b : BitVec 32) (ha : a.toNat < 2 ^ 31) (hb : b.toNat < 2 ^ 31) : (Scalar.minsi a b).toNat = min a.toNat b.toNat := by
  show (if a.slt b then a else b).toNat = _
  have e : a.slt b = decide (a.toNat < b.toNat) := by
    show decide (a.toInt < b.toInt) = _
    rw [WordCmp.toInt_eq_toNat_of_lt_half ha, WordCmp.toInt_eq_toNat_of_lt_half hb]
    exact decide_eq_decide.mpr Int.ofNat_lt
  rw [e]
  by_cases h : a.toNat < b.toNat
  · rw [decide_eq_true h, if_pos rfl]; omega
  · rw [decide_eq_false h, if_neg (by decide)]; omega

variable {m}

theorem nl_sub (h : Routed m) : (nl m - 1#32).toNat = (nl m).toNat - 1 := by
  have := h.n1; have := h.n2
  rw [BitVec.toNat_sub]
  show (2 ^ 32 - 1 + (nl m).toNat) % 2 ^ 32 = _
  omega

theorem nl_mul (h : Routed m) : (nl m * 256#32).toInt = (256 * (nl m).toNat : ℤ) := by
  have := h.n2
  have e : (nl m * 256#32).toNat = 256 * (nl m).toNat := by
    rw [BitVec.toNat_mul]
    show (nl m).toNat * 256 % 2 ^ 32 = _
    omega
  rw [WordCmp.toInt_eq_toNat_of_lt_half (by rw [e]; show _ < 2 ^ 31; omega), e]
  push_cast; rfl

/-- Block `t` is live when its position is below the number of live blocks. -/
theorem live_iff (h : Routed m) (c : Dev nD) (t : Fin grid0.N) : live m c t ↔ t.val < (nl m).toNat := by
  have e : wLive c (tbl m 0) = nl m * 256#32 := (word_at m c _ _ 290 (by decide) rfl).trans (tbl_live m)
  unfold live
  rw [cond2_iff, e, nl_mul h, coords_val]
  omega

theorem off1_val (i : grid0.Coords) : k0_off1 i 0 = (i 0).val := by
  have hi : (i 0).val < 290 := (i 0).isLt
  have key : ∀ n : Fin 290, (Scalar.indexCast (BitVec.ofNat 32 n.val) : Index).toNat = n.val := by decide +kernel
  exact key ⟨(i 0).val, hi⟩

/-- The index words: the block's expert, and the block of rows brought in. -/
theorem ix_e (i : grid0.Coords) : ((tbl m).at 0 (Rect.unit (s := S292) (k0_off1 i) S1.size (k0_off1_inb i)) numel1_S1 : BitVec 32) = eb m ⟨(i 0).val, (i 0).isLt⟩ :=
  (word_at m 0 _ (k0_off1_inb i) (i 0).val (by have : (i 0).val < 290 := (i 0).isLt; omega) (off1_val i)).trans (tbl_e m ⟨(i 0).val, (i 0).isLt⟩)

theorem ix_x (h : Routed m) (i : grid0.Coords) :
    (Scalar.minsi (BitVec.ofNat 32 (i 0).val) ((tbl m).at 0 (Rect.unit (s := S292) ![291] S1.size inb_S292_S1_291) numel1_S1 : BitVec 32)).toNat
      = min (i 0).val ((nl m).toNat - 1) := by
  have hi : (i 0).val < 290 := (i 0).isLt
  have e : ((tbl m).at 0 (Rect.unit (s := S292) ![291] S1.size inb_S292_S1_291) numel1_S1 : BitVec 32) = nl m - 1#32 :=
    (word_at m 0 _ inb_S292_S1_291 291 (by decide) rfl).trans (tbl_last m)
  have := h.n2
  rw [e, minsi_toNat _ _ (by rw [BitVec.toNat_ofNat]; omega) (by rw [nl_sub h]; omega), nl_sub h, BitVec.toNat_ofNat]
  congr 1; omega

/-- The block of rows brought in at a point. -/
theorem tr_x (h : Routed m) (i : grid0.Coords) : cc0_transform_0 inb_S292_S1_291 numel1_S1 (tbl m) i = ![min (i 0).val ((nl m).toNat - 1), 0, 0] := by
  show ![_, _, _] = _
  rw [← ix_x h i]; rfl

/-- The expert whose weights are brought in at a point. -/
theorem tr_e (i : grid0.Coords) : cc0_transform_1 k0_off1_inb numel1_S1 (tbl m) i = ![(eb m ⟨(i 0).val, (i 0).isLt⟩).toNat, 0, 0] := by
  show ![_, _, _] = _
  rw [← ix_e i]; rfl

/-- Under the precondition every block lies inside its array. -/
theorem ok_of (h : Routed m) : Ok m := by
  have hx := fun i => tr_x h i
  have he := fun i => tr_e (m := m) i
  have hb := fun i : grid0.Coords => h.e ⟨(i 0).val, (i 0).isLt⟩
  refine ⟨fun i => ⟨?_, .inl rfl⟩, fun i => ⟨?_, .inl rfl⟩, fun i => ⟨?_, .inl rfl⟩, fun i => ⟨?_, .inl rfl⟩, fun i => ⟨?_, .inl rfl⟩⟩
  · rw [hx]; have hi : (i 0).val < 290 := (i 0).isLt
    intro (a : Fin 3); fin_cases a
    · show (min (i 0).val ((nl m).toNat - 1) + 1) * 256 ≤ 74240; have := min_le_left (i 0).val ((nl m).toNat - 1); omega
    · show (0 + 1) * 8 ≤ 8; omega
    · show (0 + 1) * 128 ≤ 128; omega
  · rw [he]; have := hb i
    intro (a : Fin 3); fin_cases a
    · show ((eb m ⟨(i 0).val, (i 0).isLt⟩).toNat + 1) * 1 ≤ 32; omega
    · show (0 + 1) * 1024 ≤ 1024; omega
    · show (0 + 1) * 2048 ≤ 2048; omega
  · rw [show cc0_transform_2 k0_off1_inb numel1_S1 (tbl m) i = _ from he i]; have := hb i
    intro (a : Fin 3); fin_cases a
    · show ((eb m ⟨(i 0).val, (i 0).isLt⟩).toNat + 1) * 1 ≤ 32; omega
    · show (0 + 1) * 1 ≤ 1; omega
    · show (0 + 1) * 2048 ≤ 2048; omega
  · rw [show cc0_transform_3 k0_off1_inb numel1_S1 (tbl m) i = _ from he i]; have := hb i
    intro (a : Fin 3); fin_cases a
    · show ((eb m ⟨(i 0).val, (i 0).isLt⟩).toNat + 1) * 1 ≤ 32; omega
    · show (0 + 1) * 1024 ≤ 1024; omega
    · show (0 + 1) * 1024 ≤ 1024; omega
  · rw [show cc0_transform_4 k0_off1_inb numel1_S1 (tbl m) i = _ from he i]; have := hb i
    intro (a : Fin 3); fin_cases a
    · show ((eb m ⟨(i 0).val, (i 0).isLt⟩).toNat + 1) * 1 ≤ 32; omega
    · show (0 + 1) * 1 ≤ 1; omega
    · show (0 + 1) * 1024 ≤ 1024; omega

end Cert.Kernel2Ideal.Exp

end
-- ==== Proof.ExpForm.lean ====
/- One row of a block through the two layers of its expert. -/
module

public import Idealize.ShloMosaic.Lib.Pointwise
public import Idealize.ShloMosaic.PureOps.Ideal

@[expose] public section

set_option maxRecDepth 16384

noncomputable section

open Idealize.ShloMosaic

namespace Cert.Proof.ExpForm

/-- The gated activation of one column: the gate capped at 7 and passed through `g * σ(1.702 g)`, the linear part held
    between -7 and 7 and raised by one. -/
def act (g l : EReal) : EReal :=
  (min (Ideal.ofBits .f32 0x40E00000#32) (max (Ideal.ofBits .f32 0xC0E00000#32) l) + 1)
    * (min g (Ideal.ofBits .f32 0x40E00000#32) * Ideal.logistic (Ideal.ofBits .f32 0x3FD9DB23#32 * min g (Ideal.ofBits .f32 0x40E00000#32)))

/-- Column `k` of the first layer. -/
def lin (x : Fin 1024 → EReal) (w : Fin 1024 → Fin 2048 → EReal) (b : Fin 2048 → EReal) (k : Fin 2048) : EReal :=
  ∑ d : Fin 1024, x d * w d k + b k

/-- Column `q` of the second layer, of the activation of the first. -/
def ffn (x : Fin 1024 → EReal) (w1 : Fin 1024 → Fin 2048 → EReal) (b1 : Fin 2048 → EReal) (w2 : Fin 1024 → Fin 1024 → EReal)
    (b2 : Fin 1024 → EReal) (q : Fin 1024) : EReal :=
  ∑ h : Fin 1024, act (lin x w1 b1 ⟨h, by omega⟩) (lin x w1 b1 ⟨1024 + h, by omega⟩) * w2 h q + b2 q

theorem ffn_congr {x x' : Fin 1024 → EReal} {w1 w1' : Fin 1024 → Fin 2048 → EReal} {b1 b1' : Fin 2048 → EReal} {w2 w2' : Fin 1024 → Fin 1024 → EReal}
    {b2 b2' : Fin 1024 → EReal} (hx : ∀ d, x d = x' d) (h1 : ∀ d k, w1 d k = w1' d k) (hb1 : ∀ k, b1 k = b1' k) (h2 : ∀ h q, w2 h q = w2' h q)
    (hb2 : ∀ q, b2 q = b2' q) (q : Fin 1024) : ffn x w1 b1 w2 b2 q = ffn x' w1' b1' w2' b2' q := by
  obtain rfl : x = x' := funext hx
  obtain rfl : w1 = w1' := funext fun d => funext (h1 d)
  obtain rfl : b1 = b1' := funext hb1
  obtain rfl : w2 = w2' := funext fun d => funext (h2 d)
  obtain rfl : b2 = b2' := funext hb2
  rfl

end Cert.Proof.ExpForm

end
-- ==== Proof.ExpPay.lean ====
/- What a live block of the experts' call computes of its rows and its expert's weights, read at an index. -/
module

public import proofs.«01_k».proof.Proof.ExpForm
public import proofs.«01_k».proof.Proof.Gen.Kernel2Ideal.Skeleton

@[expose] public section

set_option maxRecDepth 16384

noncomputable section

open Idealize.ShloMosaic Idealize.ShloMosaic.TcCoe Idealize.SL.Sem

namespace Cert.Proof.ExpPay

open Cert.Kernel2Ideal Cert.Kernel2Ideal.Gen Cert.Proof.ExpForm

theorem pay1_at (w : Vec Ideal S1x1024x2048 .f32) (d : Fin 1024) (k : Fin 2048) : k0_pay1 w (ix2 d k) = w (ix3 0 d k) := by
  pointwise [k0_pay1]

theorem pay2_at (w : Vec Ideal S1x1024x1024 .f32) (h q : Fin 1024) : k0_pay2 w (ix2 h q) = w (ix3 0 h q) := by
  pointwise [k0_pay2]

theorem pay4_at (r : Fin 256) (a : Fin 8) (b : Fin 128) : k0_pay4 (F := Ideal) (ix3 r a b) = 0 := by
  pointwise [k0_pay4]

/-- Row `r` of a block, its eight tiles side by side. -/
def rowK (x : Vec Ideal S256x8x128 .f32) (r : Fin 256) (d : Fin 1024) : EReal := x (ix3 r ⟨(d : ℕ) / 128, by omega⟩ ⟨(d : ℕ) % 128, by omega⟩)

theorem pay3_at (x : Vec Ideal S256x8x128 .f32) (w1 : Vec Ideal S1024x2048 .bf16) (b1 : Vec Ideal S1x1x2048 .f32) (w2 : Vec Ideal S1024x1024 .bf16)
    (b2 : Vec Ideal S1x1x1024 .f32) (r : Fin 256) (a : Fin 8) (b : Fin 128) :
    k0_pay3 x w1 b1 w2 b2 (ix3 r a b)
      = ffn (rowK x r) (fun d k => w1 (ix2 d k)) (fun k => b1 (ix3 0 0 k)) (fun h q => w2 (ix2 h q)) (fun q => b2 (ix3 0 0 q)) ⟨(a : ℕ) * 128 + b, by omega⟩ := by
  pointwise [k0_pay3]
  unfold ffn act lin rowK
  rfl

end Cert.Proof.ExpPay

end
-- ==== Proof.ExpVal.lean ====
/- The experts' call: the blocks read at an index, and the output array after the run. -/
module

public import proofs.«01_k».proof.Proof.ExpTab
public import proofs.«01_k».proof.Proof.ExpPay

@[expose] public section

set_option maxRecDepth 16384

noncomputable section

namespace Cert.Kernel2Ideal.Exp

open Idealize.ShloMosaic Idealize.ShloMosaic.TcCoe Idealize.ShloMosaic.Tactic
open Idealize.SL Idealize.SL.Sem
open Cert.Kernel2Ideal.Gen
open Cert.Proof.ExpForm Cert.Proof.ExpPay

variable (m : (ℓ : Loc nD τ sig) → Buf (Elt Ideal) ℓ) (c : Dev nD)

theorem b1_tab (n : Fin 32) (k : Fin 2048) : (V m c main_v5 : FVec Ideal S32x1x2048 .f32) (ix3 n 0 k)
    = (m ((c : Thread nD τ).loc main_arg4) : FVec Ideal S32x2048 .f32) (ix2 n k) := by
  simp only [V, hostOps0]
  after_results_simp
  pointwise
  try rfl

theorem b2_tab (n : Fin 32) (k : Fin 1024) : (V m c main_v6 : FVec Ideal S32x1x1024 .f32) (ix3 n 0 k)
    = (m ((c : Thread nD τ).loc main_arg6) : FVec Ideal S32x1024 .f32) (ix2 n k) := by
  simp only [V, hostOps0]
  after_results_simp
  pointwise
  try rfl

variable {m} (h : Routed m) (hO : Ok m) (t : Fin (cfgM m hO).N)

theorem pt_lt : t.val < 290 := t.isLt

/-- The expert of the block at a point. -/
def ex : Fin 32 := ⟨(eb m ⟨t.val, pt_lt hO t⟩).toNat, h.e _⟩

theorem eb_coords : eb m ⟨(grid0.coords t 0).val, (grid0.coords t 0).isLt⟩ = eb m ⟨t.val, pt_lt hO t⟩ :=
  congrArg (eb m) (Fin.ext (coords_val t))

include h in
theorem idx_x (hl : t.val < (nl m).toNat) : ((cfgM m hO).win 0).index t = ![t.val, 0, 0] := by
  show cc0_transform_0 inb_S292_S1_291 numel1_S1 (tbl m) (grid0.coords t) = _
  rw [tr_x h, coords_val, min_eq_left (by omega)]

theorem idx_w1 : ((cfgM m hO).win 1).index t = ![(ex h hO t).val, 0, 0] := by
  show cc0_transform_1 k0_off1_inb numel1_S1 (tbl m) (grid0.coords t) = _
  rw [tr_e, eb_coords hO t]; rfl

theorem idx_b1 : ((cfgM m hO).win 2).index t = ![(ex h hO t).val, 0, 0] := idx_w1 h hO t
theorem idx_w2 : ((cfgM m hO).win 3).index t = ![(ex h hO t).val, 0, 0] := idx_w1 h hO t
theorem idx_b2 : ((cfgM m hO).win 4).index t = ![(ex h hO t).val, 0, 0] := idx_w1 h hO t

theorem idx_o : ((cfgM m hO).win 5).index t = ![t.val, 0, 0] := by
  show ![_, _, _] = _
  have ht := pt_lt hO t
  have e : (BitVec.ofNat 32 (grid0.coords t 0).val).toNat = t.val := by rw [coords_val, BitVec.toNat_ofNat]; omega
  first
    | rfl
    | (rw [← e]; rfl)

/-- The row of the arrays that row `r` of the block at point `t` is. -/
def row (t : ℕ) (ht : t < 290) (r : Fin 256) : Fin 74240 := ⟨t * 256 + r, by omega⟩

include h in
theorem x_blk (hl : t.val < (nl m).toNat) (r : Fin 256) (a : Fin 8) (b : Fin 128) : (iblk m hO c 0 t : FVec Ideal S256x8x128 .f32) (ix3 r a b)
    = (m ((c : Thread nD τ).loc main_arg0) : FVec Ideal S74240x8x128 .f32) (ix3 (row t.val (pt_lt hO t) r) a b) := by
  have e : (((cfgM m hO).win 0).blk t).view.emb (ix3 r a b) = (ix3 (row t.val (pt_lt hO t) r) a b) := by
    refine funext fun (k : Fin 3) => Fin.ext ?_
    show ((cfgM m hO).win 0).index t k * S256x8x128.size k + 1 * (ix3 r a b k).val = _
    rw [idx_x h hO t hl]
    match k with
    | ⟨0, _⟩ => show t.val * 256 + 1 * r.val = t.val * 256 + r.val; omega
    | ⟨1, _⟩ => show 0 * 8 + 1 * a.val = a.val; omega
    | ⟨2, _⟩ => show 0 * 128 + 1 * b.val = b.val; omega
  exact (congrArg (V m c main_arg0) e).trans (congrFun (V_main_arg0 m c) _)

theorem w1_blk (d : Fin 1024) (k : Fin 2048) : (iblk m hO c 1 t : FVec Ideal S1x1024x2048 .f32) (ix3 0 d k)
    = (m ((c : Thread nD τ).loc main_arg3) : FVec Ideal S32x1024x2048 .f32) (ix3 (ex h hO t) d k) := by
  have e : (((cfgM m hO).win 1).blk t).view.emb (ix3 (0 : Fin 1) d k) = (ix3 (ex h hO t) d k) := by
    refine funext fun (u : Fin 3) => Fin.ext ?_
    show ((cfgM m hO).win 1).index t u * S1x1024x2048.size u + 1 * (ix3 (0 : Fin 1) d k u).val = _
    rw [idx_w1 h hO t]
    match u with
    | ⟨0, _⟩ => show (ex h hO t).val * 1 + 1 * 0 = (ex h hO t).val; omega
    | ⟨1, _⟩ => show 0 * 1024 + 1 * d.val = d.val; omega
    | ⟨2, _⟩ => show 0 * 2048 + 1 * k.val = k.val; omega
  exact (congrArg (V m c main_arg3) e).trans (congrFun (V_main_arg3 m c) _)

theorem b1_blk (k : Fin 2048) : (iblk m hO c 2 t : FVec Ideal S1x1x2048 .f32) (ix3 0 0 k)
    = (m ((c : Thread nD τ).loc main_arg4) : FVec Ideal S32x2048 .f32) (ix2 (ex h hO t) k) := by
  have e : (((cfgM m hO).win 2).blk t).view.emb (ix3 (0 : Fin 1) (0 : Fin 1) k) = (ix3 (ex h hO t) 0 k) := by
    refine funext fun (u : Fin 3) => Fin.ext ?_
    show ((cfgM m hO).win 2).index t u * S1x1x2048.size u + 1 * (ix3 (0 : Fin 1) (0 : Fin 1) k u).val = _
    rw [idx_b1 h hO t]
    match u with
    | ⟨0, _⟩ => show (ex h hO t).val * 1 + 1 * 0 = (ex h hO t).val; omega
    | ⟨1, _⟩ => show 0 * 1 + 1 * 0 = 0; omega
    | ⟨2, _⟩ => show 0 * 2048 + 1 * k.val = k.val; omega
  exact (congrArg (V m c main_v5) e).trans (b1_tab m c _ _)

theorem w2_blk (d q : Fin 1024) : (iblk m hO c 3 t : FVec Ideal S1x1024x1024 .f32) (ix3 0 d q)
    = (m ((c : Thread nD τ).loc main_arg5) : FVec Ideal S32x1024x1024 .f32) (ix3 (ex h hO t) d q) := by
  have e : (((cfgM m hO).win 3).blk t).view.emb (ix3 (0 : Fin 1) d q) = (ix3 (ex h hO t) d q) := by
    refine funext fun (u : Fin 3) => Fin.ext ?_
    show ((cfgM m hO).win 3).index t u * S1x1024x1024.size u + 1 * (ix3 (0 : Fin 1) d q u).val = _
    rw [idx_w2 h hO t]
    match u with
    | ⟨0, _⟩ => show (ex h hO t).val * 1 + 1 * 0 = (ex h hO t).val; omega
    | ⟨1, _⟩ => show 0 * 1024 + 1 * d.val = d.val; omega
    | ⟨2, _⟩ => show 0 * 1024 + 1 * q.val = q.val; omega
  exact (congrArg (V m c main_arg5) e).trans (congrFun (V_main_arg5 m c) _)

theorem b2_blk (q : Fin 1024) : (iblk m hO c 4 t : FVec Ideal S1x1x1024 .f32) (ix3 0 0 q)
    = (m ((c : Thread nD τ).loc main_arg6) : FVec Ideal S32x1024 .f32) (ix2 (ex h hO t) q) := by
  have e : (((cfgM m hO).win 4).blk t).view.emb (ix3 (0 : Fin 1) (0 : Fin 1) q) = (ix3 (ex h hO t) 0 q) := by
    refine funext fun (u : Fin 3) => Fin.ext ?_
    show ((cfgM m hO).win 4).index t u * S1x1x1024.size u + 1 * (ix3 (0 : Fin 1) (0 : Fin 1) q u).val = _
    rw [idx_b2 h hO t]
    match u with
    | ⟨0, _⟩ => show (ex h hO t).val * 1 + 1 * 0 = (ex h hO t).val; omega
    | ⟨1, _⟩ => show 0 * 1 + 1 * 0 = 0; omega
    | ⟨2, _⟩ => show 0 * 1024 + 1 * q.val = q.val; omega
  exact (congrArg (V m c main_v6) e).trans (b2_tab m c _ _)

/-- What the call leaves at row `r`, tile `a`, lane `b` of the block at point `t`. -/
theorem out_point (r : Fin 256) (a : Fin 8) (b : Fin 128) : outAt m hO c t (ix3 r a b)
    = if t.val < (nl m).toNat then
        ffn (fun d => (m ((c : Thread nD τ).loc main_arg0) : FVec Ideal S74240x8x128 .f32) (ix3 (row t.val (pt_lt hO t) r) ⟨(d : ℕ) / 128, by omega⟩ ⟨(d : ℕ) % 128, by omega⟩))
          (fun d k => (m ((c : Thread nD τ).loc main_arg3) : FVec Ideal S32x1024x2048 .f32) (ix3 (ex h hO t) d k))
          (fun k => (m ((c : Thread nD τ).loc main_arg4) : FVec Ideal S32x2048 .f32) (ix2 (ex h hO t) k))
          (fun d q => (m ((c : Thread nD τ).loc main_arg5) : FVec Ideal S32x1024x1024 .f32) (ix3 (ex h hO t) d q))
          (fun q => (m ((c : Thread nD τ).loc main_arg6) : FVec Ideal S32x1024 .f32) (ix2 (ex h hO t) q))
          ⟨(a : ℕ) * 128 + b, by omega⟩
      else 0 := by
  unfold outAt
  by_cases hl : t.val < (nl m).toNat
  · rw [if_pos ((live_iff h c t).mpr hl), if_pos hl]
    refine (pay3_at _ _ _ _ _ r a b).trans ?_
    exact ffn_congr (fun d => x_blk c h hO t hl r _ _) (fun d k => (pay1_at _ d k).trans (w1_blk c h hO t d k)) (fun k => b1_blk c h hO t k)
      (fun d q => (pay2_at _ d q).trans (w2_blk c h hO t d q)) (fun q => b2_blk c h hO t q) _
  · rw [if_neg (fun hh => hl ((live_iff h c t).mp hh)), if_neg hl, pay4_at]

theorem at_coords {α : Type} (f : S256x8x128.Idx → α) (g : Fin 256 → Fin 8 → Fin 128 → α) (hf : ∀ r a b, f (ix3 r a b) = g r a b)
    (y : S256x8x128.Idx) : f y = g (y (0 : Fin 3)) (y (1 : Fin 3)) (y (2 : Fin 3)) := by
  idx_vars y
  exact hf _ _ _

/-- The output array after the run, of a description of its blocks. -/
theorem out_array (G : FVec Ideal S74240x8x128 .f32)
    (hG : ∀ (t : Fin (cfgM m hO).N) (r : Fin 256) (a : Fin 8) (b : Fin 128), outAt m hO c t (ix3 r a b) = G (ix3 (row t.val (pt_lt hO t) r) a b)) :
    (dats m hO 0 c).arrAt 5 (cfgM m hO).N = G := by
  refine (dats m hO 0 c).arrAt_eq_of_emb 5 G (fun t hf y => ?_) (fun i => ?_)
  · have e : (((cfgM m hO).win 5).blk t).view.emb y = ix3 (row t.val (pt_lt hO t) (y (0 : Fin 3))) (y (1 : Fin 3)) (y (2 : Fin 3)) := by
      refine funext fun (k : Fin 3) => Fin.ext ?_
      show ((cfgM m hO).win 5).index t k * S256x8x128.size k + 1 * (y k).val = _
      rw [idx_o hO t]
      match k with
      | ⟨0, _⟩ => show t.val * 256 + 1 * (y (0 : Fin 3)).val = t.val * 256 + (y (0 : Fin 3)).val; omega
      | ⟨1, _⟩ => show 0 * 8 + 1 * (y (1 : Fin 3)).val = (y (1 : Fin 3)).val; omega
      | ⟨2, _⟩ => show 0 * 128 + 1 * (y (2 : Fin 3)).val = (y (2 : Fin 3)).val; omega
    exact ((congrFun (after0_5 m hO c t) _).trans (at_coords (outAt m hO c t) (fun r a b => G (ix3 (row t.val (pt_lt hO t) r) a b)) (hG t) y)).trans (congrArg G e).symm
  · have h0 : (i (0 : Fin 3)).val < 74240 := (i (0 : Fin 3)).isLt
    have h1 : (i (1 : Fin 3)).val < 8 := (i (1 : Fin 3)).isLt
    have h2 : (i (2 : Fin 3)).val < 128 := (i (2 : Fin 3)).isLt
    refine ⟨⟨(i (0 : Fin 3)).val / 256, by show _ < 290; omega⟩, flush0_5 (adm m hO) _, ?_⟩
    refine (Pipeline.Window.emb_mem_blk_iff ((cfgM m hO).win 5) _ i).mpr ?_
    rw [idx_o hO]
    intro (k : Fin 3)
    match k with
    | ⟨0, _⟩ => show (i (0 : Fin 3)).val / 256 * 256 ≤ (i (0 : Fin 3)).val ∧ (i (0 : Fin 3)).val < (i (0 : Fin 3)).val / 256 * 256 + 256; omega
    | ⟨1, _⟩ => show 0 * 8 ≤ (i (1 : Fin 3)).val ∧ (i (1 : Fin 3)).val < 0 * 8 + 8; omega
    | ⟨2, _⟩ => show 0 * 128 ≤ (i (2 : Fin 3)).val ∧ (i (2 : Fin 3)).val < 0 * 128 + 128; omega

end Cert.Kernel2Ideal.Exp

end
-- ==== Proof.ExpStep.lean ====
/- One block of the reference read at an index, and its array after all of them. -/
module

public import proofs.«01_k».proof.Proof.ExpForm
public import proofs.«01_k».proof.Proof.Gen.Reference2Ideal.Step
public import Idealize.ShloMosaic.Lib.WordCmp
public import Idealize.ShloMosaic.Lib.DynamicIndex

@[expose] public section

set_option maxRecDepth 16384

noncomputable section

open Idealize.ShloMosaic Idealize.ShloMosaic.TcCoe Idealize.SL.Sem

namespace Cert.Proof.ExpStep

open Cert.Reference2Ideal Cert.Reference2Ideal.Gen Cert.Reference2Ideal.Step Cert.Proof.ExpForm

section Starts
variable {j : ℕ} {x : (⟨S_, .i32⟩ : BufTy).Contents (Elt Ideal)}

theorem start3 (h : (x (Shape.Idx.first h_S_)).toInt = (j : ℤ)) (y z : (⟨S_, .i32⟩ : BufTy).Contents (Elt Ideal))
    (hy : (y (Shape.Idx.first h_S_)).toInt = 0) (hz : (z (Shape.Idx.first h_S_)).toInt = 0) (a : Fin 3) :
    (((![x, y, z] : Fin 3 → (⟨S_, .i32⟩ : BufTy).Contents (Elt Ideal))) a (Shape.Idx.first h_S_)).toInt = ((![j, 0, 0] : Fin 3 → ℕ) a : ℤ) := by
  match a with
  | ⟨0, _⟩ => exact h
  | ⟨1, _⟩ => exact hy
  | ⟨2, _⟩ => exact hz

theorem start2 (h : (x (Shape.Idx.first h_S_)).toInt = (j : ℤ)) (y : (⟨S_, .i32⟩ : BufTy).Contents (Elt Ideal))
    (hy : (y (Shape.Idx.first h_S_)).toInt = 0) (a : Fin 2) :
    (((![x, y] : Fin 2 → (⟨S_, .i32⟩ : BufTy).Contents (Elt Ideal))) a (Shape.Idx.first h_S_)).toInt = ((![j, 0] : Fin 2 → ℕ) a : ℤ) := by
  match a with
  | ⟨0, _⟩ => exact h
  | ⟨1, _⟩ => exact hy

theorem start1 (h : (x (Shape.Idx.first h_S_)).toInt = (j : ℤ)) (a : Fin 1) :
    (((![x] : Fin 1 → (⟨S_, .i32⟩ : BufTy).Contents (Elt Ideal))) a (Shape.Idx.first h_S_)).toInt = ((![j] : Fin 1 → ℕ) a : ℤ) := by
  match a with
  | ⟨0, _⟩ => exact h

end Starts

theorem num_int (j : ℕ) (hj : j < 290) : ((constantI S_ 32 (BitVec.ofNat 32 j) : (⟨S_, .i32⟩ : BufTy).Contents (Elt Ideal)) (Shape.Idx.first h_S_)).toInt = (j : ℤ) :=
  WordCmp.toInt_ofNat_of_lt (by omega)

theorem fits_x (j : ℕ) (hj : j < 290) : S290x256x1024.Slices ![j, 0, 0] S1x256x1024 := by
  refine ⟨rfl, fun a => ?_⟩
  match a with
  | ⟨0, _⟩ => show j + 1 ≤ 290; omega
  | ⟨1, _⟩ => exact le_refl 256
  | ⟨2, _⟩ => exact le_refl 1024

theorem fits_e (j : ℕ) (hj : j < 290) : S290.Slices ![j] S1 := by
  refine ⟨rfl, fun a => ?_⟩
  match a with
  | ⟨0, _⟩ => show j + 1 ≤ 290; omega

theorem fits_w1 (e : ℕ) (he : e < 32) : S32x1024x2048.Slices ![e, 0, 0] S1x1024x2048 := by
  refine ⟨rfl, fun a => ?_⟩
  match a with
  | ⟨0, _⟩ => show e + 1 ≤ 32; omega
  | ⟨1, _⟩ => exact le_refl 1024
  | ⟨2, _⟩ => exact le_refl 2048

theorem fits_w2 (e : ℕ) (he : e < 32) : S32x1024x1024.Slices ![e, 0, 0] S1x1024x1024 := by
  refine ⟨rfl, fun a => ?_⟩
  match a with
  | ⟨0, _⟩ => show e + 1 ≤ 32; omega
  | ⟨1, _⟩ => exact le_refl 1024
  | ⟨2, _⟩ => exact le_refl 1024

theorem fits_b1 (e : ℕ) (he : e < 32) : S32x2048.Slices ![e, 0] S1x2048 := by
  refine ⟨rfl, fun a => ?_⟩
  match a with
  | ⟨0, _⟩ => show e + 1 ≤ 32; omega
  | ⟨1, _⟩ => exact le_refl 2048

theorem fits_b2 (e : ℕ) (he : e < 32) : S32x1024.Slices ![e, 0] S1x1024 := by
  refine ⟨rfl, fun a => ?_⟩
  match a with
  | ⟨0, _⟩ => show e + 1 ≤ 32; omega
  | ⟨1, _⟩ => exact le_refl 1024

variable (j : Fin 290) (s : State Ideal)

theorem x_slice (r : Fin 256) (d : Fin 1024) : b3 j s (ix2 r d) = s.main_v2_0 (ix3 j r d) := by
  have e : b2 (j : ℕ) s = extractStridedSlice S1x256x1024 ![(j : ℕ), 0, 0] s.main_v2_0 (fits_x j j.isLt) :=
    WordCmp.dynamicSlice_eq_extract _ _ _ _ _ _ (start3 (num_int j j.isLt) _ _ rfl rfl)
  unfold b3
  rw [e]
  pointwise []

theorem e_slice (i : S_.Idx) : b5 j s i = s.main_v2_1 (ix1 j) := by
  have e : b4 (j : ℕ) s = extractStridedSlice S1 ![(j : ℕ)] s.main_v2_1 (fits_e j j.isLt) :=
    WordCmp.dynamicSlice_eq_extract _ _ _ _ _ _ (start1 (num_int j j.isLt))
  unfold b5
  rw [e]
  pointwise []
  try rfl

variable {j s} {n : Fin 32} (hn : s.main_v2_1 (ix1 j) = BitVec.ofNat 32 n)
include hn

theorem e_int (i : S_.Idx) : (b5 j s i).toInt = (n : ℤ) := by
  rw [e_slice, hn]; exact WordCmp.toInt_ofNat_of_lt (by omega)

theorem sel_int (i : S_.Idx) (y : (⟨S_, .i32⟩ : BufTy).Contents (Elt Ideal)) :
    ((select (cmpi .slt (b5 j s) (constantI S_ 32 0#32)) y (b5 j s) : (⟨S_, .i32⟩ : BufTy).Contents (Elt Ideal)) i).toInt = (n : ℤ) := by
  rw [select_slt_zero_of_nonneg _ _ _ _ (by rw [e_int hn]; omega), e_int hn]

theorem w1_slice (d : Fin 1024) (k : Fin 2048) : b28 j s (ix2 d k) = s.main_v2_2 (ix3 n d k) := by
  have e : b27 (j : ℕ) s = extractStridedSlice S1x1024x2048 ![(n : ℕ), 0, 0] s.main_v2_2 (fits_w1 n n.isLt) :=
    WordCmp.dynamicSlice_eq_extract _ _ _ _ _ _ (start3 (sel_int hn _ _) _ _ rfl rfl)
  unfold b28
  rw [e]
  pointwise []

theorem b1_slice (k : Fin 2048) : b44 j s (ix1 k) = s.main_v2_3 (ix2 n k) := by
  have e : b43 (j : ℕ) s = extractStridedSlice S1x2048 ![(n : ℕ), 0] s.main_v2_3 (fits_b1 n n.isLt) :=
    WordCmp.dynamicSlice_eq_extract _ _ _ _ _ _ (start2 (sel_int hn _ _) _ rfl)
  unfold b44
  rw [e]
  pointwise []

theorem w2_slice (h q : Fin 1024) : b99 j s (ix2 h q) = s.main_v2_4 (ix3 n h q) := by
  have e : b98 (j : ℕ) s = extractStridedSlice S1x1024x1024 ![(n : ℕ), 0, 0] s.main_v2_4 (fits_w2 n n.isLt) :=
    WordCmp.dynamicSlice_eq_extract _ _ _ _ _ _ (start3 (sel_int hn _ _) _ _ rfl rfl)
  unfold b99
  rw [e]
  pointwise []

theorem b2_slice (q : Fin 1024) : b115 j s (ix1 q) = s.main_v2_5 (ix2 n q) := by
  have e : b114 (j : ℕ) s = extractStridedSlice S1x1024 ![(n : ℕ), 0] s.main_v2_5 (fits_b2 n n.isLt) :=
    WordCmp.dynamicSlice_eq_extract _ _ _ _ _ _ (start2 (sel_int hn _ _) _ rfl)
  unfold b115
  rw [e]
  pointwise []

theorem lin_at (r : Fin 256) (k : Fin 2048) : b47 j s (ix2 r k)
    = lin (fun d => s.main_v2_0 (ix3 j r d)) (fun d k => s.main_v2_2 (ix3 n d k)) (fun k => s.main_v2_3 (ix2 n k)) k := by
  unfold lin
  simp only [← x_slice, ← w1_slice hn, ← b1_slice hn]
  pointwise [b47, b46, b45, b29]

theorem act_at (r : Fin 256) (h : Fin 1024) : b76 j s (ix2 r h) = act (b47 j s (ix2 r ⟨h, by omega⟩)) (b47 j s (ix2 r ⟨1024 + h, by omega⟩)) := by
  pointwise [b76, b75, b74, b73, b72, b71, b70, b69, b68, b67, b66, b65, b64, b63, b62, b61, b60, b59, b58, b57, b56, b55, b54, b53, b52, b51, b50, b49, b48]
  unfold act
  try rfl

/-- The rows a block leaves. -/
theorem out_at (r : Fin 256) (q : Fin 1024) : b118 j s (ix2 r q)
    = ffn (fun d => s.main_v2_0 (ix3 j r d)) (fun d k => s.main_v2_2 (ix3 n d k)) (fun k => s.main_v2_3 (ix2 n k))
        (fun h q => s.main_v2_4 (ix3 n h q)) (fun q => s.main_v2_5 (ix2 n q)) q := by
  unfold ffn
  simp only [← lin_at hn, ← act_at hn, ← w2_slice hn, ← b2_slice hn]
  pointwise [b118, b117, b116, b100]

omit hn in
/-- The blocks written so far: the trip's own, the others as they were. -/
theorem write_at (c : Fin 290) (r : Fin 256) (q : Fin 1024) : b122 j s (ix3 c r q)
    = if (c : ℕ) = j then b118 j s (ix2 r q) else s.main_v2_7 (ix3 c r q) := by
  have e' : b122 (j : ℕ) s = updateSlice s.main_v2_7 (b119 j s) ![(j : ℕ), 0, 0] (fits_x j j.isLt) :=
    WordCmp.dynamicUpdateSlice_eq_update _ _ _ _ _ _ (start3 (num_int j j.isLt) _ _ rfl rfl)
  rw [e']
  pointwise [b119]
  by_cases h1 : (c : ℕ) = j
  · rw [dif_pos ⟨by omega, by omega⟩, if_pos h1]
  · rw [dif_neg (by omega), if_neg h1]

end Cert.Proof.ExpStep

end
-- ==== Proof.ExpRefRun.lean ====
/- The experts' reference as a sequence of states: block after block, the outputs written so far. -/
module

public import proofs.«01_k».proof.Proof.Gen.Reference2Ideal.Run
public import proofs.«01_k».proof.Proof.Gen.Reference2Ideal.Step

@[expose] public section

set_option maxRecDepth 16384

noncomputable section

namespace Cert.Proof.ExpRefRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step

variable {F : FTy → Type} [FloatOps F]

/-- The states the loop goes through: state number `j` is the one before block `j`. -/
def blocks (s : State F) : ℕ → State F
  | 0 => s
  | j + 1 => step j (blocks s j)

/-- A device's buffers carry state `s` before block `j`. -/
def Carries (V : Valuation τ sig (Elt F)) (s : State F) (j : ℕ) : Prop :=
  V (Proc.devRef .tc main_v2_7) = s.main_v2_7
  ∧ (V (Proc.devRef .tc main_v2_0) = s.main_v2_0 ∧ V (Proc.devRef .tc main_v2_1) = s.main_v2_1
    ∧ V (Proc.devRef .tc main_v2_2) = s.main_v2_2 ∧ V (Proc.devRef .tc main_v2_3) = s.main_v2_3
    ∧ V (Proc.devRef .tc main_v2_4) = s.main_v2_4 ∧ V (Proc.devRef .tc main_v2_5) = s.main_v2_5)
  ∧ V (Proc.devRef .tc main_v2_6) = constantI S_ 32 (BitVec.ofNat 32 j)

variable {V : Valuation τ sig (Elt F)} {s : State F} {j : ℕ}

/-- The outputs a trip leaves. -/
theorem next_out (h : Carries V s j) : Value.step_main_v2_7 V = (step j s).main_v2_7 := by
  obtain ⟨h7, ⟨h0, h1, h2, h3, h4, h5⟩, h6⟩ := h
  unfold Value.step_main_v2_7 res_main_while0b_v36 res_main_while0b_v33 res_main_while0b_v10
  rw [h7, h0, h1, h2, h3, h4, h5, h6]
  rfl

/-- The counter a trip leaves. -/
theorem next_num (h : Carries V s j) : Value.step_main_v2_6 V = constantI S_ 32 (BitVec.ofNat 32 (j + 1)) := by
  unfold Value.step_main_v2_6
  rw [h.2.2]
  funext i
  show BitVec.ofNat 32 j + 1#32 = BitVec.ofNat 32 (j + 1)
  rw [BitVec.ofNat_add]

/-- A trip takes state `s` to `step j s`. -/
theorem carries_next (h : Carries V s j) : Carries (STEP V) (step j s) (j + 1) :=
  ⟨(STEP_main_v2_7 V).trans (next_out h),
   ⟨(STEP_main_v2_0 V).trans h.2.1.1, (STEP_main_v2_1 V).trans h.2.1.2.1, (STEP_main_v2_2 V).trans h.2.1.2.2.1,
    (STEP_main_v2_3 V).trans h.2.1.2.2.2.1, (STEP_main_v2_4 V).trans h.2.1.2.2.2.2.1, (STEP_main_v2_5 V).trans h.2.1.2.2.2.2.2⟩,
   (STEP_main_v2_6 V).trans (next_num h)⟩

variable (m : (ℓ : Loc nD τ sig) → Buf (Elt F) ℓ) (c : Dev nD)

/-- The state before the first block, of the arguments. -/
abbrev first : State F :=
  init (m ((c.tc : Thread nD τ).loc main_arg1)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg0))

set_option maxRecDepth 65536 in
set_option maxHeartbeats 1000000 in
/-- The loop starts from the first state. -/
theorem carries_entry : Carries (entryContents preI m c) (first m c) 0 := by
  refine ⟨?_, ⟨?_, ?_, ?_, ?_, ?_, ?_⟩, ?_⟩ <;>
    (simp only [entryContents, afterL_cons, afterL_nil]; after_reads_simp) <;> rfl

/-- Before block `k` the buffers carry state `k`. -/
theorem carries_all : ∀ k, Carries (STEP^[k] (entryContents preI m c)) (blocks (first m c) k) k
  | 0 => carries_entry m c
  | k + 1 => by
    rw [Function.iterate_succ_apply']
    exact carries_next (carries_all k)

/-- What the operations after the loop make of the last state. -/
theorem finish (h : Carries V s j) {n : (⟨S1, .i32⟩ : BufTy).Contents (Elt F)} (hn : V (Proc.devRef .tc main_arg2) = n) :
    out_main_v8 V = R_main_v8 s n := by
  unfold out_main_v8
  rw [h.1, hn]
  rfl

/-- Every run of the reference ends with the outputs after 290 blocks. -/
theorem run_blocks (ρ : Dev nD → PrngReg) :
    θ_run (defs (F := F)) (onTc (τ := τ) (main (F := F))) ⟨m, fun _ => 0, ρ⟩ fun r => ∀ c : Dev nD,
      r.2.mem ((c.tc : Thread nD τ).loc main_v8) = R_main_v8 (blocks (first m c) 290) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (finish (carries_all m c 290) (iter_main_arg2 m c 290)), (h c).2⟩) (Value.run m ρ)

end Cert.Proof.ExpRefRun

end
-- ==== Proof.ExpRef.lean ====
/- The experts' reference read at an index: its array after all 290 blocks. -/
module

public import proofs.«01_k».proof.Proof.ExpStep
public import proofs.«01_k».proof.Proof.ExpRefRun

@[expose] public section

set_option maxRecDepth 16384

noncomputable section

open Idealize.ShloMosaic Idealize.ShloMosaic.TcCoe Idealize.SL.Sem

namespace Cert.Proof.ExpRef

open Cert.Reference2Ideal Cert.Reference2Ideal.Gen Cert.Reference2Ideal.Step Cert.Proof.ExpForm Cert.Proof.ExpStep Cert.Proof.ExpRefRun

variable (s : State Ideal)

/-- Every trip leaves the rows, the experts and the weights as they are. -/
theorem keeps : ∀ k, (blocks s k).main_v2_0 = s.main_v2_0 ∧ (blocks s k).main_v2_1 = s.main_v2_1 ∧ (blocks s k).main_v2_2 = s.main_v2_2
    ∧ (blocks s k).main_v2_3 = s.main_v2_3 ∧ (blocks s k).main_v2_4 = s.main_v2_4 ∧ (blocks s k).main_v2_5 = s.main_v2_5
  | 0 => ⟨rfl, rfl, rfl, rfl, rfl, rfl⟩
  | k + 1 => keeps k

variable {s} (ex : Fin 290 → Fin 32) (hs : ∀ j, s.main_v2_1 (ix1 j) = BitVec.ofNat 32 (ex j))
include hs

/-- After `k` trips the first `k` blocks are written. -/
theorem written : ∀ k, k ≤ 290 → ∀ (c : Fin 290) (r : Fin 256) (q : Fin 1024), c.val < k → (blocks s k).main_v2_7 (ix3 c r q)
    = ffn (fun d => s.main_v2_0 (ix3 c r d)) (fun d k => s.main_v2_2 (ix3 (ex c) d k)) (fun k => s.main_v2_3 (ix2 (ex c) k))
        (fun h q => s.main_v2_4 (ix3 (ex c) h q)) (fun q => s.main_v2_5 (ix2 (ex c) q)) q
  | 0, _, c, r, q, hc => absurd hc (Nat.not_lt_zero _)
  | k + 1, hk, c, r, q, hc => by
    obtain ⟨k0, k1, k2, k3, k4, k5⟩ := keeps s k
    show (step k (blocks s k)).main_v2_7 (ix3 c r q) = _
    rw [step_main_v2_7]
    refine (write_at (j := ⟨k, by omega⟩) (s := blocks s k) c r q).trans ?_
    by_cases e : c.val = k
    · subst e
      rw [if_pos rfl]
      refine (out_at (j := c) (n := ex c) (by rw [k1]; exact hs _) r q).trans ?_
      rw [k0, k2, k3, k4, k5]
    · rw [if_neg e]
      exact written k (by omega) c r q (by omega)

end Cert.Proof.ExpRef

namespace Cert.Proof.ExpRef

open Cert.Reference2Ideal Cert.Reference2Ideal.Gen Cert.Reference2Ideal.Step Cert.Proof.ExpForm Cert.Proof.ExpStep Cert.Proof.ExpRefRun

/-- A block is live when its number is below the count. -/
theorem live_word (t : Fin 290) (n : BitVec 32) (hn : n.toNat ≤ 290) : (IntOp.cmpi .slt (BitVec.ofNat 32 t.val) n = 1#1) ↔ t.val < n.toNat := by
  rw [WordCmp.cmpi_slt_eq, WordCmp.ofBool_eq_one_iff, decide_eq_true_iff, WordCmp.toInt_ofNat_of_lt (by omega),
    WordCmp.toInt_eq_toNat_of_lt_half (by omega)]
  exact Int.ofNat_lt

/-- The row of the arrays that row `r` of block `t` is. -/
def row (t : Fin 290) (r : Fin 256) : Fin 74240 := ⟨t.val * 256 + r, by omega⟩

theorem rows_at (a0 : (⟨S74240x8x128, .f32⟩ : BufTy).Contents (Elt Ideal)) (t : Fin 290) (r : Fin 256) (d : Fin 1024) :
    A_main_v0 a0 (ix3 t r d) = a0 (ix3 (row t r) ⟨(d : ℕ) / 128, by omega⟩ ⟨(d : ℕ) % 128, by omega⟩) := by
  unfold row
  pointwise [A_main_v0]

theorem res_at (s : State Ideal) (n : (⟨S1, .i32⟩ : BufTy).Contents (Elt Ideal)) (hn : (n (ix1 0)).toNat ≤ 290) (t : Fin 290) (r : Fin 256) (a : Fin 8) (b : Fin 128) :
    R_main_v8 s n (ix3 (row t r) a b) = if t.val < (n (ix1 0)).toNat then s.main_v2_7 (ix3 t r ⟨(a : ℕ) * 128 + b, by omega⟩) else 0 := by
  rw [← if_congr (live_word t _ hn) rfl rfl]
  unfold row
  pointwise [R_main_v8]
  refine if_congr Iff.rfl rfl ?_
  exact Ideal.ofBits_zero_f32

/-- The reference's array. -/
def R_y (a0 : FVec Ideal S74240x8x128 .f32) (a1 : IVec S290 32) (a2 : IVec S1 32) (a3 : FVec Ideal S32x1024x2048 .f32) (a4 : FVec Ideal S32x2048 .f32)
    (a5 : FVec Ideal S32x1024x1024 .f32) (a6 : FVec Ideal S32x1024 .f32) : FVec Ideal S74240x8x128 .f32 :=
  R_main_v8 (F := Ideal) (blocks (init (F := Ideal) a1 a3 a4 a5 a6 a0) 290) a2

theorem ref_at (a0 : FVec Ideal S74240x8x128 .f32) (a1 : IVec S290 32) (a2 : IVec S1 32) (a3 : FVec Ideal S32x1024x2048 .f32) (a4 : FVec Ideal S32x2048 .f32)
    (a5 : FVec Ideal S32x1024x1024 .f32) (a6 : FVec Ideal S32x1024 .f32) (hn : (a2 (ix1 0)).toNat ≤ 290) (he : ∀ j, (a1 (ix1 j)).toNat < 32)
    (t : Fin 290) (r : Fin 256) (a : Fin 8) (b : Fin 128) :
    R_y a0 a1 a2 a3 a4 a5 a6 (ix3 (row t r) a b) = if t.val < (a2 (ix1 0)).toNat then
        ffn (fun d => a0 (ix3 (row t r) ⟨(d : ℕ) / 128, by omega⟩ ⟨(d : ℕ) % 128, by omega⟩)) (fun d k => a3 (ix3 ⟨_, he t⟩ d k))
          (fun k => a4 (ix2 ⟨_, he t⟩ k)) (fun d q => a5 (ix3 ⟨_, he t⟩ d q)) (fun q => a6 (ix2 ⟨_, he t⟩ q)) ⟨(a : ℕ) * 128 + b, by omega⟩
      else 0 := by
  unfold R_y
  rw [res_at _ _ hn]
  refine if_congr Iff.rfl ?_ rfl
  refine (written (s := init (F := Ideal) a1 a3 a4 a5 a6 a0) (fun j => ⟨_, he j⟩) (fun j => (BitVec.ofNat_toNat 32 (a1 (ix1 j))).trans (BitVec.setWidth_eq _) |>.symm) 290
    (le_refl _) t r _ t.isLt).trans ?_
  exact ffn_congr (fun d => rows_at a0 t r d) (fun _ _ => rfl) (fun _ => rfl) (fun _ _ => rfl) (fun _ => rfl) _

end Cert.Proof.ExpRef

end
-- ==== Proof.ExpClaim.lean ====
/-
  The claims about the experts: the frames of kernel and reference, and the equation of the two.
-/
module

public import proofs.«01_k».proof.Defs
public import proofs.«01_k».proof.Proof.Gen.Kernel2
public import proofs.«01_k».proof.Proof.Gen.Pre_routed
public import proofs.«01_k».proof.Proof.ExpSame
public import proofs.«01_k».proof.Proof.ExpVal
public import proofs.«01_k».proof.Proof.ExpRef
public import Idealize.ShloMosaic.Lib.Claim

@[expose] public section

set_option maxRecDepth 16384

noncomputable section

open Idealize.ShloMosaic Idealize.ShloMosaic.TcCoe Idealize.SL.Sem Cert.Kernel2Ideal.Exp

namespace Cert.Proof.ExpClaim

local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Pre_routed.Facts := Cert.Pre_routed.Gen.facts

/-- The idealized kernel's frame. -/
theorem frame_ideal : Cert.quiescent_Kernel2Ideal := fun m g hpre =>
  Cert.Kernel2Ideal.Exp.frame m g (ok_of (routed_of m _ _ _ _ _ (hpre 0)))

/-- The table of the kernel at machine words. -/
theorem routed_bits (m : (ℓ : Loc Cert.Kernel2Ideal.nD Cert.Kernel2Ideal.τ Cert.Kernel2Ideal.sig) → Buf (Elt Bits) ℓ) (h : Cert.Pre_Kernel2 m) : Routed m :=
  routed_of m _ _ _ _ _ (h 0)

/-- The kernel's frame: the same run, at machine words. -/
theorem frame_kernel : Cert.quiescent_Kernel2 := fun m g hpre =>
  ExpSame.run_of _ _ (Cert.Kernel2Ideal.Exp.frame (F := Bits) m g (ok_of (routed_bits m hpre)))

/-- The reference leaves its arguments as they were, and it has no semaphore. -/
theorem frame_ref : Cert.quiescent_Reference2Ideal := by
  intro m g _
  exact (θ_run Cert.Reference2Ideal.defs _ _).mono (fun r h => ⟨fun c => (h c).2, sem_eq_zero_of_no_sems (by decide) r.2⟩)
    (ExpRefRun.run_blocks (F := Ideal) m g)

section Array
open Cert.Kernel2Ideal Cert.Kernel2Ideal.Gen

variable (m : (ℓ : Loc nD τ sig) → Buf (Elt Ideal) ℓ)

/-- The reference's array on the kernel's arguments. -/
def Y (c : Dev nD) : FVec Ideal S74240x8x128 .f32 :=
  ExpRef.R_y (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- The kernel's output array is the reference's. -/
theorem y_array (h : Routed m) (hO : Ok m) (c : Dev nD) : (dats m hO 0 c).arrAt 5 (cfgM m hO).N = Y m c := by
  have hc : c = 0 := Subsingleton.elim _ _
  subst hc
  refine out_array 0 hO _ fun t r a b => (out_point 0 h hO t r a b).trans ?_
  exact (ExpRef.ref_at (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5))
    (m (((0 : Dev nD).tc : Thread nD τ).loc main_arg6)) h.n2 h.e ⟨t.val, pt_lt hO t⟩ r a b).symm

end Array

/-- Kernel and reference end with the same output. -/
theorem algebraic : Cert.algebraic_Kernel2Ideal_Reference2Ideal := by
  intro m g m' g' hpre hagree
  have h : Routed m := routed_of m _ _ _ _ _ (hpre 0)
  have hO := ok_of h
  refine ⟨fun c => Y m c, ?_, ?_⟩
  · exact (θ_run Cert.Kernel2Ideal.defs _ _).mono (fun r h' c => ⟨((h'.1 c).1 5).trans (y_array m h hO c), h'.2.1 c⟩)
      (θ_run_and (run_main m g hO) (Cert.Kernel2Ideal.Exp.frame m g hO))
  · refine (θ_run Cert.Reference2Ideal.defs _ _).mono (fun r h c => ?_) (ExpRefRun.run_blocks (F := Ideal) m' g')
    obtain ⟨a0, a1, a2, a3, a4, a5, a6⟩ := hagree c
    refine ⟨(h c).1.trans ?_, (h c).2⟩
    unfold ExpRefRun.first
    rw [a0, a1, a2, a3, a4, a5, a6]; rfl

end Cert.Proof.ExpClaim

end
-- ==== Proof.PrjQkvRef.lean ====
/-
  The reference's projection, keys and values, at coordinates.
-/
module

public import Idealize.ShloMosaic.Lib.Pipeline.ValueKit
public import Idealize.ShloMosaic.Lib.Pointwise
public import proofs.«01_k».proof.Proof.Gen.Reference3Ideal.Run

@[expose] public section

set_option maxRecDepth 16384

noncomputable section

open Idealize.ShloMosaic Idealize.ShloMosaic.TcCoe Idealize.SL.Sem

namespace Cert.Proof.PrjQkvRef

open Cert.Reference3Ideal Cert.Reference3Ideal.Gen

section Arrays

variable {F : FTy → Type} [FloatOps F]

/-- The reference's product. -/
def R_y (u : FVec F S16384x1024 .bf16) (w : FVec F S1024x3072 .f32) : FVec F S16384x3072 .f32 :=
  Host.dotGeneral dot_S16384x1024_S1024x3072_S16384x3072_1_0_0_1_n_n none u w

/-- Its keys: the layer's before, then the product's second third. -/
def R_k (u : FVec F S16384x1024 .bf16) (w : FVec F S1024x3072 .f32) (p : FVec F S16384x8x128 .f32) : FVec F S4x2x4096x8x128 .f32 :=
  concatenate S4x2x4096x8x128 1 [⟨S4x1x4096x8x128, (broadcastInDim S4x1x4096x8x128 ![0, 2, 3, 4] bcast_S4x4096x8x128_S4x1x4096x8x128_0_2_3_4 (shapeCast _ p shapeCasts_S16384x8x128_S4x4096x8x128))⟩,
    ⟨S4x1x4096x8x128, (broadcastInDim S4x1x4096x8x128 ![0, 2, 3, 4] bcast_S4x4096x8x128_S4x1x4096x8x128_0_2_3_4 (shapeCast _ (extractStridedSlice S4x4096x1x8x128 ![0, 0, 1, 0, 0]
      (shapeCast _ (R_y u w) shapeCasts_S16384x3072_S4x4096x3x8x128) slices_S4x4096x3x8x128_S4x4096x1x8x128_0_0_1_0_0) shapeCasts_S4x4096x1x8x128_S4x4096x8x128))⟩] concatenates_S4x1x4096x8x128_S4x1x4096x8x128_S4x2x4096x8x128_d1

/-- Its values: the layer's before, then the product's last third. -/
def R_v (u : FVec F S16384x1024 .bf16) (w : FVec F S1024x3072 .f32) (p : FVec F S16384x8x128 .f32) : FVec F S4x2x4096x8x128 .f32 :=
  concatenate S4x2x4096x8x128 1 [⟨S4x1x4096x8x128, (broadcastInDim S4x1x4096x8x128 ![0, 2, 3, 4] bcast_S4x4096x8x128_S4x1x4096x8x128_0_2_3_4 (shapeCast _ p shapeCasts_S16384x8x128_S4x4096x8x128))⟩,
    ⟨S4x1x4096x8x128, (broadcastInDim S4x1x4096x8x128 ![0, 2, 3, 4] bcast_S4x4096x8x128_S4x1x4096x8x128_0_2_3_4 (shapeCast _ (extractStridedSlice S4x4096x1x8x128 ![0, 0, 2, 0, 0]
      (shapeCast _ (R_y u w) shapeCasts_S16384x3072_S4x4096x3x8x128) slices_S4x4096x3x8x128_S4x4096x1x8x128_0_0_2_0_0) shapeCasts_S4x4096x1x8x128_S4x4096x8x128))⟩] concatenates_S4x1x4096x8x128_S4x1x4096x8x128_S4x2x4096x8x128_d1

/-- The run, its results by these names. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = R_y (m ((c.tc : Thread nD τ).loc main_arg0)) (m ((c.tc : Thread nD τ).loc main_arg1))
      ∧ r.2.mem ((c.tc : Thread nD τ).loc main_v9) = R_k (m ((c.tc : Thread nD τ).loc main_arg0)) (m ((c.tc : Thread nD τ).loc main_arg1)) (m ((c.tc : Thread nD τ).loc main_arg2))
      ∧ r.2.mem ((c.tc : Thread nD τ).loc main_v13) = R_v (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Arrays

/-- A position's row of the product. -/
abbrev row (b : Fin 4) (n : Fin 4096) : Fin 16384 := ⟨b * 4096 + n, by omega⟩

theorem y_at (u : FVec Ideal S16384x1024 .bf16) (w : FVec Ideal S1024x3072 .f32) (r : Fin 16384) (k : Fin 3072) :
    R_y u w (ix2 r k) = ∑ d : Fin 1024, u (ix2 r d) * w (ix2 d k) := by
  unfold R_y
  pointwise []

theorem k_at (u : FVec Ideal S16384x1024 .bf16) (w : FVec Ideal S1024x3072 .f32) (q : FVec Ideal S16384x8x128 .f32) (b : Fin 4) (p : Fin 2) (n : Fin 4096) (h : Fin 8) (e : Fin 128) :
    R_k u w q (ix5 b p n h e) = if (p : ℕ) = 0 then q (ix3 (row b n) h e) else R_y u w (ix2 (row b n) ⟨1024 + ((h : ℕ) * 128 + e), by omega⟩) := by
  unfold R_k
  generalize R_y u w = y
  fin_cases p
  · pointwise []
  · pointwise []
    exact congrArg (fun k => y (ix2 _ k)) (Fin.ext (Nat.add_assoc _ _ _))

theorem v_at (u : FVec Ideal S16384x1024 .bf16) (w : FVec Ideal S1024x3072 .f32) (q : FVec Ideal S16384x8x128 .f32) (b : Fin 4) (p : Fin 2) (n : Fin 4096) (h : Fin 8) (e : Fin 128) :
    R_v u w q (ix5 b p n h e) = if (p : ℕ) = 0 then q (ix3 (row b n) h e) else R_y u w (ix2 (row b n) ⟨2048 + ((h : ℕ) * 128 + e), by omega⟩) := by
  unfold R_v
  generalize R_y u w = y
  fin_cases p
  · pointwise []
  · pointwise []
    exact congrArg (fun k => y (ix2 _ k)) (Fin.ext (Nat.add_assoc _ _ _))

end Cert.Proof.PrjQkvRef

end
-- ==== Proof.PrjQkv.lean ====
/-
  The attention layers' projection: every point's block of the product is its rows times the weight, which the kernel
  keeps from the first point on, and its blocks of the keys and values hold the layer's before and its own.
-/
module

public import Idealize.ShloMosaic.Lib.Pipeline.ValueKit
public import Idealize.ShloMosaic.Lib.Pipeline.ReadBack
public import Idealize.ShloMosaic.Lib.Pointwise
public import proofs.«01_k».proof.Defs
public import proofs.«01_k».proof.Proof.Gen.Kernel3Ideal.Value
public import proofs.«01_k».proof.Proof.PrjQkvRef

@[expose] public section

set_option maxRecDepth 16384

noncomputable section

open Idealize.ShloMosaic Idealize.ShloMosaic.TcCoe Idealize.SL.Sem

namespace Cert.Proof.PrjQkv

open Cert.Kernel3Ideal Cert.Kernel3Ideal.Gen Cert.Kernel3Ideal.Value

/-- The block every window reads at a point. -/
theorem idx : ∀ t : Fin cfg0.N,
    win0_0.index t = ![t.val, 0] ∧ win0_1.index t = ![0, 0] ∧ win0_2.index t = ![t.val, 0, 0] ∧ win0_3.index t = ![t.val, 0, 0]
    ∧ win0_4.index t = ![t.val, 0] ∧ win0_5.index t = ![t.val / 16, 0, t.val % 16, 0, 0] ∧ win0_6.index t = ![t.val / 16, 0, t.val % 16, 0, 0] :=
  (by decide +kernel : ∀ t : Fin grid0.N, _)

theorem pt_lt (t : Fin cfg0.N) : t.val < 64 := lt_of_lt_of_eq t.isLt N_0

theorem pay2_at (w : Vec Ideal S1024x3072 .f32) (d : Fin 1024) (k : Fin 3072) : k0_pay2 w (ix2 d k) = w (ix2 d k) := by
  pointwise [k0_pay2]

theorem pay3_at (x : Vec Ideal S256x1024 .bf16) (w : Vec Ideal S1024x3072 .bf16) (r : Fin 256) (k : Fin 3072) :
    k0_pay3 x w (ix2 r k) = ∑ d : Fin 1024, x (ix2 r d) * w (ix2 d k) := by
  pointwise [k0_pay3]

theorem pay5_at (x : Vec Ideal S256x8x128 .f32) (r : Fin 256) (h : Fin 8) (e : Fin 128) : k0_pay5 x (ix5 0 0 r h e) = x (ix3 r h e) := by
  pointwise [k0_pay5]

theorem pay6_at (x : Vec Ideal S256x8x128 .f32) (r : Fin 256) (h : Fin 8) (e : Fin 128) : k0_pay6 x (ix5 0 0 r h e) = x (ix3 r h e) := by
  pointwise [k0_pay6]

theorem pay7_at (x : Vec Ideal S256x1024 .bf16) (w : Vec Ideal S1024x3072 .bf16) (r : Fin 256) (h : Fin 8) (e : Fin 128) :
    k0_pay7 x w (ix5 0 0 r h e) = k0_pay3 x w (ix2 r ⟨1024 + ((h : ℕ) * 128 + e), by omega⟩) := by
  pointwise [k0_pay7]

theorem pay1_at (x : Vec Ideal S256x1024 .bf16) (w : Vec Ideal S1024x3072 .bf16) (r : Fin 256) (h : Fin 8) (e : Fin 128) :
    k0_pay1 (k0_pay4 x w) (ix5 0 0 r h e) = k0_pay3 x w (ix2 r ⟨2048 + ((h : ℕ) * 128 + e), by omega⟩) := by
  pointwise [k0_pay1, k0_pay4]

section Points

variable (m : (ℓ : Loc nD τ sig) → Buf (Elt Ideal) ℓ) (c : Dev nD)

/-- The activations. -/
abbrev uK : FVec Ideal S16384x1024 .bf16 := m ((c : Thread nD τ).loc main_arg0)
/-- The weight. -/
abbrev wK : FVec Ideal S1024x3072 .f32 := m ((c : Thread nD τ).loc main_arg1)
/-- The keys and the values of the layer before. -/
abbrev pkK : FVec Ideal S16384x8x128 .f32 := m ((c : Thread nD τ).loc main_arg2)
abbrev pvK : FVec Ideal S16384x8x128 .f32 := m ((c : Thread nD τ).loc main_arg3)

/-- The array row of a block's row. -/
abbrev row (t : Fin cfg0.N) (r : Fin 256) : Fin 16384 := ⟨t.val * 256 + r, by have := pt_lt t; omega⟩

theorem u_blk (t : Fin cfg0.N) (r : Fin 256) (d : Fin 1024) : (iblk m c 0 t : FVec Ideal S256x1024 .bf16) (ix2 r d) = uK m c (ix2 (row t r) d) := by
  blk_point [iblk, V_main_arg0, idx t, row]

theorem w_blk (t : Fin cfg0.N) (d : Fin 1024) (k : Fin 3072) : (iblk m c 1 t : FVec Ideal S1024x3072 .f32) (ix2 d k) = wK m c (ix2 d k) := by
  blk_point [iblk, V_main_arg1, idx t]

theorem pk_blk (t : Fin cfg0.N) (r : Fin 256) (h : Fin 8) (e : Fin 128) : (iblk m c 2 t : FVec Ideal S256x8x128 .f32) (ix3 r h e) = pkK m c (ix3 (row t r) h e) := by
  blk_point [iblk, V_main_arg2, idx t, row]

theorem pv_blk (t : Fin cfg0.N) (r : Fin 256) (h : Fin 8) (e : Fin 128) : (iblk m c 3 t : FVec Ideal S256x8x128 .f32) (ix3 r h e) = pvK m c (ix3 (row t r) h e) := by
  blk_point [iblk, V_main_arg3, idx t, row]

/-- What a point finds in the scratch after its fill: the weight, narrowed, at the first point, else what the point before left. -/
def held (t : Fin cfg0.N) : FVec Ideal S1024x3072 .bf16 :=
  if t.val % 64 = 0 then k0_pay2 (iblk m c 1 t) else (outsAt0 m c (t.val - 1) (Nat.lt_of_le_of_lt (Nat.sub_le _ _) t.isLt)).2.2.2

theorem scr_eq (t : Fin cfg0.N) : (outsAt0 m c t.val t.isLt).2.2.2 = held m c t := by
  unfold held
  by_cases h0 : t.val % 64 = 0
  · rw [if_pos h0, outsAt0_A m c t h0]
    frame_out
  · rw [if_neg h0, outsAt0_B m c t h0]
    rfl

theorem out_eq (t : Fin cfg0.N) : (outsAt0 m c t.val t.isLt).1 = k0_pay3 (iblk m c 0 t) (held m c t) := by
  unfold held
  by_cases h0 : t.val % 64 = 0
  · rw [if_pos h0, outsAt0_A m c t h0]
    frame_out
  · rw [if_neg h0, outsAt0_B m c t h0]
    frame_out
    exact congrArg (k0_pay3 (iblk m c 0 t)) (Memref.IsWhole.read_unread _ _)

/-- A block of keys or values: the layer's before, then its own. -/
def two (p q : FVec Ideal S1x1x256x8x128 .f32) (y : S1x2x256x8x128.Idx) : EReal :=
  if (y 1 : ℕ) = 0 then p (ix5 0 0 ⟨y 2, (y 2).isLt⟩ ⟨y 3, (y 3).isLt⟩ ⟨y 4, (y 4).isLt⟩) else q (ix5 0 0 ⟨y 2, (y 2).isLt⟩ ⟨y 3, (y 3).isLt⟩ ⟨y 4, (y 4).isLt⟩)

omit m c in
theorem two_new (p q : FVec Ideal S1x1x256x8x128 .f32) (y : S1x2x256x8x128.Idx) (x : S1x1x256x8x128.Idx) (h1 : (y 1 : ℕ) = 1 + x 1)
    (h2 : (y 2 : ℕ) = x 2) (h3 : (y 3 : ℕ) = x 3) (h4 : (y 4 : ℕ) = x 4) : q x = two p q y := by
  unfold two
  rw [if_neg (by omega)]
  refine congrArg q (funext fun a => Fin.ext ?_)
  fin_cases a
  · exact Nat.lt_one_iff.mp (x 0).isLt
  · exact Nat.lt_one_iff.mp (x 1).isLt
  · exact h2.symm
  · exact h3.symm
  · exact h4.symm

omit m c in
theorem two_old (p q : FVec Ideal S1x1x256x8x128 .f32) (y : S1x2x256x8x128.Idx) (x : S1x1x256x8x128.Idx) (h1 : (y 1 : ℕ) = x 1)
    (h2 : (y 2 : ℕ) = x 2) (h3 : (y 3 : ℕ) = x 3) (h4 : (y 4 : ℕ) = x 4) : p x = two p q y := by
  unfold two
  rw [if_pos (h1.trans (Nat.lt_one_iff.mp (x 1).isLt))]
  refine congrArg p (funext fun a => Fin.ext ?_)
  fin_cases a
  · exact Nat.lt_one_iff.mp (x 0).isLt
  · exact Nat.lt_one_iff.mp (x 1).isLt
  · exact h2.symm
  · exact h3.symm
  · exact h4.symm

theorem keys_eq (t : Fin cfg0.N) (y : S1x2x256x8x128.Idx) : (outsAt0 m c t.val t.isLt).2.1 y = two (k0_pay5 (iblk m c 2 t)) (k0_pay7 (iblk m c 0 t) (held m c t)) y := by
  unfold held
  by_cases h0 : t.val % 64 = 0
  · rw [if_pos h0, outsAt0_A m c t h0]
    frame_out
    canon_tiles x h
    · exact two_new _ _ y x h1 h2 h3 h4
    · exact two_old _ _ y x h1 h2 h3 h4
  · rw [if_neg h0, outsAt0_B m c t h0]
    frame_out
    simp only [read_unread_whole]
    canon_tiles x h
    · exact two_new _ _ y x h1 h2 h3 h4
    · exact two_old _ _ y x h1 h2 h3 h4

theorem vals_eq (t : Fin cfg0.N) (y : S1x2x256x8x128.Idx) : (outsAt0 m c t.val t.isLt).2.2.1 y = two (k0_pay6 (iblk m c 3 t)) (k0_pay1 (k0_pay4 (iblk m c 0 t) (held m c t))) y := by
  unfold held
  by_cases h0 : t.val % 64 = 0
  · rw [if_pos h0, outsAt0_A m c t h0]
    frame_out
    canon_tiles x h
    · exact two_new _ _ y x h1 h2 h3 h4
    · exact two_old _ _ y x h1 h2 h3 h4
  · rw [if_neg h0, outsAt0_B m c t h0]
    frame_out
    simp only [read_unread_whole]
    canon_tiles x h
    · exact two_new _ _ y x h1 h2 h3 h4
    · exact two_old _ _ y x h1 h2 h3 h4

/-- The scratch holds the weight. -/
theorem scr_at : ∀ (n : ℕ) (hn : n < cfg0.N) (d : Fin 1024) (k : Fin 3072),
    ((outsAt0 m c n hn).2.2.2 : FVec Ideal S1024x3072 .bf16) (ix2 d k) = wK m c (ix2 d k) := by
  intro n
  induction n with
  | zero =>
    intro hn d k
    rw [scr_eq m c ⟨0, hn⟩]
    unfold held
    rw [if_pos (Nat.zero_mod _)]
    exact (pay2_at _ d k).trans (w_blk m c ⟨0, hn⟩ d k)
  | succ n ih =>
    intro hn d k
    rw [scr_eq m c ⟨n + 1, hn⟩]
    unfold held
    by_cases h0 : (n + 1) % 64 = 0
    · rw [if_pos h0]
      exact (pay2_at _ d k).trans (w_blk m c ⟨n + 1, hn⟩ d k)
    · rw [if_neg h0]
      exact ih (Nat.lt_of_succ_lt hn) d k

/-- Every entry of a point's product is its row times its column. -/
theorem prod_at (t : Fin cfg0.N) (r : Fin 256) (k : Fin 3072) : k0_pay3 (iblk m c 0 t) (held m c t) (ix2 r k)
    = ∑ d : Fin 1024, uK m c (ix2 (row t r) d) * wK m c (ix2 d k) := by
  refine (pay3_at _ _ r k).trans (Finset.sum_congr rfl fun d _ => ?_)
  rw [u_blk, ← scr_eq]
  exact congrArg (_ * ·) (scr_at m c t.val t.isLt d k)

theorem out_at (t : Fin cfg0.N) (r : Fin 256) (k : Fin 3072) : ((outsAt0 m c t.val t.isLt).1 : FVec Ideal S256x3072 .f32) (ix2 r k)
    = ∑ d : Fin 1024, uK m c (ix2 (row t r) d) * wK m c (ix2 d k) := by
  rw [out_eq]
  exact prod_at m c t r k

theorem keys_at (t : Fin cfg0.N) (p : Fin 2) (r : Fin 256) (h : Fin 8) (e : Fin 128) : ((outsAt0 m c t.val t.isLt).2.1 : FVec Ideal S1x2x256x8x128 .f32) (ix5 0 p r h e)
    = if (p : ℕ) = 0 then pkK m c (ix3 (row t r) h e) else ∑ d : Fin 1024, uK m c (ix2 (row t r) d) * wK m c (ix2 d ⟨1024 + ((h : ℕ) * 128 + e), by omega⟩) := by
  rw [keys_eq]
  exact if_congr Iff.rfl ((pay5_at _ r h e).trans (pk_blk m c t r h e)) ((pay7_at _ _ r h e).trans (prod_at m c t r _))

theorem vals_at (t : Fin cfg0.N) (p : Fin 2) (r : Fin 256) (h : Fin 8) (e : Fin 128) : ((outsAt0 m c t.val t.isLt).2.2.1 : FVec Ideal S1x2x256x8x128 .f32) (ix5 0 p r h e)
    = if (p : ℕ) = 0 then pvK m c (ix3 (row t r) h e) else ∑ d : Fin 1024, uK m c (ix2 (row t r) d) * wK m c (ix2 d ⟨2048 + ((h : ℕ) * 128 + e), by omega⟩) := by
  rw [vals_eq]
  exact if_congr Iff.rfl ((pay6_at _ r h e).trans (pv_blk m c t r h e)) ((pay1_at _ _ r h e).trans (prod_at m c t r _))

end Points

open Cert.Proof.PrjQkvRef (R_y R_k R_v y_at k_at v_at)

section Arrays

variable (m : (ℓ : Loc nD τ sig) → Buf (Elt Ideal) ℓ) (c : Dev nD)

/-- The batch row of a point and the position of a block's row in it. -/
abbrev tb (t : Fin cfg0.N) : Fin 4 := ⟨t.val / 16, by have := pt_lt t; omega⟩
abbrev tn (t : Fin cfg0.N) (r : Fin 256) : Fin 4096 := ⟨t.val % 16 * 256 + r, by omega⟩

theorem row_eq (t : Fin cfg0.N) (r : Fin 256) : PrjQkvRef.row (tb t) (tn t r) = row t r :=
  Fin.ext (by show t.val / 16 * 4096 + (t.val % 16 * 256 + (r : ℕ)) = t.val * 256 + r; omega)

/-- The product after the run is the reference's. -/
theorem y_array : (dats m 0 c).arrAt 4 cfg0.N = R_y (F := Ideal) (uK m c) (wK m c) := by
  refine (dats m 0 c).arrAt_eq_of_covers 4 (R_y (F := Ideal) (uK m c) (wK m c)) (by decide +kernel) fun t hf y => ?_
  blk_simp
  rw [after0_4]
  idx_vars y
  refine (out_at m c t _ _).trans ((y_at (uK m c) (wK m c) (row t _) _).symm.trans ?_)
  blk_ext [idx t, row]

theorem keys_ref (t : Fin cfg0.N) (p : Fin 2) (r : Fin 256) (h : Fin 8) (e : Fin 128) : ((outsAt0 m c t.val t.isLt).2.1 : FVec Ideal S1x2x256x8x128 .f32) (ix5 0 p r h e)
    = R_k (F := Ideal) (uK m c) (wK m c) (pkK m c) (ix5 (tb t) p (tn t r) h e) := by
  rw [keys_at, k_at, row_eq, y_at]

theorem vals_ref (t : Fin cfg0.N) (p : Fin 2) (r : Fin 256) (h : Fin 8) (e : Fin 128) : ((outsAt0 m c t.val t.isLt).2.2.1 : FVec Ideal S1x2x256x8x128 .f32) (ix5 0 p r h e)
    = R_v (F := Ideal) (uK m c) (wK m c) (pvK m c) (ix5 (tb t) p (tn t r) h e) := by
  rw [vals_at, v_at, row_eq, y_at]

/-- The keys after the run are the reference's. -/
theorem k_array : (dats m 0 c).arrAt 5 cfg0.N = R_k (F := Ideal) (uK m c) (wK m c) (pkK m c) := by
  refine (dats m 0 c).arrAt_eq_of_covers 5 (R_k (F := Ideal) (uK m c) (wK m c) (pkK m c)) (by decide +kernel) fun t hf y => ?_
  blk_simp
  rw [after0_5]
  idx_vars y
  obtain rfl : y0 = 0 := Subsingleton.elim _ _
  refine (keys_ref m c t _ _ _ _).trans ?_
  blk_ext [idx t, tb, tn]

/-- The values after the run are the reference's. -/
theorem v_array : (dats m 0 c).arrAt 6 cfg0.N = R_v (F := Ideal) (uK m c) (wK m c) (pvK m c) := by
  refine (dats m 0 c).arrAt_eq_of_covers 6 (R_v (F := Ideal) (uK m c) (wK m c) (pvK m c)) (by decide +kernel) fun t hf y => ?_
  blk_simp
  rw [after0_6]
  idx_vars y
  obtain rfl : y0 = 0 := Subsingleton.elim _ _
  refine (vals_ref m c t _ _ _ _).trans ?_
  blk_ext [idx t, tb, tn]

end Arrays

local instance : Cert.Kernel3Ideal.Facts := Cert.Kernel3Ideal.Gen.facts
local instance : Cert.Reference3Ideal.Facts := Cert.Reference3Ideal.Gen.facts

/-- The reference leaves its arguments as they were, and it has no semaphore. -/
theorem frame_ref : Cert.quiescent_Reference3Ideal := by
  intro m g _
  exact (θ_run Cert.Reference3Ideal.defs _ _).mono (fun r h => ⟨fun c => (h c).2.2.2,
      sem_eq_zero_of_no_sems (by decide) r.2⟩)
    (PrjQkvRef.run (F := Ideal) m g)

/-- Kernel and reference end with the same product, keys and values. -/
theorem algebraic : Cert.algebraic_Kernel3Ideal_Reference3Ideal := by
  intro m g m' g' _ hagree
  refine ⟨fun c => R_y (F := Ideal) (uK m c) (wK m c), fun c => R_k (F := Ideal) (uK m c) (wK m c) (pkK m c),
    fun c => R_v (F := Ideal) (uK m c) (wK m c) (pvK m c), ?_, ?_⟩
  · exact (θ_run Cert.Kernel3Ideal.defs _ _).mono (fun r h c =>
      ⟨(h c).1.trans (y_array m c), (h c).2.1.trans (k_array m c), (h c).2.2.1.trans (v_array m c), (h c).2.2.2⟩) (run_blocks (F := Ideal) m g)
  · refine (θ_run Cert.Reference3Ideal.defs _ _).mono (fun r h c => ?_) (PrjQkvRef.run (F := Ideal) m' g')
    obtain ⟨a0, a1, a2, a3⟩ := hagree c
    refine ⟨(h c).1.trans ?_, (h c).2.1.trans ?_, (h c).2.2.1.trans ?_, (h c).2.2.2⟩
    · rw [a0, a1]
    · rw [a0, a1, a2]
    · rw [a0, a1, a3]

end Cert.Proof.PrjQkv

end
-- ==== Proof.PrjMat.lean ====
/-
  The product of activations and a weight matrix (retention's first projection): every point's block is the product of
  its rows with the weight's columns, which the kernel keeps from the first point of a column block on.
-/
module

public import Idealize.ShloMosaic.Lib.Pipeline.ValueKit
public import Idealize.ShloMosaic.Lib.Pointwise
public import proofs.«01_k».proof.Defs
public import proofs.«01_k».proof.Proof.Gen.Kernel4Ideal.Value
public import proofs.«01_k».proof.Proof.Gen.Reference4Ideal.Run

@[expose] public section

set_option maxRecDepth 16384

noncomputable section

open Idealize.ShloMosaic Idealize.ShloMosaic.TcCoe Idealize.SL.Sem

namespace Cert.Proof.PrjMat

open Cert.Kernel4Ideal Cert.Kernel4Ideal.Gen Cert.Kernel4Ideal.Value

/-- The block every window reads at a point. -/
theorem idx : ∀ t : Fin cfg0.N,
    win0_0.index t = ![t.val % 16, 0] ∧ win0_1.index t = ![0, t.val / 16] ∧ win0_2.index t = ![t.val % 16, t.val / 16] :=
  (by decide +kernel : ∀ t : Fin grid0.N, _)

theorem pt_lt (t : Fin cfg0.N) : t.val < 96 := lt_of_lt_of_eq t.isLt N_0

theorem pay1_at (w : Vec Ideal S1024x1024 .f32) (d k : Fin 1024) : k0_pay1 w (ix2 d k) = w (ix2 d k) := by
  pointwise [k0_pay1]

theorem pay2_at (x w : Vec Ideal S1024x1024 .bf16) (r k : Fin 1024) : k0_pay2 x w (ix2 r k) = ∑ d : Fin 1024, x (ix2 r d) * w (ix2 d k) := by
  pointwise [k0_pay2]

section Points

variable (m : (ℓ : Loc nD τ sig) → Buf (Elt Ideal) ℓ) (c : Dev nD)

/-- The activations. -/
abbrev uK : FVec Ideal S16384x1024 .bf16 := m ((c : Thread nD τ).loc main_arg0)
/-- The weight. -/
abbrev wK : FVec Ideal S1024x6144 .f32 := m ((c : Thread nD τ).loc main_arg1)

/-- The array row of a block's row. -/
abbrev row (t : Fin cfg0.N) (r : Fin 1024) : Fin 16384 := ⟨t.val % 16 * 1024 + r, by omega⟩
/-- The array column of a block's column. -/
abbrev col (t : Fin cfg0.N) (k : Fin 1024) : Fin 6144 := ⟨t.val / 16 * 1024 + k, by have := pt_lt t; omega⟩

theorem u_blk (t : Fin cfg0.N) (r d : Fin 1024) : (iblk m c 0 t : FVec Ideal S1024x1024 .bf16) (ix2 r d) = uK m c (ix2 (row t r) d) := by
  blk_point [iblk, V_main_arg0, idx t, row]

theorem w_blk (t : Fin cfg0.N) (d k : Fin 1024) : (iblk m c 1 t : FVec Ideal S1024x1024 .f32) (ix2 d k) = wK m c (ix2 d (col t k)) := by
  blk_point [iblk, V_main_arg1, idx t, col]

/-- What a point finds in the scratch after its fill: the column block, narrowed, at the first point of a column block, else what the point before left. -/
def held (t : Fin cfg0.N) : FVec Ideal S1024x1024 .bf16 :=
  if t.val % 16 = 0 then k0_pay1 (iblk m c 1 t) else (outsAt0 m c (t.val - 1) (Nat.lt_of_le_of_lt (Nat.sub_le _ _) t.isLt)).2

theorem scr_eq (t : Fin cfg0.N) : (outsAt0 m c t.val t.isLt).2 = held m c t := by
  unfold held
  by_cases h0 : t.val % 16 = 0
  · rw [if_pos h0, outsAt0_A m c t h0]
    frame_out
  · rw [if_neg h0, outsAt0_B m c t h0]
    rfl

theorem out_eq (t : Fin cfg0.N) : (outsAt0 m c t.val t.isLt).1 = k0_pay2 (iblk m c 0 t) (held m c t) := by
  unfold held
  by_cases h0 : t.val % 16 = 0
  · rw [if_pos h0, outsAt0_A m c t h0]
    frame_out
  · rw [if_neg h0, outsAt0_B m c t h0]
    frame_out
    exact congrArg (k0_pay2 (iblk m c 0 t)) (Memref.IsWhole.read_unread _ _)

/-- The scratch holds the weight's columns of the point's column block. -/
theorem scr_at : ∀ (n : ℕ) (hn : n < cfg0.N) (d k : Fin 1024),
    ((outsAt0 m c n hn).2 : FVec Ideal S1024x1024 .bf16) (ix2 d k) = wK m c (ix2 d (col ⟨n, hn⟩ k)) := by
  intro n
  induction n with
  | zero =>
    intro hn d k
    rw [scr_eq m c ⟨0, hn⟩]
    unfold held
    rw [if_pos (Nat.zero_mod _)]
    exact (pay1_at _ d k).trans (w_blk m c ⟨0, hn⟩ d k)
  | succ n ih =>
    intro hn d k
    rw [scr_eq m c ⟨n + 1, hn⟩]
    unfold held
    by_cases h0 : (n + 1) % 16 = 0
    · rw [if_pos h0]
      exact (pay1_at _ d k).trans (w_blk m c ⟨n + 1, hn⟩ d k)
    · rw [if_neg h0]
      refine (ih (Nat.lt_of_succ_lt hn) d k).trans ?_
      have e : col ⟨n, Nat.lt_of_succ_lt hn⟩ k = col ⟨n + 1, hn⟩ k := Fin.ext (by show n / 16 * 1024 + (k : ℕ) = (n + 1) / 16 * 1024 + k; omega)
      rw [e]

/-- Every entry of a point's block is its row times its column. -/
theorem out_at (t : Fin cfg0.N) (r k : Fin 1024) : ((outsAt0 m c t.val t.isLt).1 : FVec Ideal S1024x1024 .f32) (ix2 r k)
    = ∑ d : Fin 1024, uK m c (ix2 (row t r) d) * wK m c (ix2 d (col t k)) := by
  rw [out_eq]
  refine (pay2_at _ _ r k).trans (Finset.sum_congr rfl fun d _ => ?_)
  rw [u_blk, ← scr_eq]
  exact congrArg (_ * ·) (scr_at m c t.val t.isLt d k)

end Points

/-- The reference's product. -/
def R_y (u : FVec Ideal S16384x1024 .bf16) (w : FVec Ideal S1024x6144 .f32) : FVec Ideal S16384x6144 .f32 :=
  Host.dotGeneral Cert.Reference4Ideal.dot_S16384x1024_S1024x6144_S16384x6144_1_0_0_1_n_n none u w

theorem ref_at (u : FVec Ideal S16384x1024 .bf16) (w : FVec Ideal S1024x6144 .f32) (r : Fin 16384) (k : Fin 6144) :
    R_y u w (ix2 r k) = ∑ d : Fin 1024, u (ix2 r d) * w (ix2 d k) := by
  unfold R_y
  pointwise []

/-- The array after the run is the reference's. -/
theorem y_array (m : (ℓ : Loc nD τ sig) → Buf (Elt Ideal) ℓ) (c : Dev nD) : (dats m 0 c).arrAt 2 cfg0.N = R_y (uK m c) (wK m c) := by
  refine (dats m 0 c).arrAt_eq_of_covers 2 (R_y (uK m c) (wK m c)) (by decide +kernel) fun t hf y => ?_
  blk_simp
  rw [after0_2]
  idx_vars y
  refine (out_at m c t _ _).trans ((ref_at (uK m c) (wK m c) (row t _) (col t _)).symm.trans ?_)
  blk_ext [idx t, row, col]

local instance : Cert.Kernel4Ideal.Facts := Cert.Kernel4Ideal.Gen.facts
local instance : Cert.Reference4Ideal.Facts := Cert.Reference4Ideal.Gen.facts

/-- The reference leaves its arguments as they were, and it has no semaphore. -/
theorem frame_ref : Cert.quiescent_Reference4Ideal := by
  intro m g _
  exact (θ_run Cert.Reference4Ideal.defs _ _).mono (fun r h => ⟨fun c => (h c).2,
      sem_eq_zero_of_no_sems (by decide) r.2⟩)
    (Cert.Reference4Ideal.Value.run (F := Ideal) m g)

/-- Kernel and reference end with the same product. -/
theorem algebraic : Cert.algebraic_Kernel4Ideal_Reference4Ideal := by
  intro m g m' g' _ hagree
  refine ⟨fun c => R_y (uK m c) (wK m c), ?_, ?_⟩
  · exact (θ_run Cert.Kernel4Ideal.defs _ _).mono (fun r h c => ⟨(h c).1.trans (y_array m c), (h c).2⟩) (run_blocks (F := Ideal) m g)
  · refine (θ_run Cert.Reference4Ideal.defs _ _).mono (fun r h c => ?_) (Cert.Reference4Ideal.Value.run (F := Ideal) m' g')
    obtain ⟨a0, a1⟩ := hagree c
    refine ⟨(h c).1.trans ?_, (h c).2⟩
    rw [a0, a1]; rfl

end Cert.Proof.PrjMat

end
-- ==== Proof.LruMath.lean ====
/-
  The gated recurrence on extended reals: doubling rounds over a chunk compose the affine maps of its rows, and the
  input gate's square root in its two forms.
-/
module

public import Idealize.ShloMosaic.Lib.Pipeline.ValueKit
public import Idealize.ShloMosaic.Lib.Pointwise

@[expose] public section

set_option maxRecDepth 16384

noncomputable section

open Idealize.ShloMosaic

namespace Cert.Proof.Lru

theorem exp_bot : Ideal.exp ⊥ = 0 := rfl
theorem exp_top : Ideal.exp ⊤ = ⊤ := rfl
theorem exp_coe (a : ℝ) : Ideal.exp (a : EReal) = (Real.exp a : EReal) := rfl
theorem tanh_top : Ideal.tanh ⊤ = 1 := rfl
theorem log_top : Ideal.log ⊤ = ⊤ := rfl

/-- The recurrence: the state before row `n`, from the state before row 0. -/
def rec (α : ℕ → ℝ) (B : ℕ → EReal) (h : EReal) : ℕ → EReal
  | 0 => h
  | n + 1 => (α n : EReal) * rec α B h n + B n

/-- The product of the last `w` factors up to row `i`. -/
def pr (α : ℕ → ℝ) (i : ℕ) : ℕ → ℝ
  | 0 => 1
  | w + 1 => pr α i w * α (i - w)

/-- What the last `w` rows up to row `i` give from a zero state. -/
def sm (α : ℕ → ℝ) (B : ℕ → EReal) (i : ℕ) : ℕ → EReal
  | 0 => 0
  | w + 1 => (pr α i w : EReal) * B (i - w) + sm α B i w

theorem pr_nonneg (α : ℕ → ℝ) (hα : ∀ n, 0 ≤ α n) (i w : ℕ) : 0 ≤ pr α i w := by
  induction w with
  | zero => exact zero_le_one
  | succ w ih => exact mul_nonneg ih (hα _)

theorem distrib (p : ℝ) (hp : 0 ≤ p) (x y : EReal) : (p : EReal) * (x + y) = (p : EReal) * x + (p : EReal) * y :=
  EReal.left_distrib_of_nonneg_of_ne_top (EReal.coe_nonneg.mpr hp) (EReal.coe_ne_top p) x y

theorem pr_add (α : ℕ → ℝ) (i u w : ℕ) : pr α i (u + w) = pr α i u * pr α (i - u) w := by
  induction w with
  | zero => simp [pr]
  | succ w ih =>
    rw [← Nat.add_assoc]
    simp only [pr]
    rw [ih, Nat.sub_sub, mul_assoc]

theorem sm_add (α : ℕ → ℝ) (hα : ∀ n, 0 ≤ α n) (B : ℕ → EReal) (i u w : ℕ) :
    sm α B i (u + w) = (pr α i u : EReal) * sm α B (i - u) w + sm α B i u := by
  induction w with
  | zero => simp [sm]
  | succ w ih =>
    rw [← Nat.add_assoc]
    simp only [sm]
    rw [ih, pr_add, distrib _ (pr_nonneg α hα i u), EReal.coe_mul, Nat.sub_sub, mul_assoc, add_assoc]

theorem rec_eq (α : ℕ → ℝ) (hα : ∀ n, 0 ≤ α n) (B : ℕ → EReal) (h : EReal) (i w : ℕ) (hw : w ≤ i + 1) :
    rec α B h (i + 1) = (pr α i w : EReal) * rec α B h (i + 1 - w) + sm α B i w := by
  induction w with
  | zero => simp [pr, sm]
  | succ w ih =>
    rw [ih (by omega)]
    have e : i + 1 - w = (i - w) + 1 := by omega
    have e' : i + 1 - (w + 1) = i - w := by omega
    rw [e, e']
    simp only [pr, sm, rec]
    rw [distrib _ (pr_nonneg α hα i w), EReal.coe_mul, mul_assoc, add_assoc]

/-- One doubling round: what two spans of `u` rows compose to. -/
theorem round_pr (α : ℕ → ℝ) (i u : ℕ) :
    pr α i (min u (i + 1)) * (if u ≤ i then pr α (i - u) (min u (i - u + 1)) else 1) = pr α i (min (2 * u) (i + 1)) := by
  by_cases h : u ≤ i
  · rw [if_pos h, min_eq_left (by omega : u ≤ i + 1), ← pr_add]
    congr 1
    omega
  · rw [if_neg h, mul_one]
    congr 1
    omega

theorem round_sm (α : ℕ → ℝ) (hα : ∀ n, 0 ≤ α n) (B : ℕ → EReal) (i u : ℕ) :
    (pr α i (min u (i + 1)) : EReal) * (if u ≤ i then sm α B (i - u) (min u (i - u + 1)) else 0) + sm α B i (min u (i + 1))
      = sm α B i (min (2 * u) (i + 1)) := by
  by_cases h : u ≤ i
  · rw [if_pos h, min_eq_left (by omega : u ≤ i + 1), ← sm_add α hα]
    congr 1
    omega
  · rw [if_neg h, mul_zero, zero_add]
    congr 1
    omega

theorem rec_split (α : ℕ → ℝ) (B : ℕ → EReal) (h : EReal) (k n : ℕ) :
    rec α B h (k + n) = rec (fun r => α (k + r)) (fun r => B (k + r)) (rec α B h k) n := by
  induction n with
  | zero => rfl
  | succ n ih =>
    rw [← Nat.add_assoc]
    simp only [rec]
    rw [ih]

theorem rec_congr (α α' : ℕ → ℝ) (B B' : ℕ → EReal) (h : EReal) (n : ℕ) (ha : ∀ r < n, α r = α' r) (hb : ∀ r < n, B r = B' r) :
    rec α B h n = rec α' B' h n := by
  induction n with
  | zero => rfl
  | succ n ih =>
    simp only [rec]
    rw [ha n (Nat.lt_succ_self n), hb n (Nat.lt_succ_self n), ih (fun r hr => ha r (by omega)) (fun r hr => hb r (by omega))]

/-- A gate lies between 0 and 1. -/
theorem logistic_bounds (x : EReal) : ∃ r : ℝ, 0 ≤ r ∧ Ideal.logistic x = (r : EReal) := by
  have he : ∃ y : EReal, 1 ≤ y ∧ 1 + Ideal.exp (-x) = y := ⟨_, by
    refine le_add_of_nonneg_right ?_
    induction x with
    | bot => simp [exp_bot, exp_top, exp_coe]
    | top => simp [exp_bot, exp_top, exp_coe]
    | coe a => rw [← EReal.coe_neg]; exact EReal.coe_nonneg.mpr (Real.exp_nonneg _), rfl⟩
  obtain ⟨y, hy, e⟩ := he
  unfold Ideal.logistic
  rw [e]
  unfold Ideal.div
  rw [if_neg (by rintro rfl; exact absurd hy (by simp)), one_mul]
  induction y with
  | bot => exact absurd (le_bot_iff.mp hy) (EReal.coe_ne_bot 1)
  | top => exact ⟨0, le_refl _, by simp⟩
  | coe b =>
    have hb : (1 : ℝ) ≤ b := by exact_mod_cast hy
    exact ⟨b⁻¹, inv_nonneg.mpr (by linarith), (EReal.coe_inv b).symm⟩

/-- The softplus of `x`, as its larger half and a logarithm. -/
def sp (x : EReal) : EReal := max x 0 + Ideal.log1p (Ideal.exp (-max x (-x)))

theorem exp_nonneg (x : EReal) : 0 ≤ Ideal.exp x := by
  induction x with
  | bot => simp [exp_bot, exp_top, exp_coe]
  | top => simp [exp_bot, exp_top, exp_coe]
  | coe a => exact EReal.coe_nonneg.mpr (Real.exp_nonneg _)

theorem log1p_nonneg (x : EReal) (hx : 0 ≤ x) : 0 ≤ Ideal.log1p x := by
  unfold Ideal.log1p
  induction x with
  | bot => exact absurd hx (by simp)
  | top => rw [EReal.add_top_of_ne_bot (show (1 : EReal) ≠ ⊥ from EReal.coe_ne_bot 1)]; simp [log_top]
  | coe a =>
    have ha : (0 : ℝ) ≤ a := by exact_mod_cast hx
    have e : (1 : EReal) + (a : EReal) = ((1 + a : ℝ) : EReal) := by rw [EReal.coe_add]; rfl
    rw [e]
    show (0 : EReal) ≤ if (1 + a : ℝ) ≤ 0 then ⊥ else (Real.log (1 + a) : EReal)
    rw [if_neg (by linarith)]
    exact EReal.coe_nonneg.mpr (Real.log_nonneg (by linarith))

theorem sp_nonneg (x : EReal) : 0 ≤ sp x :=
  add_nonneg (le_max_right _ _) (log1p_nonneg _ (exp_nonneg _))

/-- The decay's logarithm: at most 0. -/
def la (g x : EReal) : EReal := ((-8 : ℝ) : EReal) * Ideal.logistic g * sp x

theorem la_nonpos (g x : EReal) : la g x ≤ 0 := by
  obtain ⟨r, hr, e⟩ := logistic_bounds g
  unfold la
  rw [e, ← EReal.coe_mul]
  have h1 : (((-8 : ℝ) * r : ℝ) : EReal) ≤ 0 := by
    have : ((-8 : ℝ) * r) ≤ 0 := by linarith
    exact_mod_cast this
  have h2 := sp_nonneg x
  exact EReal.mul_nonpos_iff.mpr (Or.inr ⟨h1, h2⟩)

/-- The decay is a real number that is at least 0. -/
def dec (g x : EReal) : ℝ := (Ideal.exp (la g x)).toReal

theorem exp_real (L : EReal) (h : L ≤ 0) : ((Ideal.exp L).toReal : EReal) = Ideal.exp L ∧ 0 ≤ (Ideal.exp L).toReal := by
  induction L with
  | bot => simp [exp_bot, exp_top, exp_coe]
  | top => exact absurd h (by simp)
  | coe a => exact ⟨by simp [exp_bot, exp_top, exp_coe], by simp only [exp_coe, EReal.toReal_coe]; exact Real.exp_nonneg _⟩

theorem dec_eq (g x : EReal) : (dec g x : EReal) = Ideal.exp (la g x) := (exp_real _ (la_nonpos g x)).1
theorem dec_nonneg (g x : EReal) : 0 ≤ dec g x := (exp_real _ (la_nonpos g x)).2

/-- The square of the input's factor in its two forms. -/
theorem factor (L : EReal) (h : L ≤ 0) : Ideal.tanh (0 - L) * (1 + Ideal.exp L * Ideal.exp L) = -(Ideal.exp (((2 : ℝ) : EReal) * L) - 1) := by
  induction L with
  | bot =>
    have e1 : (0 : EReal) - ⊥ = ⊤ := by simp
    have e2 : ((2 : ℝ) : EReal) * ⊥ = ⊥ := EReal.coe_mul_bot_of_pos (by norm_num)
    rw [e1, e2]
    simp [exp_bot, tanh_top]
  | top => exact absurd h (by simp)
  | coe a =>
    have e1 : (0 : EReal) - (a : EReal) = ((-a : ℝ) : EReal) := by rw [EReal.coe_neg]; simp
    have e2 : ((2 : ℝ) : EReal) * (a : EReal) = ((2 * a : ℝ) : EReal) := (EReal.coe_mul _ _).symm
    rw [e1, e2]
    show ((Real.tanh (-a) : ℝ) : EReal) * (1 + (Real.exp a : EReal) * (Real.exp a : EReal)) = -((Real.exp (2 * a) : EReal) - 1)
    rw [← EReal.coe_one, ← EReal.coe_mul, ← EReal.coe_add, ← EReal.coe_mul, ← EReal.coe_sub, ← EReal.coe_neg]
    refine congrArg _ ?_
    rw [Real.tanh_eq_sinh_div_cosh, Real.sinh_eq, Real.cosh_eq, two_mul, Real.exp_add, neg_neg, Real.exp_neg]
    have hp := Real.exp_pos a
    field_simp
    ring

end Cert.Proof.Lru
-- ==== Proof.LruScan.lean ====
/-
  A block of 256 columns of a chunk of 256 rows: the doubling rounds, the gates, and the states of the recurrence.
-/
module

public import Idealize.ShloMosaic.Lib.Pipeline.ValueKit
public import Idealize.ShloMosaic.Lib.Pipeline.ReadBack
public import Idealize.ShloMosaic.Lib.Pointwise
public import proofs.«01_k».proof.Defs
public import proofs.«01_k».proof.Proof.Gen.Kernel5Ideal.Skeleton
public import proofs.«01_k».proof.Proof.LruMath

@[expose] public section

set_option maxRecDepth 16384

noncomputable section

open Idealize.ShloMosaic Idealize.ShloMosaic.TcCoe Idealize.SL.Sem

namespace Cert.Proof.Lru

open Cert.Kernel5Ideal Cert.Kernel5Ideal.Gen

abbrev V256 := FVec Ideal S256x256 .f32

/-- The rows at or past the round's distance. -/
def past (n : BitVec 32) : IVec S256x256 1 := cmpi .sge (iota Kind.tc S256x256 32 [0] iota_S256x256_d0_w32) (broadcast S256x256 n)

/-- A round on the factors and on the sums. -/
def upA (n : BitVec 32) (a : V256) : V256 :=
  mulf a (select (past n) (dynamicRotate 0 n none a rotates_S256x256_d0) (broadcast S256x256 (Scalar.ofBits .f32 0x3F800000#32)))
def upB (n : BitVec 32) (a b : V256) : V256 :=
  addf (mulf a (select (past n) (dynamicRotate 0 n none b rotates_S256x256_d0) (broadcast S256x256 (Scalar.ofBits .f32 0x00000000#32)))) b

theorem past_at (k : Fin 8) (i j : Fin 256) : past (BitVec.ofNat 32 (2 ^ (k : ℕ))) (ix2 i j) = if 2 ^ (k : ℕ) ≤ (i : ℕ) then 1#1 else 0#1 := by
  have h : ∀ k : Fin 8, ∀ i : Fin 256, IntOp.cmpi .sge (BitVec.ofNat 32 (i : ℕ)) (BitVec.ofNat 32 (2 ^ (k : ℕ))) = if 2 ^ (k : ℕ) ≤ (i : ℕ) then 1#1 else 0#1 := by
    decide +kernel
  refine Eq.trans ?_ (h k i)
  unfold past
  rw [cmpi_apply, iota_apply]
  refine congrArg (fun z => IntOp.cmpi .sge (BitVec.ofNat 32 z) _) ?_
  show 0 * 256 + (i : ℕ) = i
  omega

theorem rot_at (k : Fin 8) (a : V256) (i j : Fin 256) (h : 2 ^ (k : ℕ) ≤ (i : ℕ)) :
    dynamicRotate 0 (BitVec.ofNat 32 (2 ^ (k : ℕ))) none a rotates_S256x256_d0 (ix2 i j) = a (ix2 ⟨(i : ℕ) - 2 ^ (k : ℕ), (Nat.sub_le _ _).trans_lt i.isLt⟩ j) := by
  have hk : ∀ k : Fin 8, (BitVec.ofNat 32 (2 ^ (k : ℕ))).toNat = 2 ^ (k : ℕ) ∧ 2 ^ (k : ℕ) < 256 := by decide +kernel
  rw [Pointwise.dynamicRotate_apply]
  refine congrArg a (funext fun b => Fin.ext ?_)
  fin_cases b
  · show ((i : ℕ) + 256 - ((BitVec.ofNat 32 (2 ^ (k : ℕ))).toNat + 0) % 256) % 256 = (i : ℕ) - 2 ^ (k : ℕ)
    rw [(hk k).1]
    have h1 := (hk k).2
    have h2 := i.isLt
    generalize 2 ^ (k : ℕ) = u at *
    omega
  · rfl

theorem upA_at (k : Fin 8) (a : V256) (i j : Fin 256) : upA (BitVec.ofNat 32 (2 ^ (k : ℕ))) a (ix2 i j)
    = a (ix2 i j) * (if h : 2 ^ (k : ℕ) ≤ (i : ℕ) then a (ix2 ⟨(i : ℕ) - 2 ^ (k : ℕ), (Nat.sub_le _ _).trans_lt i.isLt⟩ j) else 1) := by
  show a (ix2 i j) * Scalar.select (past (BitVec.ofNat 32 (2 ^ (k : ℕ))) (ix2 i j)) (dynamicRotate 0 (BitVec.ofNat 32 (2 ^ (k : ℕ))) none a rotates_S256x256_d0 (ix2 i j)) (Ideal.ofBits .f32 0x3F800000#32) = _
  rw [past_at]
  by_cases h : 2 ^ (k : ℕ) ≤ (i : ℕ)
  · rw [if_pos h, dif_pos h, ← rot_at k a i j h]; rfl
  · rw [if_neg h, dif_neg h]
    refine congrArg (a (ix2 i j) * ·) ?_
    show Ideal.ofBits .f32 0x3F800000#32 = 1
    pointwise []

theorem upB_at (k : Fin 8) (a b : V256) (i j : Fin 256) : upB (BitVec.ofNat 32 (2 ^ (k : ℕ))) a b (ix2 i j)
    = a (ix2 i j) * (if h : 2 ^ (k : ℕ) ≤ (i : ℕ) then b (ix2 ⟨(i : ℕ) - 2 ^ (k : ℕ), (Nat.sub_le _ _).trans_lt i.isLt⟩ j) else 0) + b (ix2 i j) := by
  show a (ix2 i j) * Scalar.select (past (BitVec.ofNat 32 (2 ^ (k : ℕ))) (ix2 i j)) (dynamicRotate 0 (BitVec.ofNat 32 (2 ^ (k : ℕ))) none b rotates_S256x256_d0 (ix2 i j)) (Ideal.ofBits .f32 0x00000000#32) + b (ix2 i j) = _
  rw [past_at]
  by_cases h : 2 ^ (k : ℕ) ≤ (i : ℕ)
  · rw [if_pos h, dif_pos h, ← rot_at k b i j h]; rfl
  · rw [if_neg h, dif_neg h]
    refine congrArg (fun z => a (ix2 i j) * z + b (ix2 i j)) ?_
    show Ideal.ofBits .f32 0x00000000#32 = 0
    pointwise []

/-- What the vectors hold after the rounds up to span `u`, in a column. -/
def Spans (α : ℕ → ℝ) (B : ℕ → EReal) (j : Fin 256) (u : ℕ) (a b : V256) : Prop :=
  ∀ i : Fin 256, a (ix2 i j) = (pr α i (min u ((i : ℕ) + 1)) : EReal) ∧ b (ix2 i j) = sm α B i (min u ((i : ℕ) + 1))

theorem spans_start (α : ℕ → ℝ) (B : ℕ → EReal) (j : Fin 256) (a b : V256) (ha : ∀ i : Fin 256, a (ix2 i j) = (α i : EReal)) (hb : ∀ i : Fin 256, b (ix2 i j) = B i) :
    Spans α B j 1 a b := fun i => by
  rw [min_eq_left (by omega : 1 ≤ (i : ℕ) + 1)]
  refine ⟨(ha i).trans ?_, (hb i).trans ?_⟩ <;> simp [pr, sm]

theorem spans_up (α : ℕ → ℝ) (hα : ∀ n, 0 ≤ α n) (B : ℕ → EReal) (j : Fin 256) (k : Fin 8) (a b : V256) (h : Spans α B j (2 ^ (k : ℕ)) a b) :
    Spans α B j (2 ^ ((k : ℕ) + 1)) (upA (BitVec.ofNat 32 (2 ^ (k : ℕ))) a) (upB (BitVec.ofNat 32 (2 ^ (k : ℕ))) a b) := fun i => by
  rw [upA_at, upB_at, pow_succ, Nat.mul_comm _ 2, (h i).1, (h i).2, ← round_pr, ← round_sm α hα, EReal.coe_mul]
  by_cases hi : 2 ^ (k : ℕ) ≤ (i : ℕ)
  · rw [dif_pos hi, if_pos hi, dif_pos hi, if_pos hi, (h _).1, (h _).2]
    exact ⟨rfl, rfl⟩
  · rw [dif_neg hi, if_neg hi, dif_neg hi, if_neg hi]
    exact ⟨rfl, rfl⟩

/-- The states of a block from its decays, its inputs and the state before. -/
def states (a b : V256) (hp : FVec Ideal S1x256 .f32) : V256 :=
  addf (mulf (upA 128#32 (upA 64#32 (upA 32#32 (upA 16#32 (upA 8#32 (upA 4#32 (upA 2#32 (upA 1#32 a)))))))) (broadcastTo S256x256 hp broadcasts_S1x256_S256x256))
    (upB 128#32 (upA 64#32 (upA 32#32 (upA 16#32 (upA 8#32 (upA 4#32 (upA 2#32 (upA 1#32 a)))))))
      (upB 64#32 (upA 32#32 (upA 16#32 (upA 8#32 (upA 4#32 (upA 2#32 (upA 1#32 a))))))
        (upB 32#32 (upA 16#32 (upA 8#32 (upA 4#32 (upA 2#32 (upA 1#32 a)))))
          (upB 16#32 (upA 8#32 (upA 4#32 (upA 2#32 (upA 1#32 a))))
            (upB 8#32 (upA 4#32 (upA 2#32 (upA 1#32 a)))
              (upB 4#32 (upA 2#32 (upA 1#32 a))
                (upB 2#32 (upA 1#32 a)
                  (upB 1#32 a b))))))))

theorem states_at (α : ℕ → ℝ) (hα : ∀ n, 0 ≤ α n) (B : ℕ → EReal) (j : Fin 256) (a b : V256) (hp : FVec Ideal S1x256 .f32)
    (ha : ∀ i : Fin 256, a (ix2 i j) = (α i : EReal)) (hb : ∀ i : Fin 256, b (ix2 i j) = B i) (i : Fin 256) :
    states a b hp (ix2 i j) = rec α B (hp (ix2 0 j)) ((i : ℕ) + 1) := by
  have s := spans_up α hα B j 7 _ _ (spans_up α hα B j 6 _ _ (spans_up α hα B j 5 _ _ (spans_up α hα B j 4 _ _ (spans_up α hα B j 3 _ _
    (spans_up α hα B j 2 _ _ (spans_up α hα B j 1 _ _ (spans_up α hα B j 0 _ _ (spans_start α B j a b ha hb)))))))) i
  have e : min (2 ^ (((7 : Fin 8) : ℕ) + 1)) ((i : ℕ) + 1) = (i : ℕ) + 1 := min_eq_right (by have := i.isLt; show (i : ℕ) + 1 ≤ 256; omega)
  rw [e] at s
  rw [rec_eq α hα B _ i ((i : ℕ) + 1) (le_refl _), Nat.sub_self]
  refine Eq.trans ?_ (congrArg₂ (· + ·) (congrArg (· * hp (ix2 0 j)) s.1) s.2)
  have hbr : broadcastTo S256x256 hp broadcasts_S1x256_S256x256 (ix2 i j) = hp (ix2 0 j) := by pointwise []
  rw [← hbr]
  rfl

theorem neg8 : Ideal.ofBits .f32 0xC1000000#32 = ((-8 : ℝ) : EReal) := by
  have e : (0xC1000000#32).extractLsb' 31 1 = 1#1 := by decide
  have e1 : ((0xC1000000#32).extractLsb' 23 8).toNat = 130 := by decide
  have e2 : ((0xC1000000#32).extractLsb' 0 23).toNat = 0 := by decide
  simp only [Ideal.ofBits, Ideal.ieee, e, e1, e2]
  norm_num

/-- A gate of a block: its inputs times its weight, a bias, and the logistic. -/
def gate (xs : V256) (w : FVec Ideal S1x256x256 .f32) (bs : FVec Ideal S1x256 .f32) : V256 :=
  logistic (addf (matmul dot_S256x256_S256x256_S256x256_1_0_0_1_n_n none (truncf .bf16 xs bitsLt_bf16_f32)
    (truncf .bf16 (shapeCast S256x256 w shapeCasts_S1x256x256_S256x256) bitsLt_bf16_f32) (constant S256x256 .f32 0x00000000#32))
    (broadcastTo S256x256 bs broadcasts_S1x256_S256x256))
def logA (xs : V256) (w : FVec Ideal S1x256x256 .f32) (bs sps : FVec Ideal S1x256 .f32) : V256 :=
  mulf (mulf (broadcast S256x256 (Scalar.ofBits .f32 0xC1000000#32)) (gate xs w bs)) (broadcastTo S256x256 sps broadcasts_S1x256_S256x256)
def inB (xs ig L : V256) : V256 :=
  mulf (sqrt (mulf (tanh (subf (broadcast S256x256 (Scalar.ofBits .f32 0x00000000#32)) L))
    (addf (broadcast S256x256 (Scalar.ofBits .f32 0x3F800000#32)) (mulf (exp L) (exp L))))) (mulf ig xs)
/-- A block's states from its inputs. -/
def blockH (xs : V256) (wr wi : FVec Ideal S1x256x256 .f32) (br bi sps hp : FVec Ideal S1x256 .f32) : V256 :=
  states (exp (logA xs wr br sps)) (inB xs (gate xs wi bi) (logA xs wr br sps)) hp
/-- The output of a block: its states times the other branch's GELU. -/
def blockZ (h y : V256) : FVec Ideal S256x256 .bf16 :=
  truncf .bf16 (mulf h (mulf y (mulf (broadcast S256x256 (Scalar.ofBits .f32 0x3F000000#32)) (addf (broadcast S256x256 (Scalar.ofBits .f32 0x3F800000#32))
    (tanh (mulf (broadcast S256x256 (Scalar.ofBits .f32 0x3F4C422A#32)) (addf y (mulf (broadcast S256x256 (Scalar.ofBits .f32 0x3D372713#32)) (mulf y (mulf y y)))))))))) bitsLt_bf16_f32

theorem gate_at (xs : V256) (w : FVec Ideal S1x256x256 .f32) (bs : FVec Ideal S1x256 .f32) (i j : Fin 256) :
    gate xs w bs (ix2 i j) = Ideal.logistic ((∑ d : Fin 256, xs (ix2 i d) * w (ix3 0 d j)) + bs (ix2 0 j)) := by
  pointwise [gate]

theorem logA_at (xs : V256) (w : FVec Ideal S1x256x256 .f32) (bs sps : FVec Ideal S1x256 .f32) (i j : Fin 256) :
    logA xs w bs sps (ix2 i j) = ((-8 : ℝ) : EReal) * gate xs w bs (ix2 i j) * sps (ix2 0 j) := by
  pointwise [logA]
  rw [neg8]

theorem inB_at (xs ig L : V256) (i j : Fin 256) : inB xs ig L (ix2 i j)
    = Ideal.sqrt (Ideal.tanh (0 - L (ix2 i j)) * (1 + Ideal.exp (L (ix2 i j)) * Ideal.exp (L (ix2 i j)))) * (ig (ix2 i j) * xs (ix2 i j)) := by
  pointwise [inB]

end Cert.Proof.Lru
-- ==== Proof.LruForm.lean ====
/-
  The gated recurrence as the problem states it: the convolution over the rows before, the gates, and the states.
-/
module

public import Idealize.ShloMosaic.Lib.Pipeline.ValueKit
public import Idealize.ShloMosaic.Lib.Pointwise
public import proofs.«01_k».proof.Proof.LruMath

@[expose] public section

set_option maxRecDepth 16384

noncomputable section

open Idealize.ShloMosaic

namespace Cert.Proof.Lru

/-- The recurrent branch's rows and the layer's weights. -/
structure Par where
  x : Fin 16384 → Fin 1024 → EReal
  cw : Fin 4 → Fin 1024 → EReal
  cb : Fin 1024 → EReal
  wr : Fin 4 → Fin 256 → Fin 256 → EReal
  br : Fin 1024 → EReal
  wi : Fin 4 → Fin 256 → Fin 256 → EReal
  bi : Fin 1024 → EReal
  lam : Fin 1024 → EReal

/-- The channel of a block's column. -/
abbrev chan (n : Fin 4) (j : Fin 256) : Fin 1024 := ⟨(n : ℕ) * 256 + j, by omega⟩

/-- A batch row's branch with three rows of zeros before it. -/
def padR (P : Par) (b : Fin 4) (s : ℕ) (k : Fin 1024) : EReal :=
  if s < 3 then 0 else P.x ⟨((b : ℕ) * 4096 + (s - 3)) % 16384, Nat.mod_lt _ (by norm_num)⟩ k

/-- The convolution at a row. -/
def conv (P : Par) (b : Fin 4) (s : ℕ) (k : Fin 1024) : EReal :=
  P.cb k + padR P b s k * P.cw 0 k + padR P b (s + 1) k * P.cw 1 k + padR P b (s + 2) k * P.cw 2 k + padR P b (s + 3) k * P.cw 3 k

/-- A gate's argument. -/
def arg (C : Fin 256 → EReal) (w : Fin 256 → EReal) (bias : EReal) : EReal := (∑ d : Fin 256, C d * w d) + bias

/-- What a row adds to the state, of the decay's logarithm, the input gate's argument and the row. -/
def inp (L g x : EReal) : EReal := Ideal.sqrt (-(Ideal.exp (((2 : ℝ) : EReal) * L) - 1)) * (Ideal.logistic g * x)

/-- The decay's logarithm and factor, and the input, at a row of a batch row. -/
def argR (P : Par) (b : Fin 4) (n : Fin 4) (j : Fin 256) (s : ℕ) : EReal :=
  arg (fun d => conv P b s (chan n d)) (fun d => P.wr n d j) (P.br (chan n j))
def decA (P : Par) (b : Fin 4) (n : Fin 4) (j : Fin 256) (s : ℕ) : ℝ := dec (argR P b n j s) (-P.lam (chan n j))
def inA (P : Par) (b : Fin 4) (n : Fin 4) (j : Fin 256) (s : ℕ) : EReal :=
  inp (la (argR P b n j s) (-P.lam (chan n j))) (arg (fun d => conv P b s (chan n d)) (fun d => P.wi n d j) (P.bi (chan n j))) (conv P b s (chan n j))

/-- The state before row `s`. -/
def hid (P : Par) (b : Fin 4) (n : Fin 4) (j : Fin 256) (s : ℕ) : EReal := rec (decA P b n j) (inA P b n j) 0 s

/-- The states past row `k`, from the state before it. -/
theorem hid_split (P : Par) (b : Fin 4) (n : Fin 4) (j : Fin 256) (k s : ℕ) :
    hid P b n j (k + s) = rec (fun r => decA P b n j (k + r)) (fun r => inA P b n j (k + r)) (hid P b n j k) s :=
  rec_split _ _ _ k s

/-- The GELU in its tanh form. -/
def gelu (y : EReal) : EReal := y * (Ideal.ofBits .f32 0x3F000000#32 * (1 + Ideal.tanh (Ideal.ofBits .f32 0x3F4C422A#32 * (y + Ideal.ofBits .f32 0x3D372713#32 * (y * (y * y))))))

end Cert.Proof.Lru
-- ==== Proof.LruBlocks.lean ====
/-
  The prompt's recurrence kernel: what its windows read, its convolution, and a block's states and output at an index.
-/
module

public import Idealize.ShloMosaic.Lib.Pipeline.ValueKit
public import Idealize.ShloMosaic.Lib.Pipeline.ReadBack
public import Idealize.ShloMosaic.Lib.Pointwise
public import proofs.«01_k».proof.Defs
public import proofs.«01_k».proof.Proof.Gen.Kernel5Ideal.Value
public import proofs.«01_k».proof.Proof.LruScan
public import proofs.«01_k».proof.Proof.LruForm

@[expose] public section

set_option maxRecDepth 16384

noncomputable section

open Idealize.ShloMosaic Idealize.ShloMosaic.TcCoe Idealize.SL.Sem

namespace Cert.Proof.Lru

open Cert.Kernel5Ideal Cert.Kernel5Ideal.Gen Cert.Kernel5Ideal.Value

/-- The block every window reads at a point. -/
theorem idx : ∀ t : Fin cfg0.N,
    win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![0, 0, 0] ∧ win0_7.index t = ![0, 0] ∧ win0_8.index t = ![0, 0]
    ∧ win0_9.index t = ![t.val, 0] ∧ win0_10.index t = ![t.val / 16, 0, 0] ∧ win0_11.index t = ![t.val / 16, 0, 0] :=
  (by decide +kernel : ∀ t : Fin grid0.N, _)

theorem pt_lt (t : Fin cfg0.N) : t.val < 64 := lt_of_lt_of_eq t.isLt N_0

section Reads

variable (m : (ℓ : Loc nD τ sig) → Buf (Elt Ideal) ℓ) (c : Dev nD)

/-- The projection, both branches. -/
abbrev brK : FVec Ideal S16384x2048 .f32 := m ((c : Thread nD τ).loc main_arg0)
abbrev cwK : FVec Ideal S4x1024 .f32 := m ((c : Thread nD τ).loc main_arg1)
abbrev cbK : FVec Ideal S1024 .f32 := m ((c : Thread nD τ).loc main_arg2)
abbrev wrK : FVec Ideal S4x256x256 .f32 := m ((c : Thread nD τ).loc main_arg3)
abbrev rbK : FVec Ideal S1024 .f32 := m ((c : Thread nD τ).loc main_arg4)
abbrev wiK : FVec Ideal S4x256x256 .f32 := m ((c : Thread nD τ).loc main_arg5)
abbrev ibK : FVec Ideal S1024 .f32 := m ((c : Thread nD τ).loc main_arg6)
abbrev lamK : FVec Ideal S1024 .f32 := m ((c : Thread nD τ).loc main_arg7)

/-- The array row of a block's row. -/
abbrev row (t : Fin cfg0.N) (r : Fin 256) : Fin 16384 := ⟨t.val * 256 + r, by have := pt_lt t; omega⟩

theorem y_blk (t : Fin cfg0.N) (r : Fin 256) (k : Fin 1024) : (iblk m c 0 t : FVec Ideal S256x1024 .f32) (ix2 r k) = brK m c (ix2 (row t r) ⟨k, by omega⟩) := by
  blk_point [iblk, V_main_arg0, idx t, row]

theorem x_blk (t : Fin cfg0.N) (r : Fin 256) (k : Fin 1024) : (iblk m c 1 t : FVec Ideal S256x1024 .f32) (ix2 r k) = brK m c (ix2 (row t r) ⟨1024 + k, by omega⟩) := by
  blk_point [iblk, V_main_arg0, idx t, row]

theorem cw_blk (t : Fin cfg0.N) (r : Fin 4) (k : Fin 1024) : (iblk m c 2 t : FVec Ideal S4x1024 .f32) (ix2 r k) = cwK m c (ix2 r k) := by
  blk_point [iblk, V_main_arg1, idx t]

theorem cb_tab (k : Fin 1024) : (V m c main_v0 : FVec Ideal S1x1024 .f32) (ix2 0 k) = cbK m c (ix1 k) := by
  simp only [V, hostOps0, List.flatten_cons, List.flatten_nil, List.append_nil, List.cons_append, List.nil_append]
  after_results_simp
  pointwise
  try rfl

theorem rb_tab (k : Fin 1024) : (V m c main_v1 : FVec Ideal S1x1024 .f32) (ix2 0 k) = rbK m c (ix1 k) := by
  simp only [V, hostOps0, List.flatten_cons, List.flatten_nil, List.append_nil, List.cons_append, List.nil_append]
  after_results_simp
  pointwise
  try rfl

theorem ib_tab (k : Fin 1024) : (V m c main_v2 : FVec Ideal S1x1024 .f32) (ix2 0 k) = ibK m c (ix1 k) := by
  simp only [V, hostOps0, List.flatten_cons, List.flatten_nil, List.append_nil, List.cons_append, List.nil_append]
  after_results_simp
  pointwise
  try rfl

theorem lam_tab (k : Fin 1024) : (V m c main_v3 : FVec Ideal S1x1024 .f32) (ix2 0 k) = lamK m c (ix1 k) := by
  simp only [V, hostOps0, List.flatten_cons, List.flatten_nil, List.append_nil, List.cons_append, List.nil_append]
  after_results_simp
  pointwise
  try rfl

theorem cb_blk (t : Fin cfg0.N) (k : Fin 1024) : (iblk m c 3 t : FVec Ideal S1x1024 .f32) (ix2 0 k) = cbK m c (ix1 k) := by
  rw [← cb_tab]
  blk_point [iblk, idx t]

theorem wr_blk (t : Fin cfg0.N) (n : Fin 4) (d j : Fin 256) : (iblk m c 4 t : FVec Ideal S4x256x256 .f32) (ix3 n d j) = wrK m c (ix3 n d j) := by
  blk_point [iblk, V_main_arg3, idx t]

theorem rb_blk (t : Fin cfg0.N) (k : Fin 1024) : (iblk m c 5 t : FVec Ideal S1x1024 .f32) (ix2 0 k) = rbK m c (ix1 k) := by
  rw [← rb_tab]
  blk_point [iblk, idx t]

theorem wi_blk (t : Fin cfg0.N) (n : Fin 4) (d j : Fin 256) : (iblk m c 6 t : FVec Ideal S4x256x256 .f32) (ix3 n d j) = wiK m c (ix3 n d j) := by
  blk_point [iblk, V_main_arg5, idx t]

theorem ib_blk (t : Fin cfg0.N) (k : Fin 1024) : (iblk m c 7 t : FVec Ideal S1x1024 .f32) (ix2 0 k) = ibK m c (ix1 k) := by
  rw [← ib_tab]
  blk_point [iblk, idx t]

theorem lam_blk (t : Fin cfg0.N) (k : Fin 1024) : (iblk m c 8 t : FVec Ideal S1x1024 .f32) (ix2 0 k) = lamK m c (ix1 k) := by
  rw [← lam_tab]
  blk_point [iblk, idx t]

/-- The layer's arrays by their indices. -/
def parK : Par where
  x r k := brK m c (ix2 r ⟨1024 + k, by omega⟩)
  cw r k := cwK m c (ix2 r k)
  cb k := cbK m c (ix1 k)
  wr n d j := wrK m c (ix3 n d j)
  br k := rbK m c (ix1 k)
  wi n d j := wiK m c (ix3 n d j)
  bi k := ibK m c (ix1 k)
  lam k := lamK m c (ix1 k)

end Reads

/-! ## A block's columns, weights and rows -/

/-- A block's columns. -/
def cols (n : Fin 4) (C : FVec Ideal S256x1024 .f32) : V256 :=
  match n with
  | 0 => extractStridedSlice S256x256 ![0, 0] C slices_S256x1024_o0_0_S256x256
  | 1 => extractStridedSlice S256x256 ![0, 256] C slices_S256x1024_o0_256_S256x256
  | 2 => extractStridedSlice S256x256 ![0, 512] C slices_S256x1024_o0_512_S256x256
  | 3 => extractStridedSlice S256x256 ![0, 768] C slices_S256x1024_o0_768_S256x256

theorem cols_at (n : Fin 4) (C : FVec Ideal S256x1024 .f32) (i j : Fin 256) : cols n C (ix2 i j) = C (ix2 i (chan n j)) := by
  match n with
  | 0 => pointwise [cols, chan]
  | 1 => pointwise [cols, chan]
  | 2 => pointwise [cols, chan]
  | 3 => pointwise [cols, chan]

/-- A block of a row of channels. -/
def part (n : Fin 4) (v : FVec Ideal S1x1024 .f32) : FVec Ideal S1x256 .f32 :=
  match n with
  | 0 => extractStridedSlice S1x256 ![0, 0] v slices_S1x1024_o0_0_S1x256
  | 1 => extractStridedSlice S1x256 ![0, 256] v slices_S1x1024_o0_256_S1x256
  | 2 => extractStridedSlice S1x256 ![0, 512] v slices_S1x1024_o0_512_S1x256
  | 3 => extractStridedSlice S1x256 ![0, 768] v slices_S1x1024_o0_768_S1x256

theorem part_at (n : Fin 4) (v : FVec Ideal S1x1024 .f32) (j : Fin 256) : part n v (ix2 0 j) = v (ix2 0 (chan n j)) := by
  match n with
  | 0 => pointwise [part, chan]
  | 1 => pointwise [part, chan]
  | 2 => pointwise [part, chan]
  | 3 => pointwise [part, chan]

/-- A block's weight. -/
def wgt (n : Fin 4) (w : FVec Ideal S4x256x256 .f32) : FVec Ideal S1x256x256 .f32 :=
  match n with
  | 0 => View.ld (Val := Elt Ideal) (S := S4x256x256) (e' := .f32) w (Rect.unit ![0, 0, 0] S1x256x256.size inb_S4x256x256_S1x256x256_0_0_0)
  | 1 => View.ld (Val := Elt Ideal) (S := S4x256x256) (e' := .f32) w (Rect.unit ![1, 0, 0] S1x256x256.size inb_S4x256x256_S1x256x256_1_0_0)
  | 2 => View.ld (Val := Elt Ideal) (S := S4x256x256) (e' := .f32) w (Rect.unit ![2, 0, 0] S1x256x256.size inb_S4x256x256_S1x256x256_2_0_0)
  | 3 => View.ld (Val := Elt Ideal) (S := S4x256x256) (e' := .f32) w (Rect.unit ![3, 0, 0] S1x256x256.size inb_S4x256x256_S1x256x256_3_0_0)

theorem wgt_at (n : Fin 4) (w : FVec Ideal S4x256x256 .f32) (d j : Fin 256) : wgt n w (ix3 0 d j) = w (ix3 n d j) := by
  match n with
  | 0 => pointwise [wgt]
  | 1 => pointwise [wgt]
  | 2 => pointwise [wgt]
  | 3 => pointwise [wgt]

/-- A block of the carried states. -/
def prev (n : Fin 4) (v : FVec Ideal S1x1024 .f32) : FVec Ideal S1x256 .f32 :=
  match n with
  | 0 => View.ld (Val := Elt Ideal) (S := S1x1024) (e' := .f32) v (Rect.unit ![0, 0] S1x256.size inb_S1x1024_S1x256_0_0)
  | 1 => View.ld (Val := Elt Ideal) (S := S1x1024) (e' := .f32) v (Rect.unit ![0, 256] S1x256.size inb_S1x1024_S1x256_0_256)
  | 2 => View.ld (Val := Elt Ideal) (S := S1x1024) (e' := .f32) v (Rect.unit ![0, 512] S1x256.size inb_S1x1024_S1x256_0_512)
  | 3 => View.ld (Val := Elt Ideal) (S := S1x1024) (e' := .f32) v (Rect.unit ![0, 768] S1x256.size inb_S1x1024_S1x256_0_768)

theorem prev_at (n : Fin 4) (v : FVec Ideal S1x1024 .f32) (j : Fin 256) : prev n v (ix2 0 j) = v (ix2 0 (chan n j)) := by
  match n with
  | 0 => pointwise [prev, chan]
  | 1 => pointwise [prev, chan]
  | 2 => pointwise [prev, chan]
  | 3 => pointwise [prev, chan]

/-- A block of the other branch. -/
def ycol (n : Fin 4) (v : FVec Ideal S256x1024 .f32) : V256 :=
  match n with
  | 0 => View.ld (Val := Elt Ideal) (S := S256x1024) (e' := .f32) v (Rect.unit ![0, 0] S256x256.size inb_S256x1024_S256x256_0_0)
  | 1 => View.ld (Val := Elt Ideal) (S := S256x1024) (e' := .f32) v (Rect.unit ![0, 256] S256x256.size inb_S256x1024_S256x256_0_256)
  | 2 => View.ld (Val := Elt Ideal) (S := S256x1024) (e' := .f32) v (Rect.unit ![0, 512] S256x256.size inb_S256x1024_S256x256_0_512)
  | 3 => View.ld (Val := Elt Ideal) (S := S256x1024) (e' := .f32) v (Rect.unit ![0, 768] S256x256.size inb_S256x1024_S256x256_0_768)

theorem ycol_at (n : Fin 4) (v : FVec Ideal S256x1024 .f32) (i j : Fin 256) : ycol n v (ix2 i j) = v (ix2 i (chan n j)) := by
  match n with
  | 0 => pointwise [ycol, chan]
  | 1 => pointwise [ycol, chan]
  | 2 => pointwise [ycol, chan]
  | 3 => pointwise [ycol, chan]

/-- The last row of a block's states. -/
def lastR (h : V256) : FVec Ideal S1x256 .f32 := shapeCast S1x256 (extractStridedSlice S1x256 ![255, 0] h slices_S256x256_o255_0_S1x256) shapeCasts_S1x256_S1x256

theorem lastR_at (h : V256) (j : Fin 256) : lastR h (ix2 0 j) = h (ix2 255 j) := by
  pointwise [lastR]

theorem blockZ_at (h y : V256) (i j : Fin 256) : blockZ h y (ix2 i j) = h (ix2 i j) * gelu (y (ix2 i j)) := by
  pointwise [blockZ, gelu]

theorem pay1_at (v : Vec Ideal S1x1024 .f32) (k : Fin 1024) : k0_pay1 v (ix3 0 0 k) = v (ix2 0 k) := by pointwise [k0_pay1]
theorem pay2_at (r : Fin 8) (k : Fin 1024) : (k0_pay2 (F := Ideal)) (ix2 r k) = 0 := by pointwise [k0_pay2]
theorem pay3_at (k : Fin 1024) : (k0_pay3 (F := Ideal)) (ix2 0 k) = 0 := by pointwise [k0_pay3]
theorem pay4_at (v : Vec Ideal S256x1024 .f32) (r : Fin 256) (k : Fin 1024) : k0_pay4 v (ix2 r k) = v (ix2 r k) := by pointwise [k0_pay4]
theorem pay6_at (v : Vec Ideal S8x1024 .f32) (r : Fin 8) (k : Fin 1024) : k0_pay6 v (ix2 r k) = v (ix2 r k) := by pointwise [k0_pay6]
theorem pay8_at (v : Vec Ideal S1x1024 .f32) (k : Fin 1024) : k0_pay8 v (ix2 0 k) = v (ix2 0 k) := by pointwise [k0_pay8]
theorem pay9_at (v : Vec Ideal S1x1024 .f32) (k : Fin 1024) : k0_pay9 v (ix2 0 k) = v (ix2 0 k) := by pointwise [k0_pay9]
theorem pay110_at (v : Vec Ideal S3x1024 .f32) (r : Fin 3) (k : Fin 1024) : k0_pay110 v (ix3 0 r k) = v (ix2 r k) := by pointwise [k0_pay110]

theorem pay7_at (v : Vec Ideal S1x1024 .f32) (k : Fin 1024) : k0_pay7 v (ix2 0 k) = sp (-(v (ix2 0 k))) := by
  have e : k0_pay7 v (ix2 0 k) = max (0 - v (ix2 0 k)) 0 + Ideal.log1p (Ideal.exp (0 - max (0 - v (ix2 0 k)) (-(0 - v (ix2 0 k))))) := by
    pointwise [k0_pay7]
    rfl
  rw [e, zero_sub, zero_sub, sp]

theorem pay5_at (v3 : Vec Ideal S256x1024 .f32) (v7 : Vec Ideal S4x1024 .f32) (v8 : Vec Ideal S1x1024 .f32) (v15 v20 v25 : Vec Ideal S256x1024 .f32)
    (r : Fin 256) (k : Fin 1024) : k0_pay5 v3 v7 v8 v15 v20 v25 (ix2 r k)
      = v8 (ix2 0 k) + v3 (ix2 r k) * v7 (ix2 3 k) + v15 (ix2 r k) * v7 (ix2 2 k) + v20 (ix2 r k) * v7 (ix2 1 k) + v25 (ix2 r k) * v7 (ix2 0 k) := by
  pointwise [k0_pay5]

/-! ## A block's states -/

/-- A block's states at a row: the recurrence from the state before, where its convolution and gates are a row function's. -/
theorem blockH_at (P : Par) (b n : Fin 4) (s0 : ℕ) (xs : V256) (wr wi : FVec Ideal S1x256x256 .f32) (br bi sps hp : FVec Ideal S1x256 .f32)
    (hx : ∀ i j : Fin 256, xs (ix2 i j) = conv P b (s0 + i) (chan n j)) (hr : ∀ d j : Fin 256, wr (ix3 0 d j) = P.wr n d j)
    (hi : ∀ d j : Fin 256, wi (ix3 0 d j) = P.wi n d j) (hbr : ∀ j : Fin 256, br (ix2 0 j) = P.br (chan n j)) (hbi : ∀ j : Fin 256, bi (ix2 0 j) = P.bi (chan n j))
    (hs : ∀ j : Fin 256, sps (ix2 0 j) = sp (-P.lam (chan n j))) (hh : ∀ j : Fin 256, hp (ix2 0 j) = hid P b n j s0) (i j : Fin 256) :
    blockH xs wr wi br bi sps hp (ix2 i j) = hid P b n j (s0 + (i + 1)) := by
  have hL : ∀ i : Fin 256, logA xs wr br sps (ix2 i j) = la (argR P b n j (s0 + i)) (-P.lam (chan n j)) := fun i => by
    simp only [logA_at, gate_at, hx, hr, hbr, hs, la, argR, arg]
  rw [blockH, states_at (fun r => decA P b n j (s0 + r)) (fun r => dec_nonneg _ _) (fun r => inA P b n j (s0 + r)) j, hid_split, hh]
  · intro i
    refine Eq.trans ?_ (dec_eq _ _).symm
    rw [← hL i]
    rfl
  · intro i
    rw [inB_at, hL, factor _ (la_nonpos _ _)]
    simp only [gate_at, hx, hi, hbi, inA, inp, arg]

end Cert.Proof.Lru

end
-- ==== Proof.LruKernel.lean ====
/-
  The prompt's recurrence kernel: what every point leaves in the outputs and in the scratch it carries.
-/
module

public import Idealize.ShloMosaic.Lib.WritesUnit
public import proofs.«01_k».proof.Proof.LruBlocks

@[expose] public section

set_option maxRecDepth 16384

noncomputable section

open Idealize.ShloMosaic Idealize.ShloMosaic.TcCoe Idealize.SL.Sem

namespace Cert.Proof.Lru

open Cert.Kernel5Ideal Cert.Kernel5Ideal.Gen Cert.Kernel5Ideal.Value

variable (m : (ℓ : Loc nD τ sig) → Buf (Elt Ideal) ℓ) (c : Dev nD)

/-- The rows a point's convolution reads: eight rows from before, then the point's. -/
abbrev V264 := FVec Ideal S264x1024 .f32
/-- The rows from before, as the point before left them. -/
def before (t : Fin cfg0.N) : V264 := (outsAt0 m c (t.val - 1) (Nat.lt_of_le_of_lt (Nat.sub_le _ _) t.isLt)).2.2.2.1
/-- The states from before. -/
def hBefore (t : Fin cfg0.N) : FVec Ideal S1x1024 .f32 := (outsAt0 m c (t.val - 1) (Nat.lt_of_le_of_lt (Nat.sub_le _ _) t.isLt)).2.2.2.2

/-- Eight rows, and a point's below them. -/
def over (S : ℕ → Fin 1024 → EReal) (p : FVec Ideal S256x1024 .f32) : V264 := fun y =>
  if (y 0 : ℕ) < 8 then S (y 0) ⟨y 1, (y 1).isLt⟩ else p (ix2 ⟨(y 0 : ℕ) - 8, by have := (y 0).isLt; change (y 0 : ℕ) < 264 at this; omega⟩ ⟨y 1, (y 1).isLt⟩)

/-- The first eight rows at a point: zeros at a batch row's first point, else those from before. -/
def top (t : Fin cfg0.N) (q : ℕ) (k : Fin 1024) : EReal := if t.val % 16 = 0 then 0 else before m c t (ix2 ⟨q % 264, Nat.mod_lt _ (by norm_num)⟩ k)
/-- The rows at a point. -/
def rows (t : Fin cfg0.N) : V264 := over (top m c t) (k0_pay4 (iblk m c 1 t))
/-- The states at a point. -/
def hAt (t : Fin cfg0.N) : FVec Ideal S1x1024 .f32 := if t.val % 16 = 0 then k0_pay3 (F := Ideal) else hBefore m c t

/-- A point's convolution. -/
def cvAt (t : Fin cfg0.N) : FVec Ideal S256x1024 .f32 :=
  k0_pay5 (iblk m c 1 t) (iblk m c 2 t) (iblk m c 3 t) (View.ld (Val := Elt Ideal) (S := S264x1024) (e' := .f32) (rows m c t) (Rect.unit (s := S264x1024) ![7, 0] S256x1024.size inb_S264x1024_S256x1024_7_0))
    (View.ld (Val := Elt Ideal) (S := S264x1024) (e' := .f32) (rows m c t) (Rect.unit (s := S264x1024) ![6, 0] S256x1024.size inb_S264x1024_S256x1024_6_0))
    (View.ld (Val := Elt Ideal) (S := S264x1024) (e' := .f32) (rows m c t) (Rect.unit (s := S264x1024) ![5, 0] S256x1024.size inb_S264x1024_S256x1024_5_0))

/-- A block's states at a point. -/
def HB (n : Fin 4) (C : FVec Ideal S256x1024 .f32) (t : Fin cfg0.N) (h : FVec Ideal S1x1024 .f32) : V256 :=
  blockH (cols n C) (wgt n (iblk m c 4 t)) (wgt n (iblk m c 6 t)) (part n (k0_pay8 (iblk m c 5 t))) (part n (k0_pay9 (iblk m c 7 t))) (part n (k0_pay7 (iblk m c 8 t))) (prev n h)

/-- The four blocks' last states, as the pieces of the carried row. -/
def hPieces (C : FVec Ideal S256x1024 .f32) (t : Fin cfg0.N) (h : FVec Ideal S1x1024 .f32) : List (View.Piece (Elt Ideal) S1x1024 .f32) :=
  [⟨Rect.unit ![0, 768] ![1, 256] inb_S1x1024_S1x256_0_768, lastR (HB m c 3 C t h)⟩, ⟨Rect.unit ![0, 512] ![1, 256] inb_S1x1024_S1x256_0_512, lastR (HB m c 2 C t h)⟩,
    ⟨Rect.unit ![0, 256] ![1, 256] inb_S1x1024_S1x256_0_256, lastR (HB m c 1 C t h)⟩, ⟨Rect.unit ![0, 0] ![1, 256] inb_S1x1024_S1x256_0_0, lastR (HB m c 0 C t h)⟩]

/-- The four blocks' outputs, as the pieces of the output's block. -/
def zPieces (C : FVec Ideal S256x1024 .f32) (t : Fin cfg0.N) (h : FVec Ideal S1x1024 .f32) : List (View.Piece (Elt Ideal) S256x1024 .bf16) :=
  [⟨Rect.unit ![0, 768] ![256, 256] inb_S256x1024_S256x256_0_768, blockZ (HB m c 3 C t h) (ycol 3 (iblk m c 0 t))⟩,
    ⟨Rect.unit ![0, 512] ![256, 256] inb_S256x1024_S256x256_0_512, blockZ (HB m c 2 C t h) (ycol 2 (iblk m c 0 t))⟩,
    ⟨Rect.unit ![0, 256] ![256, 256] inb_S256x1024_S256x256_0_256, blockZ (HB m c 1 C t h) (ycol 1 (iblk m c 0 t))⟩,
    ⟨Rect.unit ![0, 0] ![256, 256] inb_S256x1024_S256x256_0_0, blockZ (HB m c 0 C t h) (ycol 0 (iblk m c 0 t))⟩]

/-- A batch row's first point writes its rows under eight rows of zeros. -/
def fresh (t : Fin cfg0.N) : List (View.Piece (Elt Ideal) S264x1024 .f32) :=
  [⟨Rect.unit ![8, 0] ![256, 1024] inb_S264x1024_S256x1024_8_0, k0_pay4 (iblk m c 1 t)⟩, ⟨Rect.unit ![0, 0] ![8, 1024] inb_S264x1024_S8x1024_0_0, k0_pay2 (F := Ideal)⟩]

def cvA (t : Fin cfg0.N) : FVec Ideal S256x1024 .f32 :=
  k0_pay5 (iblk m c 1 t) (iblk m c 2 t) (iblk m c 3 t)
    ((View.whole cc0_scratch0).readCov (Val := Elt Ideal) (fresh m c t) (Rect.unit (s := S264x1024) ![7, 0] S256x1024.size inb_S264x1024_S256x1024_7_0).toLoadRect)
    ((View.whole cc0_scratch0).readCov (Val := Elt Ideal) (fresh m c t) (Rect.unit (s := S264x1024) ![6, 0] S256x1024.size inb_S264x1024_S256x1024_6_0).toLoadRect)
    ((View.whole cc0_scratch0).readCov (Val := Elt Ideal) (fresh m c t) (Rect.unit (s := S264x1024) ![5, 0] S256x1024.size inb_S264x1024_S256x1024_5_0).toLoadRect)

theorem zA (t : Fin cfg0.N) (h0 : t.val % 16 = 0) : (outsAt0 m c t.val t.isLt).1 = View.canon (zPieces m c (cvA m c t) t (k0_pay3 (F := Ideal))) := by
  rw [outsAt0_A m c t h0]
  frame_open
  simp (disch := decide) only [↓ View.readCov_skip, ↓ View.readCov_cons_toLoadRect, ↓ View.readCov_fill]
  frame_out
  rfl

theorem hA (t : Fin cfg0.N) (h0 : t.val % 16 = 0) : (outsAt0 m c t.val t.isLt).2.2.2.2 = View.canon (hPieces m c (cvA m c t) t (k0_pay3 (F := Ideal)) ++ [⟨Rect.unit ![0,0] ![1,1024] inb_S1x1024_S1x1024_0_0, k0_pay3 (F := Ideal)⟩]) := by
  rw [outsAt0_A m c t h0]
  frame_open
  simp (disch := decide) only [↓ View.readCov_skip, ↓ View.readCov_cons_toLoadRect, ↓ View.readCov_fill]
  frame_out
  rfl

theorem hlA (t : Fin cfg0.N) (h0 : t.val % 16 = 0) : (outsAt0 m c t.val t.isLt).2.2.1 = k0_pay1 ((View.whole cc0_scratch1).readCov (hPieces m c (cvA m c t) t (k0_pay3 (F := Ideal)) ++ [⟨Rect.unit ![0,0] ![1,1024] inb_S1x1024_S1x1024_0_0, k0_pay3 (F := Ideal)⟩]) (Rect.unit ![0,0] ![1,1024] inb_S1x1024_S1x1024_0_0).toLoadRect) := by
  rw [outsAt0_A m c t h0]
  frame_open
  simp (disch := decide) only [↓ View.readCov_skip, ↓ View.readCov_cons_toLoadRect, ↓ View.readCov_fill]
  frame_out
  rfl

/-- A later point writes its rows under those from before. -/
def later (t : Fin cfg0.N) : List (View.Piece (Elt Ideal) S264x1024 .f32) :=
  [⟨Rect.unit ![8, 0] ![256, 1024] inb_S264x1024_S256x1024_8_0, k0_pay4 (iblk m c 1 t)⟩]
def stale (t : Fin cfg0.N) : V264 :=
  View.read (Elt Ideal) (View.whole cc0_scratch0) ((View.whole cc0_scratch0).writes (Elt Ideal) ((Memref.isWhole_whole cc0_scratch0).unread (before m c t)) (later m c t))
/-- The last eight rows move to the top. -/
def moved (L : List (View.Piece (Elt Ideal) S264x1024 .f32)) : List (View.Piece (Elt Ideal) S264x1024 .f32) :=
  ⟨Rect.unit ![0, 0] ![8, 1024] inb_S264x1024_S8x1024_0_0, k0_pay6 ((View.whole cc0_scratch0).readCov (Val := Elt Ideal) L (Rect.unit (s := S264x1024) ![256, 0] S8x1024.size inb_S264x1024_S8x1024_256_0).toLoadRect)⟩ :: L

def cvB (t : Fin cfg0.N) : FVec Ideal S256x1024 .f32 :=
  k0_pay5 (iblk m c 1 t) (iblk m c 2 t) (iblk m c 3 t) (View.ld (Val := Elt Ideal) (S := S264x1024) (e' := .f32) (stale m c t) (Rect.unit (s := S264x1024) ![7, 0] S256x1024.size inb_S264x1024_S256x1024_7_0))
    (View.ld (Val := Elt Ideal) (S := S264x1024) (e' := .f32) (stale m c t) (Rect.unit (s := S264x1024) ![6, 0] S256x1024.size inb_S264x1024_S256x1024_6_0))
    (View.ld (Val := Elt Ideal) (S := S264x1024) (e' := .f32) (stale m c t) (Rect.unit (s := S264x1024) ![5, 0] S256x1024.size inb_S264x1024_S256x1024_5_0))

theorem zB (t : Fin cfg0.N) (h0 : ¬ t.val % 16 = 0) : (outsAt0 m c t.val t.isLt).1 = View.canon (zPieces m c (cvB m c t) t (hBefore m c t)) := by
  rw [outsAt0_B m c t h0]
  frame_open
  simp (disch := decide) only [↓ View.readCov_skip, ↓ View.readCov_cons_toLoadRect, ↓ View.readCov_fill]
  frame_out
  simp only [read_unread_whole]
  rfl

theorem hB (t : Fin cfg0.N) (h0 : ¬ t.val % 16 = 0) : (outsAt0 m c t.val t.isLt).2.2.2.2 = View.canon (hPieces m c (cvB m c t) t (hBefore m c t)) := by
  rw [outsAt0_B m c t h0]
  frame_open
  simp (disch := decide) only [↓ View.readCov_skip, ↓ View.readCov_cons_toLoadRect, ↓ View.readCov_fill]
  frame_out
  simp only [read_unread_whole]
  rfl

theorem hlB (t : Fin cfg0.N) (h0 : ¬ t.val % 16 = 0) : (outsAt0 m c t.val t.isLt).2.2.1
    = k0_pay1 ((View.whole cc0_scratch1).readCov (hPieces m c (cvB m c t) t (hBefore m c t)) (Rect.unit ![0,0] ![1,1024] inb_S1x1024_S1x1024_0_0).toLoadRect) := by
  rw [outsAt0_B m c t h0]
  frame_open
  simp (disch := decide) only [↓ View.readCov_skip, ↓ View.readCov_cons_toLoadRect, ↓ View.readCov_fill]
  frame_out
  simp only [read_unread_whole]
  rfl

theorem csA (t : Fin cfg0.N) (h0 : t.val % 16 = 0) : (outsAt0 m c t.val t.isLt).2.1
    = k0_pay110 ((View.whole cc0_scratch0).readCov (moved (fresh m c t)) (Rect.unit ![5, 0] ![3, 1024] inb_S264x1024_S3x1024_5_0).toLoadRect) := by
  rw [outsAt0_A m c t h0]
  frame_open
  simp (disch := decide) only [↓ View.readCov_skip, ↓ View.readCov_cons_toLoadRect, ↓ View.readCov_fill]
  frame_out
  rfl

theorem csB (t : Fin cfg0.N) (h0 : ¬ t.val % 16 = 0) : (outsAt0 m c t.val t.isLt).2.1
    = k0_pay110 ((View.whole cc0_scratch0).readCov (moved (later m c t)) (Rect.unit ![5, 0] ![3, 1024] inb_S264x1024_S3x1024_5_0).toLoadRect) := by
  rw [outsAt0_B m c t h0]
  frame_open
  simp (disch := decide) only [↓ View.readCov_skip, ↓ View.readCov_cons_toLoadRect, ↓ View.readCov_fill]
  frame_out
  rfl

theorem xbA (t : Fin cfg0.N) (h0 : t.val % 16 = 0) : (outsAt0 m c t.val t.isLt).2.2.2.1 = View.canon (moved (fresh m c t)) := by
  rw [outsAt0_A m c t h0]
  frame_open
  simp (disch := decide) only [↓ View.readCov_skip, ↓ View.readCov_cons_toLoadRect, ↓ View.readCov_fill]
  frame_out
  rfl

theorem xbB (t : Fin cfg0.N) (h0 : ¬ t.val % 16 = 0) : (outsAt0 m c t.val t.isLt).2.2.2.1 = View.canon (moved (later m c t)) := by
  rw [outsAt0_B m c t h0]
  frame_open
  simp (disch := decide) only [↓ View.readCov_skip, ↓ View.readCov_cons_toLoadRect, ↓ View.readCov_fill]
  frame_out
  rfl

/-! ## The pieces read back -/

omit m c in
theorem canon_mem {S : Shape} {e : EltTy} {off size : Fin S.rank → ℕ} (inb : ∀ a, off a + size a ≤ S.size a) (w : (Rect.unit off size inb).shape.Idx → Elt Ideal e)
    (L : List (View.Piece (Elt Ideal) S e)) (y : S.Idx) (x : (Rect.unit off size inb).shape.Idx) (hx : ∀ a, (y a : ℕ) = off a + (x a : ℕ)) :
    View.canon ((⟨Rect.unit off size inb, w⟩ : View.Piece (Elt Ideal) S e) :: L) y = w x := by
  have hy : (Rect.unit off size inb).emb x = y := funext fun a => Fin.ext (by
    rw [hx a]
    show off a + 1 * (x a : ℕ) = _
    rw [one_mul])
  rw [← hy]
  exact View.canon_cons_emb _ w L x

omit m c in
theorem canon_skip {S : Shape} {e : EltTy} {off size : Fin S.rank → ℕ} (inb : ∀ a, off a + size a ≤ S.size a) (w : (Rect.unit off size inb).shape.Idx → Elt Ideal e)
    (L : List (View.Piece (Elt Ideal) S e)) (y : S.Idx) (a : Fin S.rank) (ha : (y a : ℕ) < off a ∨ off a + size a ≤ (y a : ℕ)) :
    View.canon ((⟨Rect.unit off size inb, w⟩ : View.Piece (Elt Ideal) S e) :: L) y = View.canon L y :=
  View.canon_cons_of_not_mem _ L fun h => by
    have h' : y ∈ (Rect.unit off size inb).set := h
    have := (Rect.mem_set_unit.mp h') a
    omega

section Flat

variable {d0 d1 o0 o1 s0 s1 : ℕ} {e : EltTy} (inb : ∀ a, (![o0, o1] : Fin 2 → ℕ) a + (![s0, s1] : Fin 2 → ℕ) a ≤ (⟨2, ![d0, d1]⟩ : Shape).size a)
  (w : (⟨2, ![s0, s1]⟩ : Shape).Idx → Elt Ideal e) (L : List (View.Piece (Elt Ideal) (⟨2, ![d0, d1]⟩ : Shape) e)) (p : Fin d0) (q : Fin d1)

omit m c in
theorem canon_at (i : Fin s0) (j : Fin s1) (hp : (p : ℕ) = o0 + i) (hq : (q : ℕ) = o1 + j) :
    View.canon ((⟨Rect.unit (s := ⟨2, ![d0, d1]⟩) ![o0, o1] ![s0, s1] inb, w⟩ : View.Piece (Elt Ideal) (⟨2, ![d0, d1]⟩ : Shape) e) :: L) (ix2 p q) = w (ix2 i j) :=
  canon_mem (S := ⟨2, ![d0, d1]⟩) (off := ![o0, o1]) (size := ![s0, s1]) inb w L (ix2 p q) (ix2 i j) fun a => by
    match a with
    | 0 => exact hp
    | 1 => exact hq

omit m c in
theorem canon_off0 (h : (p : ℕ) < o0 ∨ o0 + s0 ≤ (p : ℕ)) :
    View.canon ((⟨Rect.unit (s := ⟨2, ![d0, d1]⟩) ![o0, o1] ![s0, s1] inb, w⟩ : View.Piece (Elt Ideal) (⟨2, ![d0, d1]⟩ : Shape) e) :: L) (ix2 p q) = View.canon L (ix2 p q) :=
  canon_skip (S := ⟨2, ![d0, d1]⟩) (off := ![o0, o1]) (size := ![s0, s1]) inb w L (ix2 p q) 0 h

omit m c in
theorem canon_off1 (h : (q : ℕ) < o1 ∨ o1 + s1 ≤ (q : ℕ)) :
    View.canon ((⟨Rect.unit (s := ⟨2, ![d0, d1]⟩) ![o0, o1] ![s0, s1] inb, w⟩ : View.Piece (Elt Ideal) (⟨2, ![d0, d1]⟩ : Shape) e) :: L) (ix2 p q) = View.canon L (ix2 p q) :=
  canon_skip (S := ⟨2, ![d0, d1]⟩) (off := ![o0, o1]) (size := ![s0, s1]) inb w L (ix2 p q) 1 h

omit m c in
/-- Writes over contents `X` read where the last one is, -/
theorem put_at (v : View sig .tc .vmem (⟨2, ![d0, d1]⟩ : Shape) e) (f : v.ty.Contents (Elt Ideal)) (i : Fin s0) (j : Fin s1) (hp : (p : ℕ) = o0 + i) (hq : (q : ℕ) = o1 + j) :
    v.read (Elt Ideal) (v.writes (Elt Ideal) f ((⟨Rect.unit (s := ⟨2, ![d0, d1]⟩) ![o0, o1] ![s0, s1] inb, w⟩ : View.Piece (Elt Ideal) (⟨2, ![d0, d1]⟩ : Shape) e) :: L)) (ix2 p q) = w (ix2 i j) :=
  View.read_writes_cons_unit_of_mem v f inb w L (ix2 p q) (ix2 i j) rfl fun a => by
    match a with
    | 0 => exact hp
    | 1 => exact hq

omit m c in
/-- and off it what they did before. -/
theorem put_off (v : View sig .tc .vmem (⟨2, ![d0, d1]⟩ : Shape) e) (f : v.ty.Contents (Elt Ideal)) (h : (p : ℕ) < o0 ∨ o0 + s0 ≤ (p : ℕ)) :
    v.read (Elt Ideal) (v.writes (Elt Ideal) f ((⟨Rect.unit (s := ⟨2, ![d0, d1]⟩) ![o0, o1] ![s0, s1] inb, w⟩ : View.Piece (Elt Ideal) (⟨2, ![d0, d1]⟩ : Shape) e) :: L)) (ix2 p q)
      = v.read (Elt Ideal) (v.writes (Elt Ideal) f L) (ix2 p q) :=
  View.read_writes_cons_unit_of_not_mem v f inb w L (ix2 p q) rfl 0 h

end Flat

theorem rows_top (t : Fin cfg0.N) (q : Fin 8) (k : Fin 1024) : rows m c t (ix2 ⟨q, by omega⟩ k) = top m c t q k := by
  unfold rows over
  exact if_pos q.isLt

theorem rows_own (t : Fin cfg0.N) (r : Fin 256) (k : Fin 1024) : rows m c t (ix2 ⟨8 + (r : ℕ), by omega⟩ k) = (iblk m c 1 t : FVec Ideal S256x1024 .f32) (ix2 r k) := by
  unfold rows over
  refine (if_neg (by show ¬ (8 + (r : ℕ) < 8); omega)).trans ?_
  rw [pay4_at]
  exact congrArg (fun u => (iblk m c 1 t : FVec Ideal S256x1024 .f32) (ix2 u k)) (Fin.ext (by show 8 + (r : ℕ) - 8 = r; omega))

omit m c in
/-- A row of the rows is one of the eight or one of the point's. -/
theorem row_cases (y : S264x1024.Idx) : (∃ (q : Fin 8) (k : Fin 1024), y = ix2 ⟨q, by omega⟩ k) ∨ (∃ (r : Fin 256) (k : Fin 1024), y = ix2 ⟨8 + (r : ℕ), by omega⟩ k) := by
  idx_vars y
  by_cases h : (y0 : ℕ) < 8
  · exact Or.inl ⟨⟨y0, h⟩, y1, rfl⟩
  · refine Or.inr ⟨⟨(y0 : ℕ) - 8, by have := y0.isLt; omega⟩, y1, ?_⟩
    exact congrArg (fun u => ix2 u y1) (Fin.ext (by show (y0 : ℕ) = 8 + ((y0 : ℕ) - 8); omega))

theorem own_fresh (L : List (View.Piece (Elt Ideal) S264x1024 .f32)) (t : Fin cfg0.N) (r : Fin 256) (k : Fin 1024) :
    View.canon ((⟨Rect.unit ![8, 0] ![256, 1024] inb_S264x1024_S256x1024_8_0, k0_pay4 (iblk m c 1 t)⟩ : View.Piece (Elt Ideal) S264x1024 .f32) :: L) (ix2 ⟨8 + (r : ℕ), by omega⟩ k)
      = (iblk m c 1 t : FVec Ideal S256x1024 .f32) (ix2 r k) :=
  (canon_at _ _ _ _ _ r k (by rfl) (by exact (Nat.zero_add _).symm)).trans (pay4_at _ r k)

theorem fresh_eq (t : Fin cfg0.N) (h0 : t.val % 16 = 0) : View.canon (fresh m c t) = rows m c t := by
  funext y
  rcases row_cases y with ⟨q, k, rfl⟩ | ⟨r, k, rfl⟩
  · rw [rows_top, top, if_pos h0]
    unfold fresh
    refine (canon_off0 _ _ _ _ _ (Or.inl (by exact q.isLt))).trans ?_
    exact (canon_at _ _ _ _ _ q k (by exact (Nat.zero_add _).symm) (by exact (Nat.zero_add _).symm)).trans (pay2_at q k)
  · rw [rows_own]
    exact own_fresh m c _ t r k

theorem stale_eq (t : Fin cfg0.N) (h0 : ¬ t.val % 16 = 0) : stale m c t = rows m c t := by
  funext y
  unfold stale later
  rcases row_cases y with ⟨q, k, rfl⟩ | ⟨r, k, rfl⟩
  · rw [rows_top, top, if_neg h0]
    refine (put_off _ _ _ _ _ _ _ (Or.inl (by exact q.isLt))).trans ?_
    rw [View.writes_nil, read_unread_whole]
    exact congrArg (fun u => before m c t (ix2 u k)) (Fin.ext (Nat.mod_eq_of_lt (by have := q.isLt; omega)).symm)
  · rw [rows_own]
    exact (put_at _ _ _ _ _ _ _ r k (by rfl) (by exact (Nat.zero_add _).symm)).trans (pay4_at _ r k)

/-- The rows moved to the top are the last eight. -/
theorem moved_at (L : List (View.Piece (Elt Ideal) S264x1024 .f32)) (t : Fin cfg0.N) (q : Fin 8) (k : Fin 1024) :
    View.canon (moved ((⟨Rect.unit ![8, 0] ![256, 1024] inb_S264x1024_S256x1024_8_0, k0_pay4 (iblk m c 1 t)⟩ : View.Piece (Elt Ideal) S264x1024 .f32) :: L)) (ix2 ⟨q, by omega⟩ k)
      = (iblk m c 1 t : FVec Ideal S256x1024 .f32) (ix2 ⟨248 + (q : ℕ), by omega⟩ k) := by
  unfold moved
  refine (canon_at _ _ _ _ _ q k (by exact (Nat.zero_add _).symm) (by exact (Nat.zero_add _).symm)).trans ((pay6_at _ q k).trans ?_)
  rw [View.readCov_eq_canon']
  refine Eq.trans (congrArg (View.canon _) (funext fun a => Fin.ext ?_)) (own_fresh m c L t ⟨248 + (q : ℕ), by omega⟩ k)
  match a with
  | 0 => show 256 + 1 * (q : ℕ) = 8 + (248 + (q : ℕ)); omega
  | 1 => show 0 + 1 * (k : ℕ) = (k : ℕ); omega

theorem xb_at (t : Fin cfg0.N) (q : Fin 8) (k : Fin 1024) : ((outsAt0 m c t.val t.isLt).2.2.2.1 : V264) (ix2 ⟨q, by omega⟩ k)
    = (iblk m c 1 t : FVec Ideal S256x1024 .f32) (ix2 ⟨248 + (q : ℕ), by omega⟩ k) := by
  by_cases h0 : t.val % 16 = 0
  · rw [xbA m c t h0]
    exact moved_at m c _ t q k
  · rw [xbB m c t h0]
    exact moved_at m c _ t q k

theorem cs_point (t : Fin cfg0.N) (r : Fin 3) (k : Fin 1024) : ((outsAt0 m c t.val t.isLt).2.1 : FVec Ideal S1x3x1024 .f32) (ix3 0 r k)
    = (iblk m c 1 t : FVec Ideal S256x1024 .f32) (ix2 ⟨253 + (r : ℕ), by omega⟩ k) := by
  have e : ∀ L : List (View.Piece (Elt Ideal) S264x1024 .f32), k0_pay110 ((View.whole cc0_scratch0).readCov (moved ((⟨Rect.unit ![8, 0] ![256, 1024] inb_S264x1024_S256x1024_8_0, k0_pay4 (iblk m c 1 t)⟩ : View.Piece (Elt Ideal) S264x1024 .f32) :: L))
      (Rect.unit ![5, 0] ![3, 1024] inb_S264x1024_S3x1024_5_0).toLoadRect) (ix3 0 r k) = (iblk m c 1 t : FVec Ideal S256x1024 .f32) (ix2 ⟨253 + (r : ℕ), by omega⟩ k) := fun L => by
    refine (pay110_at _ r k).trans ?_
    rw [View.readCov_eq_canon']
    refine Eq.trans (congrArg (View.canon _) (funext fun a => Fin.ext ?_)) ((moved_at m c L t ⟨5 + (r : ℕ), by omega⟩ k).trans ?_)
    · match a with
      | 0 => show 5 + 1 * (r : ℕ) = 5 + (r : ℕ); omega
      | 1 => show 0 + 1 * (k : ℕ) = (k : ℕ); omega
    · exact congrArg (fun u => (iblk m c 1 t : FVec Ideal S256x1024 .f32) (ix2 u k)) (Fin.ext (by show 248 + (5 + (r : ℕ)) = 253 + (r : ℕ); omega))
  by_cases h0 : t.val % 16 = 0
  · rw [csA m c t h0]
    exact e _
  · rw [csB m c t h0]
    exact e _

theorem cvA_eq (t : Fin cfg0.N) (h0 : t.val % 16 = 0) : cvA m c t = cvAt m c t := by
  unfold cvA
  simp only [View.readCov_eq_canon', fresh_eq m c t h0]
  rfl

theorem cvB_eq (t : Fin cfg0.N) (h0 : ¬ t.val % 16 = 0) : cvB m c t = cvAt m c t := by
  unfold cvB
  rw [stale_eq m c t h0]
  rfl

theorem z_eq (t : Fin cfg0.N) : (outsAt0 m c t.val t.isLt).1 = View.canon (zPieces m c (cvAt m c t) t (hAt m c t)) := by
  by_cases h0 : t.val % 16 = 0
  · rw [zA m c t h0, cvA_eq m c t h0, hAt, if_pos h0]
  · rw [zB m c t h0, cvB_eq m c t h0, hAt, if_neg h0]

/-- The carried states' pieces, at a channel. -/
theorem hPieces_at (C : FVec Ideal S256x1024 .f32) (t : Fin cfg0.N) (h : FVec Ideal S1x1024 .f32) (L : List (View.Piece (Elt Ideal) S1x1024 .f32)) (n : Fin 4) (j : Fin 256) :
    View.canon (hPieces m c C t h ++ L) (ix2 0 (chan n j)) = HB m c n C t h (ix2 255 j) := by
  have hj := j.isLt
  rw [← lastR_at (HB m c n C t h) j]
  unfold hPieces
  simp only [List.cons_append, List.nil_append]
  match n with
  | 3 => exact canon_at _ _ _ _ _ 0 j rfl (by first | rfl | show 0 * 256 + (j : ℕ) = 0 + (j : ℕ); omega)
  | 2 =>
    refine (canon_off1 _ _ _ _ _ (Or.inl (by show 2 * 256 + (j : ℕ) < 768; omega))).trans ?_
    exact canon_at _ _ _ _ _ 0 j rfl (by first | rfl | show 0 * 256 + (j : ℕ) = 0 + (j : ℕ); omega)
  | 1 =>
    refine (canon_off1 _ _ _ _ _ (Or.inl (by show 1 * 256 + (j : ℕ) < 768; omega))).trans ?_
    refine (canon_off1 _ _ _ _ _ (Or.inl (by show 1 * 256 + (j : ℕ) < 512; omega))).trans ?_
    exact canon_at _ _ _ _ _ 0 j rfl (by first | rfl | show 0 * 256 + (j : ℕ) = 0 + (j : ℕ); omega)
  | 0 =>
    refine (canon_off1 _ _ _ _ _ (Or.inl (by show 0 * 256 + (j : ℕ) < 768; omega))).trans ?_
    refine (canon_off1 _ _ _ _ _ (Or.inl (by show 0 * 256 + (j : ℕ) < 512; omega))).trans ?_
    refine (canon_off1 _ _ _ _ _ (Or.inl (by show 0 * 256 + (j : ℕ) < 256; omega))).trans ?_
    exact canon_at _ _ _ _ _ 0 j rfl (by first | rfl | show 0 * 256 + (j : ℕ) = 0 + (j : ℕ); omega)

theorem zPieces_at (C : FVec Ideal S256x1024 .f32) (t : Fin cfg0.N) (h : FVec Ideal S1x1024 .f32) (n : Fin 4) (i j : Fin 256) :
    View.canon (zPieces m c C t h) (ix2 i (chan n j)) = HB m c n C t h (ix2 i j) * gelu ((iblk m c 0 t : FVec Ideal S256x1024 .f32) (ix2 i (chan n j))) := by
  have hj := j.isLt
  rw [← ycol_at n (iblk m c 0 t) i j, ← blockZ_at (HB m c n C t h) (ycol n (iblk m c 0 t)) i j]
  unfold zPieces
  match n with
  | 3 => exact canon_at _ _ _ _ _ i j (Nat.zero_add _).symm (by first | rfl | show 0 * 256 + (j : ℕ) = 0 + (j : ℕ); omega)
  | 2 =>
    refine (canon_off1 _ _ _ _ _ (Or.inl (by show 2 * 256 + (j : ℕ) < 768; omega))).trans ?_
    exact canon_at _ _ _ _ _ i j (Nat.zero_add _).symm (by first | rfl | show 0 * 256 + (j : ℕ) = 0 + (j : ℕ); omega)
  | 1 =>
    refine (canon_off1 _ _ _ _ _ (Or.inl (by show 1 * 256 + (j : ℕ) < 768; omega))).trans ?_
    refine (canon_off1 _ _ _ _ _ (Or.inl (by show 1 * 256 + (j : ℕ) < 512; omega))).trans ?_
    exact canon_at _ _ _ _ _ i j (Nat.zero_add _).symm (by first | rfl | show 0 * 256 + (j : ℕ) = 0 + (j : ℕ); omega)
  | 0 =>
    refine (canon_off1 _ _ _ _ _ (Or.inl (by show 0 * 256 + (j : ℕ) < 768; omega))).trans ?_
    refine (canon_off1 _ _ _ _ _ (Or.inl (by show 0 * 256 + (j : ℕ) < 512; omega))).trans ?_
    refine (canon_off1 _ _ _ _ _ (Or.inl (by show 0 * 256 + (j : ℕ) < 256; omega))).trans ?_
    exact canon_at _ _ _ _ _ i j (Nat.zero_add _).symm (by first | rfl | show 0 * 256 + (j : ℕ) = 0 + (j : ℕ); omega)

theorem h_point (t : Fin cfg0.N) (n : Fin 4) (j : Fin 256) : ((outsAt0 m c t.val t.isLt).2.2.2.2 : FVec Ideal S1x1024 .f32) (ix2 0 (chan n j))
    = HB m c n (cvAt m c t) t (hAt m c t) (ix2 255 j) := by
  by_cases h0 : t.val % 16 = 0
  · rw [hA m c t h0, cvA_eq m c t h0, hAt, if_pos h0]
    exact hPieces_at m c _ t _ _ n j
  · rw [hB m c t h0, cvB_eq m c t h0, hAt, if_neg h0, ← List.append_nil (hPieces _ _ _ _ _)]
    exact hPieces_at m c _ t _ _ n j

theorem hl_point (t : Fin cfg0.N) (n : Fin 4) (j : Fin 256) : ((outsAt0 m c t.val t.isLt).2.2.1 : FVec Ideal S1x1x1024 .f32) (ix3 0 0 (chan n j))
    = HB m c n (cvAt m c t) t (hAt m c t) (ix2 255 j) := by
  have e : ∀ (C : FVec Ideal S256x1024 .f32) (h : FVec Ideal S1x1024 .f32) (L : List (View.Piece (Elt Ideal) S1x1024 .f32)),
      k0_pay1 ((View.whole cc0_scratch1).readCov (hPieces m c C t h ++ L) (Rect.unit ![0,0] ![1,1024] inb_S1x1024_S1x1024_0_0).toLoadRect) (ix3 0 0 (chan n j)) = HB m c n C t h (ix2 255 j) := fun C h L => by
    refine (pay1_at _ _).trans ?_
    rw [View.readCov_eq_canon']
    refine Eq.trans (congrArg (View.canon _) (funext fun a => Fin.ext ?_)) (hPieces_at m c C t h L n j)
    match a with
    | 0 => rfl
    | 1 => show 0 + 1 * ((n : ℕ) * 256 + (j : ℕ)) = (n : ℕ) * 256 + (j : ℕ); omega
  by_cases h0 : t.val % 16 = 0
  · rw [hlA m c t h0, cvA_eq m c t h0, hAt, if_pos h0]
    exact e _ _ _
  · rw [hlB m c t h0, cvB_eq m c t h0, hAt, if_neg h0, ← List.append_nil (hPieces _ _ _ _ _)]
    exact e _ _ _

/-! ## The recurrence from point to point -/

/-- A point's batch row and the first of its rows. -/
abbrev bt (t : Fin cfg0.N) : Fin 4 := ⟨t.val / 16, by have := pt_lt t; omega⟩
abbrev st (t : Fin cfg0.N) : ℕ := 256 * (t.val % 16)

theorem own_pad (t : Fin cfg0.N) (r : Fin 256) (k : Fin 1024) : (iblk m c 1 t : FVec Ideal S256x1024 .f32) (ix2 r k) = padR (parK m c) (bt t) (st t + r + 3) k := by
  rw [x_blk, padR, if_neg (by omega)]
  refine congrArg (fun u => brK m c (ix2 u ⟨1024 + (k : ℕ), by omega⟩)) (Fin.ext ?_)
  show t.val * 256 + (r : ℕ) = (t.val / 16 * 4096 + (256 * (t.val % 16) + (r : ℕ) + 3 - 3)) % 16384
  have := pt_lt t
  have := r.isLt
  omega

theorem top_pad (t : Fin cfg0.N) (q : Fin 3) (k : Fin 1024) : top m c t (5 + (q : ℕ)) k = padR (parK m c) (bt t) (st t + q) k := by
  have hq := q.isLt
  have ht := pt_lt t
  unfold top
  by_cases h0 : t.val % 16 = 0
  · rw [if_pos h0, padR, if_pos (by show 256 * (t.val % 16) + (q : ℕ) < 3; omega)]
  · rw [if_neg h0]
    have e := xb_at m c ⟨t.val - 1, Nat.lt_of_le_of_lt (Nat.sub_le _ _) t.isLt⟩ ⟨5 + (q : ℕ), by omega⟩ k
    refine Eq.trans ?_ (e.trans ((own_pad m c _ _ k).trans ?_))
    · exact congrArg (fun u => before m c t (ix2 u k)) (Fin.ext (Nat.mod_eq_of_lt (by omega)))
    · have e1 : bt ⟨t.val - 1, Nat.lt_of_le_of_lt (Nat.sub_le _ _) t.isLt⟩ = bt t := Fin.ext (by show (t.val - 1) / 16 = t.val / 16; omega)
      rw [e1]
      exact congrArg (fun s => padR (parK m c) (bt t) s k) (by show 256 * ((t.val - 1) % 16) + (248 + (5 + (q : ℕ))) + 3 = 256 * (t.val % 16) + (q : ℕ); omega)

/-- A row of the rows, of the padded branch. -/
theorem rows_pad (t : Fin cfg0.N) (q : ℕ) (h5 : 5 ≤ q) (hq : q < 264) (k : Fin 1024) : rows m c t (ix2 ⟨q, hq⟩ k) = padR (parK m c) (bt t) (st t + (q - 5)) k := by
  by_cases h : q < 8
  · have e := top_pad m c t ⟨q - 5, by omega⟩ k
    refine (rows_top m c t ⟨q, h⟩ k).trans (Eq.trans (congrArg (fun u => top m c t u k) ?_) e)
    show q = 5 + (q - 5)
    omega
  · refine Eq.trans (congrArg (fun u => rows m c t (ix2 u k)) (Fin.ext ?_)) ((rows_own m c t ⟨q - 8, by omega⟩ k).trans ((own_pad m c t _ k).trans ?_))
    · show q = 8 + (q - 8); omega
    · exact congrArg (fun s => padR (parK m c) (bt t) s k) (by show st t + (q - 8) + 3 = st t + (q - 5); omega)

theorem cv_at (t : Fin cfg0.N) (r : Fin 256) (k : Fin 1024) : cvAt m c t (ix2 r k) = conv (parK m c) (bt t) (st t + r) k := by
  have hr := r.isLt
  unfold cvAt
  rw [pay5_at]
  have e7 : View.ld (Val := Elt Ideal) (S := S264x1024) (e' := .f32) (rows m c t) (Rect.unit (s := S264x1024) ![7, 0] S256x1024.size inb_S264x1024_S256x1024_7_0) (ix2 r k) = padR (parK m c) (bt t) (st t + r + 2) k := by
    refine Eq.trans (congrArg (rows m c t) (funext fun a => Fin.ext ?_)) ((rows_pad m c t (7 + (r : ℕ)) (by omega) (by omega) k).trans ?_)
    · match a with
      | 0 => show 7 + 1 * (r : ℕ) = 7 + (r : ℕ); omega
      | 1 => show 0 + 1 * (k : ℕ) = (k : ℕ); omega
    · exact congrArg (fun s => padR (parK m c) (bt t) s k) (by omega)
  have e6 : View.ld (Val := Elt Ideal) (S := S264x1024) (e' := .f32) (rows m c t) (Rect.unit (s := S264x1024) ![6, 0] S256x1024.size inb_S264x1024_S256x1024_6_0) (ix2 r k) = padR (parK m c) (bt t) (st t + r + 1) k := by
    refine Eq.trans (congrArg (rows m c t) (funext fun a => Fin.ext ?_)) ((rows_pad m c t (6 + (r : ℕ)) (by omega) (by omega) k).trans ?_)
    · match a with
      | 0 => show 6 + 1 * (r : ℕ) = 6 + (r : ℕ); omega
      | 1 => show 0 + 1 * (k : ℕ) = (k : ℕ); omega
    · exact congrArg (fun s => padR (parK m c) (bt t) s k) (by omega)
  have e5 : View.ld (Val := Elt Ideal) (S := S264x1024) (e' := .f32) (rows m c t) (Rect.unit (s := S264x1024) ![5, 0] S256x1024.size inb_S264x1024_S256x1024_5_0) (ix2 r k) = padR (parK m c) (bt t) (st t + r) k := by
    refine Eq.trans (congrArg (rows m c t) (funext fun a => Fin.ext ?_)) ((rows_pad m c t (5 + (r : ℕ)) (by omega) (by omega) k).trans ?_)
    · match a with
      | 0 => show 5 + 1 * (r : ℕ) = 5 + (r : ℕ); omega
      | 1 => show 0 + 1 * (k : ℕ) = (k : ℕ); omega
    · exact congrArg (fun s => padR (parK m c) (bt t) s k) (by omega)
  rw [e7, e6, e5, own_pad, cb_blk, cw_blk, cw_blk, cw_blk, cw_blk]
  unfold conv
  show cbK m c (ix1 k) + _ * _ + _ * _ + _ * _ + _ * _ = cbK m c (ix1 k) + _ * cwK m c (ix2 0 k) + _ * cwK m c (ix2 1 k) + _ * cwK m c (ix2 2 k) + _ * cwK m c (ix2 3 k)
  abel

/-- A block's states, where the states before it are the recurrence's. -/
theorem HB_at (t : Fin cfg0.N) (n : Fin 4) (hh : ∀ j : Fin 256, hAt m c t (ix2 0 (chan n j)) = hid (parK m c) (bt t) n j (st t)) (i j : Fin 256) :
    HB m c n (cvAt m c t) t (hAt m c t) (ix2 i j) = hid (parK m c) (bt t) n j (st t + (i + 1)) := by
  unfold HB
  refine blockH_at (parK m c) (bt t) n (st t) _ _ _ _ _ _ _ (fun i j => ?_) (fun d j => ?_) (fun d j => ?_) (fun j => ?_) (fun j => ?_) (fun j => ?_) (fun j => ?_) i j
  · rw [cols_at, cv_at]
  · rw [wgt_at, wr_blk]
    rfl
  · rw [wgt_at, wi_blk]
    rfl
  · rw [part_at, pay8_at, rb_blk]
    rfl
  · rw [part_at, pay9_at, ib_blk]
    rfl
  · rw [part_at, pay7_at, lam_blk]
    rfl
  · rw [prev_at, hh]

/-- The states a point finds are the recurrence's. -/
theorem h_before : ∀ (i : ℕ) (hi : i < cfg0.N) (n : Fin 4) (j : Fin 256), hAt m c ⟨i, hi⟩ (ix2 0 (chan n j)) = hid (parK m c) (bt ⟨i, hi⟩) n j (st ⟨i, hi⟩) := by
  intro i
  induction i with
  | zero =>
    intro hi n j
    rw [hAt, if_pos (Nat.zero_mod _), pay3_at]
    rfl
  | succ i ih =>
    intro hi n j
    by_cases h0 : (i + 1) % 16 = 0
    · rw [hAt, if_pos h0, pay3_at]
      have e : st ⟨i + 1, hi⟩ = 0 := by show 256 * ((i + 1) % 16) = 0; omega
      rw [e]
      rfl
    · rw [hAt, if_neg h0]
      have hi' : i < cfg0.N := Nat.lt_of_succ_lt hi
      refine (h_point m c ⟨i, hi'⟩ n j).trans ((HB_at m c ⟨i, hi'⟩ n (fun j => ih hi' n j) 255 j).trans ?_)
      have e1 : bt ⟨i, hi'⟩ = bt ⟨i + 1, hi⟩ := Fin.ext (by show i / 16 = (i + 1) / 16; omega)
      rw [e1]
      exact congrArg (hid (parK m c) _ n j) (by show 256 * (i % 16) + (255 + 1) = 256 * ((i + 1) % 16); omega)

theorem HB_hid (t : Fin cfg0.N) (n : Fin 4) (i j : Fin 256) : HB m c n (cvAt m c t) t (hAt m c t) (ix2 i j) = hid (parK m c) (bt t) n j (st t + (i + 1)) :=
  HB_at m c t n (fun j => h_before m c t.val t.isLt n j) i j

end Cert.Proof.Lru

end
-- ==== Proof.LruArrays.lean ====
/-
  The recurrence kernel's outputs after its run: the gated states, the last three rows of the branch, the last states.
-/
module

public import proofs.«01_k».proof.Proof.LruKernel

@[expose] public section

set_option maxRecDepth 16384

noncomputable section

open Idealize.ShloMosaic Idealize.ShloMosaic.TcCoe Idealize.SL.Sem

namespace Cert.Proof.Lru

/-- The states of a row, gated by the other branch's GELU. -/
def zAt (P : Par) (y : Fin 16384 → Fin 1024 → EReal) (r : Fin 16384) (k : Fin 1024) : EReal :=
  hid P ⟨(r : ℕ) / 4096, by omega⟩ ⟨(k : ℕ) / 256, by omega⟩ ⟨(k : ℕ) % 256, by omega⟩ ((r : ℕ) % 4096 + 1) * gelu (y r k)
/-- The branch's last three rows. -/
def csAt (P : Par) (b : Fin 4) (r : Fin 3) (k : Fin 1024) : EReal := padR P b (4096 + (r : ℕ)) k
/-- The last states. -/
def hlAt (P : Par) (b : Fin 4) (k : Fin 1024) : EReal := hid P b ⟨(k : ℕ) / 256, by omega⟩ ⟨(k : ℕ) % 256, by omega⟩ 4096

theorem chan_self (k : Fin 1024) : chan ⟨(k : ℕ) / 256, by omega⟩ ⟨(k : ℕ) % 256, by omega⟩ = k :=
  Fin.ext (by show (k : ℕ) / 256 * 256 + (k : ℕ) % 256 = k; omega)

open Cert.Kernel5Ideal Cert.Kernel5Ideal.Gen Cert.Kernel5Ideal.Value

variable (m : (ℓ : Loc nD τ sig) → Buf (Elt Ideal) ℓ) (c : Dev nD)

/-- The other branch by its indices. -/
def yK (r : Fin 16384) (k : Fin 1024) : EReal := brK m c (ix2 r ⟨k, by omega⟩)

theorem z_point (t : Fin cfg0.N) (i : Fin 256) (k : Fin 1024) : ((outsAt0 m c t.val t.isLt).1 : FVec Ideal S256x1024 .bf16) (ix2 i k) = zAt (parK m c) (yK m c) (row t i) k := by
  have ht := pt_lt t
  have hi := i.isLt
  have e := zPieces_at m c (cvAt m c t) t (hAt m c t) ⟨(k : ℕ) / 256, by omega⟩ i ⟨(k : ℕ) % 256, by omega⟩
  rw [chan_self, HB_hid, y_blk] at e
  rw [z_eq]
  refine e.trans ?_
  unfold zAt
  have e1 : (⟨(row t i : ℕ) / 4096, by omega⟩ : Fin 4) = bt t := Fin.ext (by show (t.val * 256 + (i : ℕ)) / 4096 = t.val / 16; omega)
  have e2 : (row t i : ℕ) % 4096 + 1 = st t + ((i : ℕ) + 1) := by show (t.val * 256 + (i : ℕ)) % 4096 + 1 = 256 * (t.val % 16) + ((i : ℕ) + 1); omega
  rw [e1, e2]
  rfl

theorem cs_last (t : Fin cfg0.N) (h : t.val % 16 = 15) (r : Fin 3) (k : Fin 1024) : ((outsAt0 m c t.val t.isLt).2.1 : FVec Ideal S1x3x1024 .f32) (ix3 0 r k) = csAt (parK m c) (bt t) r k := by
  rw [cs_point, own_pad]
  exact congrArg (fun s => padR (parK m c) (bt t) s k) (by show 256 * (t.val % 16) + (253 + (r : ℕ)) + 3 = 4096 + (r : ℕ); omega)

theorem hl_last (t : Fin cfg0.N) (h : t.val % 16 = 15) (z : Fin 1) (k : Fin 1024) : ((outsAt0 m c t.val t.isLt).2.2.1 : FVec Ideal S1x1x1024 .f32) (ix3 0 z k) = hlAt (parK m c) (bt t) k := by
  obtain rfl : z = 0 := Subsingleton.elim _ _
  have e := hl_point m c t ⟨(k : ℕ) / 256, by omega⟩ ⟨(k : ℕ) % 256, by omega⟩
  rw [chan_self, HB_hid] at e
  refine e.trans ?_
  exact congrArg (hid (parK m c) (bt t) _ _) (by show 256 * (t.val % 16) + (255 + 1) = 4096; omega)

/-- The three outputs as arrays. -/
def zF : FVec Ideal S16384x1024 .bf16 := fun y => zAt (parK m c) (yK m c) ⟨y 0, (y 0).isLt⟩ ⟨y 1, (y 1).isLt⟩
def csF : FVec Ideal S4x3x1024 .f32 := fun y => csAt (parK m c) ⟨y 0, (y 0).isLt⟩ ⟨y 1, (y 1).isLt⟩ ⟨y 2, (y 2).isLt⟩
def hlF : FVec Ideal S4x1x1024 .f32 := fun y => hlAt (parK m c) ⟨y 0, (y 0).isLt⟩ ⟨y 2, (y 2).isLt⟩

theorem zF_at (r : Fin 16384) (k : Fin 1024) : zF m c (ix2 r k) = zAt (parK m c) (yK m c) r k := rfl
theorem csF_at (b : Fin 4) (r : Fin 3) (k : Fin 1024) : csF m c (ix3 b r k) = csAt (parK m c) b r k := rfl
theorem hlF_at (b : Fin 4) (z : Fin 1) (k : Fin 1024) : hlF m c (ix3 b z k) = hlAt (parK m c) b k := rfl

theorem z_array : (dats m 0 c).arrAt 9 cfg0.N = zF m c := by
  refine (dats m 0 c).arrAt_eq_of_covers 9 (zF m c) (by decide +kernel) fun t hf y => ?_
  blk_simp
  rw [after0_9]
  idx_vars y
  refine (z_point m c t _ _).trans ((zF_at m c (row t _) _).symm.trans ?_)
  blk_ext [idx t, row]

theorem cs_array : (dats m 0 c).arrAt 10 cfg0.N = csF m c := by
  refine (dats m 0 c).arrAt_eq_of_covers 10 (csF m c) (by decide +kernel) fun t hf y => ?_
  have hl : t.val % 16 = 15 := (flush0_10 t).mp hf
  blk_simp
  rw [after0_10]
  idx_vars y
  obtain rfl : y0 = 0 := Subsingleton.elim _ _
  refine (cs_last m c t hl _ _).trans ((csF_at m c (bt t) _ _).symm.trans ?_)
  blk_ext [idx t, bt]

theorem hl_array : (dats m 0 c).arrAt 11 cfg0.N = hlF m c := by
  refine (dats m 0 c).arrAt_eq_of_covers 11 (hlF m c) (by decide +kernel) fun t hf y => ?_
  have hl : t.val % 16 = 15 := (flush0_11 t).mp hf
  blk_simp
  rw [after0_11]
  idx_vars y
  obtain rfl : y0 = 0 := Subsingleton.elim _ _
  refine (hl_last m c t hl y1 _).trans ((hlF_at m c (bt t) y1 _).symm.trans ?_)
  refine congrArg (hlF m c) (funext fun a => Fin.ext ?_)
  match a with
  | 0 =>
    blk_simp [idx t, bt]
    rfl
  | 1 => exact (Nat.lt_one_iff.mp y1.isLt).trans (Nat.lt_one_iff.mp (Fin.isLt _)).symm
  | 2 => blk_simp [idx t]; try omega

end Cert.Proof.Lru

end
-- ==== Proof.LruRun.lean ====
module

public import proofs.«01_k».proof.Proof.Gen.Reference5Ideal.Run
public import proofs.«01_k».proof.Proof.Gen.Reference5Ideal.Step

/-! The reference's run as a series of states: row after row, the hidden state and the rows written so far. -/

@[expose] public section

set_option maxRecDepth 16384

noncomputable section

namespace Cert.Proof.LruRun

open Idealize.ShloMosaic Idealize.ShloMosaic.TcCoe Idealize.SL.Sem Idealize.ShloMosaic.StableHlo
open Cert.Reference5Ideal Cert.Reference5Ideal.Gen Cert.Reference5Ideal.Value
open Cert.Reference5Ideal.Step

variable {F : FTy → Type} [FloatOps F]

/-- The states the loop goes through: state number `j` is the one before row `j`. -/
def states (x0 : (⟨S16384x2048, .f32⟩ : BufTy).Contents (Elt F)) (x1 : (⟨S4x1024, .f32⟩ : BufTy).Contents (Elt F)) (x2 : (⟨S1024, .f32⟩ : BufTy).Contents (Elt F)) (x3 : (⟨S4x256x256, .f32⟩ : BufTy).Contents (Elt F)) (x4 : (⟨S1024, .f32⟩ : BufTy).Contents (Elt F)) (x5 : (⟨S4x256x256, .f32⟩ : BufTy).Contents (Elt F)) (x6 : (⟨S1024, .f32⟩ : BufTy).Contents (Elt F)) (x7 : (⟨S1024, .f32⟩ : BufTy).Contents (Elt F)) : ℕ → State F
  | 0 => init x0 x1 x2 x3 x4 x5 x6 x7
  | j + 1 => step j (states x0 x1 x2 x3 x4 x5 x6 x7 j)

/-- A device's buffers carry state `s` before row `j`: the four arrays of the state and the counter. -/
def Carries (V : Valuation τ sig (Elt F)) (s : State F) (j : ℕ) : Prop :=
  (V (Proc.devRef .tc main_v78_3) = s.main_v78_3 ∧ V (Proc.devRef .tc main_v78_4) = s.main_v78_4)
  ∧ (V (Proc.devRef .tc main_v78_0) = s.main_v78_0 ∧ V (Proc.devRef .tc main_v78_1) = s.main_v78_1)
  ∧ V (Proc.devRef .tc main_v78_2) = constantI S_ 32 (BitVec.ofNat 32 j)

variable {V : Valuation τ sig (Elt F)} {s : State F} {j : ℕ}

/-- The new state a trip leaves. -/
theorem next_state (h : Carries V s j) : Value.step_main_v78_3 V = (step j s).main_v78_3 := by
  obtain ⟨⟨h3, h4⟩, ⟨h0, h1⟩, h2⟩ := h
  unfold Value.step_main_v78_3 res_main_while0b_v107
  rw [h3, h0, h1, h2]
  rfl

/-- The rows a trip leaves. -/
theorem next_out (h : Carries V s j) : Value.step_main_v78_4 V = (step j s).main_v78_4 := by
  obtain ⟨⟨h3, h4⟩, ⟨h0, h1⟩, h2⟩ := h
  unfold Value.step_main_v78_4 res_main_while0b_v107
  rw [h3, h4, h0, h1, h2]
  rfl

/-- The counter a trip leaves. -/
theorem next_num (h : Carries V s j) : Value.step_main_v78_2 V = constantI S_ 32 (BitVec.ofNat 32 (j + 1)) := by
  unfold Value.step_main_v78_2
  rw [h.2.2]
  funext i
  show BitVec.ofNat 32 j + 1#32 = BitVec.ofNat 32 (j + 1)
  rw [BitVec.ofNat_add]

/-- A trip takes state `s` to `step j s`. -/
theorem carries_next (h : Carries V s j) : Carries (STEP V) (step j s) (j + 1) :=
  ⟨⟨(STEP_main_v78_3 V).trans (next_state h), (STEP_main_v78_4 V).trans (next_out h)⟩,
   ⟨(STEP_main_v78_0 V).trans h.2.1.1, (STEP_main_v78_1 V).trans h.2.1.2⟩,
   (STEP_main_v78_2 V).trans (next_num h)⟩

variable (m : (ℓ : Loc nD τ sig) → Buf (Elt F) ℓ) (c : Dev nD)

set_option maxRecDepth 65536 in
set_option maxHeartbeats 4000000 in
/-- The loop starts from the first state. -/
theorem carries_entry : Carries (entryContents preI m c) (init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) 0 := by
  refine ⟨⟨?_, ?_⟩, ⟨?_, ?_⟩, ?_⟩ <;>
    (simp only [entryContents, afterL_cons, afterL_nil]; after_reads_simp) <;> rfl

/-- Before row `k` the buffers carry state `k`. -/
theorem carries_all : ∀ k, Carries (STEP^[k] (entryContents preI m c)) (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) k) k
  | 0 => carries_entry m c
  | k + 1 => by
    rw [Function.iterate_succ_apply']
    exact carries_next (carries_all k)

theorem finish97 (h : Carries V s j) {x : (⟨S16384x2048, .f32⟩ : BufTy).Contents (Elt F)} (hx : V (Proc.devRef .tc main_arg0) = x) :
    out_main_v97 V = R_main_v97 s x := by
  unfold out_main_v97
  rw [h.1.2, hx]
  rfl

theorem finish102 (h : Carries V s j) {x : (⟨S16384x2048, .f32⟩ : BufTy).Contents (Elt F)} (hx : V (Proc.devRef .tc main_arg0) = x) :
    out_main_v102 V = R_main_v102 s x := by
  unfold out_main_v102
  rw [hx]
  rfl

theorem finish103 (h : Carries V s j) : out_main_v103 V = R_main_v103 s := by
  unfold out_main_v103
  rw [h.1.2]
  rfl

/-- Every run of the reference ends with what the state after 4096 rows gives. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v97) = R_main_v97 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) 4096) (m ((c.tc : Thread nD τ).loc main_arg0))
      ∧ r.2.mem ((c.tc : Thread nD τ).loc main_v102) = R_main_v102 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) 4096) (m ((c.tc : Thread nD τ).loc main_arg0))
      ∧ r.2.mem ((c.tc : Thread nD τ).loc main_v103) = R_main_v103 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := carries_all m c 4096
    ⟨(h c).1.trans (finish97 hk (iter_main_arg0 m c 4096)), (h c).2.1.trans (finish102 hk (iter_main_arg0 m c 4096)), (h c).2.2.1.trans (finish103 hk), (h c).2.2.2⟩) (Value.run m ρ)

end Cert.Proof.LruRun

end
-- ==== Proof.LruRef.lean ====
/-
  The recurrence's reference read at an index: the convolution, the gates, the decay and the input.
-/
module

public import proofs.«01_k».proof.Proof.LruForm
public import proofs.«01_k».proof.Proof.LruRun
public import Idealize.ShloMosaic.Lib.WordCmp

@[expose] public section

set_option maxRecDepth 16384

noncomputable section

open Idealize.ShloMosaic Idealize.ShloMosaic.TcCoe Idealize.SL.Sem

namespace Cert.Proof.LruRef

open Cert.Reference5Ideal Cert.Reference5Ideal.Gen Cert.Reference5Ideal.Step Cert.Proof.Lru

section Tables

variable (x0 : (⟨S16384x2048, .f32⟩ : BufTy).Contents (Elt Ideal))
variable (x1 : (⟨S4x1024, .f32⟩ : BufTy).Contents (Elt Ideal))
variable (x2 : (⟨S1024, .f32⟩ : BufTy).Contents (Elt Ideal))
variable (x3 : (⟨S4x256x256, .f32⟩ : BufTy).Contents (Elt Ideal))
variable (x4 : (⟨S1024, .f32⟩ : BufTy).Contents (Elt Ideal))
variable (x5 : (⟨S4x256x256, .f32⟩ : BufTy).Contents (Elt Ideal))
variable (x6 : (⟨S1024, .f32⟩ : BufTy).Contents (Elt Ideal))
variable (x7 : (⟨S1024, .f32⟩ : BufTy).Contents (Elt Ideal))

/-- The layer's arrays by their indices. -/
def par : Par where
  x r k := x0 (ix2 r ⟨1024 + k, by omega⟩)
  cw r k := x1 (ix2 r k)
  cb k := x2 (ix1 k)
  wr n d j := x3 (ix3 n d j)
  br k := x4 (ix1 k)
  wi n d j := x5 (ix3 n d j)
  bi k := x6 (ix1 k)
  lam k := x7 (ix1 k)

theorem pad_at (b : Fin 4) (s : Fin 4099) (k : Fin 1024) : A_main_v3 x0 x1 x2 x3 x4 x5 x6 x7 (ix3 b s k) = padR (par x0 x1 x2 x3 x4 x5 x6 x7) b s k := by
  have hb := b.isLt
  have hs := s.isLt
  unfold padR par
  pointwise [A_main_v3, K_main_v2, K_main_cst, A_main_v1, A_main_v0]
  by_cases h : (s : ℕ) < 3
  · rw [dif_pos h, if_pos h]
  · rw [dif_neg h, if_neg h]
    refine congrArg (fun u => x0 (ix2 u ⟨1024 + (k : ℕ), by omega⟩)) (Fin.ext ?_)
    show (b : ℕ) * 4096 + ((s : ℕ) - 3) = ((b : ℕ) * 4096 + ((s : ℕ) - 3)) % 16384
    omega

theorem conv_at (b : Fin 4) (s : Fin 4096) (k : Fin 1024) : A_main_v33 x0 x1 x2 x3 x4 x5 x6 x7 (ix3 b s k) = conv (par x0 x1 x2 x3 x4 x5 x6 x7) b s k := by
  have e0 := pad_at x0 x1 x2 x3 x4 x5 x6 x7 b ⟨(s : ℕ), by omega⟩ k
  have e1 := pad_at x0 x1 x2 x3 x4 x5 x6 x7 b ⟨1 + (s : ℕ), by omega⟩ k
  have e2 := pad_at x0 x1 x2 x3 x4 x5 x6 x7 b ⟨2 + (s : ℕ), by omega⟩ k
  have e3 := pad_at x0 x1 x2 x3 x4 x5 x6 x7 b ⟨3 + (s : ℕ), by omega⟩ k
  unfold conv
  pointwise [A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4]
  rw [e0, e1, e2, e3, Nat.add_comm (s : ℕ) 1, Nat.add_comm (s : ℕ) 2, Nat.add_comm (s : ℕ) 3]
  rfl

theorem div_eq (n : Fin 4) (j : Fin 256) : ((n : ℕ) * 256 + (j : ℕ)) / 256 = n := by have := j.isLt; omega
theorem mod_eq (n : Fin 4) (j : Fin 256) : ((n : ℕ) * 256 + (j : ℕ)) % 256 = j := by have := j.isLt; omega

theorem blk_at (b : Fin 4) (s : Fin 4096) (n : Fin 4) (d : Fin 256) : A_main_v34 x0 x1 x2 x3 x4 x5 x6 x7 (ix4 b s n d) = conv (par x0 x1 x2 x3 x4 x5 x6 x7) b s (chan n d) := by
  rw [← conv_at]
  pointwise [A_main_v34]

theorem argr_at (b : Fin 4) (s : Fin 4096) (n : Fin 4) (j : Fin 256) : A_main_v40 x0 x1 x2 x3 x4 x5 x6 x7 (ix3 b s (chan n j)) = argR (par x0 x1 x2 x3 x4 x5 x6 x7) b n j s := by
  have e : A_main_v40 x0 x1 x2 x3 x4 x5 x6 x7 (ix3 b s (chan n j)) = (∑ d : Fin 256, x3 (ix3 n d j) * A_main_v34 x0 x1 x2 x3 x4 x5 x6 x7 (ix4 b s n d)) + x4 (ix1 (chan n j)) := by
    pointwise [A_main_v40, A_main_v39, A_main_v38, A_main_v37, A_main_v36, A_main_v35]
    simp only [div_eq n j, mod_eq n j]
  rw [e]
  unfold argR arg
  refine congrArg₂ (· + ·) (Finset.sum_congr rfl fun d _ => ?_) rfl
  rw [blk_at, mul_comm]
  rfl

theorem argi_at (b : Fin 4) (s : Fin 4096) (n : Fin 4) (j : Fin 256) : A_main_v52 x0 x1 x2 x3 x4 x5 x6 x7 (ix3 b s (chan n j))
    = arg (fun d => conv (par x0 x1 x2 x3 x4 x5 x6 x7) b s (chan n d)) (fun d => (par x0 x1 x2 x3 x4 x5 x6 x7).wi n d j) ((par x0 x1 x2 x3 x4 x5 x6 x7).bi (chan n j)) := by
  have e : A_main_v52 x0 x1 x2 x3 x4 x5 x6 x7 (ix3 b s (chan n j)) = (∑ d : Fin 256, x5 (ix3 n d j) * A_main_v34 x0 x1 x2 x3 x4 x5 x6 x7 (ix4 b s n d)) + x6 (ix1 (chan n j)) := by
    pointwise [A_main_v52, A_main_v51, A_main_v50, A_main_v49, A_main_v48, A_main_v47]
    simp only [div_eq n j, mod_eq n j]
  rw [e]
  unfold arg
  refine congrArg₂ (· + ·) (Finset.sum_congr rfl fun d _ => ?_) rfl
  rw [blk_at, mul_comm]
  rfl

theorem gate_r (y : S4x4096x1024.Idx) : A_main_v46 x0 x1 x2 x3 x4 x5 x6 x7 y = Ideal.logistic (A_main_v40 x0 x1 x2 x3 x4 x5 x6 x7 y) := by
  have e : A_main_v46 x0 x1 x2 x3 x4 x5 x6 x7 y = Ideal.div 1 (1 + Ideal.exp (-A_main_v40 x0 x1 x2 x3 x4 x5 x6 x7 y)) := by
    pointwise [A_main_v46, A_main_v44, A_main_v42, A_main_v41, K_main_v45, K_main_v43, K_main_cst_0, K_main_cst_1]
  rw [e]
  unfold Ideal.logistic
  rfl

theorem gate_i (y : S4x4096x1024.Idx) : A_main_v58 x0 x1 x2 x3 x4 x5 x6 x7 y = Ideal.logistic (A_main_v52 x0 x1 x2 x3 x4 x5 x6 x7 y) := by
  have e : A_main_v58 x0 x1 x2 x3 x4 x5 x6 x7 y = Ideal.div 1 (1 + Ideal.exp (-A_main_v52 x0 x1 x2 x3 x4 x5 x6 x7 y)) := by
    pointwise [A_main_v58, A_main_v56, A_main_v54, A_main_v53, K_main_v57, K_main_v55, K_main_cst_2, K_main_cst_3]
  rw [e]
  unfold Ideal.logistic
  rfl

theorem soft_at (k : Fin 1024) : A_main_v62 x0 x1 x2 x3 x4 x5 x6 x7 (ix1 k) = sp (-x7 (ix1 k)) := by
  unfold sp
  pointwise [A_main_v62, A_main_call0_v11, A_main_call0_v10, A_main_call0_v9, A_main_call0_v8, A_main_call0_v7, A_main_call0_v6, A_main_call0_v4, A_main_call0_v3, A_main_call0_v1, A_main_v61, K_main_call0_v0, K_main_call0_v2, K_main_call0_v5, K_main_call0_cst]
  rw [if_neg (fun h => h rfl)]
  rfl

theorem two_lit : Ideal.ofBits .f32 0x40000000#32 = ((2 : ℝ) : EReal) := by
  have e : (0x40000000#32).extractLsb' 31 1 = 0#1 := by decide
  have e1 : ((0x40000000#32).extractLsb' 23 8).toNat = 128 := by decide
  have e2 : ((0x40000000#32).extractLsb' 0 23).toNat = 0 := by decide
  simp only [Ideal.ofBits, Ideal.ieee, e, e1, e2]
  norm_num

theorem eight_lit : Ideal.ofBits .f32 0xC1000000#32 = ((-8 : ℝ) : EReal) := by
  have e : (0xC1000000#32).extractLsb' 31 1 = 1#1 := by decide
  have e1 : ((0xC1000000#32).extractLsb' 23 8).toNat = 130 := by decide
  have e2 : ((0xC1000000#32).extractLsb' 0 23).toNat = 0 := by decide
  simp only [Ideal.ofBits, Ideal.ieee, e, e1, e2]
  norm_num

theorem log_at (b : Fin 4) (s : Fin 4096) (n : Fin 4) (j : Fin 256) : A_main_v65 x0 x1 x2 x3 x4 x5 x6 x7 (ix3 b s (chan n j)) = la (argR (par x0 x1 x2 x3 x4 x5 x6 x7) b n j s) (-(par x0 x1 x2 x3 x4 x5 x6 x7).lam (chan n j)) := by
  have e : A_main_v65 x0 x1 x2 x3 x4 x5 x6 x7 (ix3 b s (chan n j)) = Ideal.ofBits .f32 0xC1000000#32 * A_main_v46 x0 x1 x2 x3 x4 x5 x6 x7 (ix3 b s (chan n j)) * A_main_v62 x0 x1 x2 x3 x4 x5 x6 x7 (ix1 (chan n j)) := by
    pointwise [A_main_v65, A_main_v64, A_main_v63, A_main_v60, K_main_v59, K_main_cst_4]
  rw [e, eight_lit, gate_r, argr_at, soft_at]
  rfl

theorem dec_at (b : Fin 4) (s : Fin 4096) (n : Fin 4) (j : Fin 256) : A_main_v75 x0 x1 x2 x3 x4 x5 x6 x7 (ix3 s b (chan n j)) = (decA (par x0 x1 x2 x3 x4 x5 x6 x7) b n j s : EReal) := by
  have e : A_main_v75 x0 x1 x2 x3 x4 x5 x6 x7 (ix3 s b (chan n j)) = Ideal.exp (A_main_v65 x0 x1 x2 x3 x4 x5 x6 x7 (ix3 b s (chan n j))) := by
    pointwise [A_main_v75, A_main_v66]
  rw [e, log_at, decA, dec_eq]

theorem in_at (b : Fin 4) (s : Fin 4096) (n : Fin 4) (j : Fin 256) : A_main_v76 x0 x1 x2 x3 x4 x5 x6 x7 (ix3 s b (chan n j)) = inA (par x0 x1 x2 x3 x4 x5 x6 x7) b n j s := by
  have e : A_main_v76 x0 x1 x2 x3 x4 x5 x6 x7 (ix3 s b (chan n j)) = Ideal.sqrt (-(Ideal.exp (Ideal.ofBits .f32 0x40000000#32 * A_main_v65 x0 x1 x2 x3 x4 x5 x6 x7 (ix3 b s (chan n j))) - 1)) * (A_main_v58 x0 x1 x2 x3 x4 x5 x6 x7 (ix3 b s (chan n j)) * A_main_v33 x0 x1 x2 x3 x4 x5 x6 x7 (ix3 b s (chan n j))) := by
    pointwise [A_main_v76, A_main_v73, A_main_v72, A_main_v71, A_main_v70, A_main_v69, A_main_v68, K_main_v67, K_main_cst_5]
    try rfl
  rw [e, two_lit, log_at, gate_i, argi_at, conv_at]
  rfl

end Tables

section Loop

open Cert.Proof.LruRun (states)

variable (j : Fin 4096) (s : State Ideal)

theorem start_eq (j : ℕ) (hj : j < 4096) (a : Fin 3) :
    (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) a (Shape.Idx.first h_S_)).toInt
      = ((![j, 0, 0] : Fin 3 → ℕ) a : Int) := by
  match a with
  | ⟨0, _⟩ => exact WordCmp.toInt_ofNat_of_lt (by omega)
  | ⟨1, _⟩ => rfl
  | ⟨2, _⟩ => rfl

theorem fits (j : ℕ) (hj : j < 4096) : S4096x4x1024.Slices ![j, 0, 0] S1x4x1024 := by
  refine ⟨rfl, fun a => ?_⟩
  match a with
  | ⟨0, _⟩ => show j + 1 ≤ 4096; omega
  | ⟨1, _⟩ => exact le_refl 4
  | ⟨2, _⟩ => exact le_refl 1024

theorem a_slice (b : Fin 4) (k : Fin 1024) : b3 j s (ix2 b k) = s.main_v78_0 (ix3 j b k) := by
  have e : b2 (j : ℕ) s = extractStridedSlice S1x4x1024 ![(j : ℕ), 0, 0] s.main_v78_0 (fits j j.isLt) :=
    WordCmp.dynamicSlice_eq_extract _ _ _ _ _ _ (start_eq j j.isLt)
  unfold b3
  rw [e]
  pointwise []

theorem b_slice (b : Fin 4) (k : Fin 1024) : b7 j s (ix2 b k) = s.main_v78_1 (ix3 j b k) := by
  have e : b6 (j : ℕ) s = extractStridedSlice S1x4x1024 ![(j : ℕ), 0, 0] s.main_v78_1 (fits j j.isLt) :=
    WordCmp.dynamicSlice_eq_extract _ _ _ _ _ _ (start_eq j j.isLt)
  unfold b7
  rw [e]
  pointwise []

theorem state_at (b : Fin 4) (k : Fin 1024) : b9 j s (ix2 b k) = s.main_v78_0 (ix3 j b k) * s.main_v78_3 (ix2 b k) + s.main_v78_1 (ix3 j b k) := by
  rw [← a_slice, ← b_slice]
  pointwise [b9, b8]

/-- The rows written so far: the row's own, the others as they were. -/
theorem write_at (i : Fin 4096) (b : Fin 4) (k : Fin 1024) : b13 j s (ix3 i b k)
    = if (i : ℕ) = j then b9 j s (ix2 b k) else s.main_v78_4 (ix3 i b k) := by
  have e' : b13 (j : ℕ) s = updateSlice s.main_v78_4 (b10 j s) ![(j : ℕ), 0, 0] (fits j j.isLt) :=
    WordCmp.dynamicUpdateSlice_eq_update _ _ _ _ _ _ (start_eq j j.isLt)
  rw [e']
  pointwise [b10]
  by_cases h1 : (i : ℕ) = j
  · rw [dif_pos ⟨by omega, by omega⟩, if_pos h1]
  · rw [dif_neg (by omega), if_neg h1]

variable (x0 : (⟨S16384x2048, .f32⟩ : BufTy).Contents (Elt Ideal))
variable (x1 : (⟨S4x1024, .f32⟩ : BufTy).Contents (Elt Ideal))
variable (x2 : (⟨S1024, .f32⟩ : BufTy).Contents (Elt Ideal))
variable (x3 : (⟨S4x256x256, .f32⟩ : BufTy).Contents (Elt Ideal))
variable (x4 : (⟨S1024, .f32⟩ : BufTy).Contents (Elt Ideal))
variable (x5 : (⟨S4x256x256, .f32⟩ : BufTy).Contents (Elt Ideal))
variable (x6 : (⟨S1024, .f32⟩ : BufTy).Contents (Elt Ideal))
variable (x7 : (⟨S1024, .f32⟩ : BufTy).Contents (Elt Ideal))

/-- Before row `k` the state is the recurrence's, and so are the rows written. -/
theorem states_at : ∀ (k : ℕ) (hk : k ≤ 4096), ((states x0 x1 x2 x3 x4 x5 x6 x7 k).main_v78_0 = A_main_v75 x0 x1 x2 x3 x4 x5 x6 x7 ∧ (states x0 x1 x2 x3 x4 x5 x6 x7 k).main_v78_1 = A_main_v76 x0 x1 x2 x3 x4 x5 x6 x7)
    ∧ (∀ (b n : Fin 4) (q : Fin 256), (states x0 x1 x2 x3 x4 x5 x6 x7 k).main_v78_3 (ix2 b (chan n q)) = hid (par x0 x1 x2 x3 x4 x5 x6 x7) b n q k)
    ∧ (∀ (i : Fin 4096), (i : ℕ) < k → ∀ (b n : Fin 4) (q : Fin 256), (states x0 x1 x2 x3 x4 x5 x6 x7 k).main_v78_4 (ix3 i b (chan n q)) = hid (par x0 x1 x2 x3 x4 x5 x6 x7) b n q (i + 1)) := by
  intro k
  induction k with
  | zero =>
    intro hk
    refine ⟨⟨rfl, rfl⟩, fun b n q => ?_, fun i hi => absurd hi (Nat.not_lt_zero _)⟩
    show K_main_v74 (F := Ideal) (ix2 b (chan n q)) = 0
    pointwise [K_main_v74, K_main_cst_6]
  | succ k ih =>
    intro hk
    obtain ⟨⟨h0, h1⟩, h3, h4⟩ := ih (Nat.le_of_succ_le hk)
    have key : ∀ (b n : Fin 4) (q : Fin 256), b9 k (states x0 x1 x2 x3 x4 x5 x6 x7 k) (ix2 b (chan n q)) = hid (par x0 x1 x2 x3 x4 x5 x6 x7) b n q (k + 1) := by
      intro b n q
      refine (state_at ⟨k, hk⟩ (states x0 x1 x2 x3 x4 x5 x6 x7 k) b (chan n q)).trans ?_
      rw [h0, h1, h3, dec_at, in_at]
      rfl
    refine ⟨⟨h0, h1⟩, key, fun i hi b n q => ?_⟩
    refine (write_at ⟨k, hk⟩ (states x0 x1 x2 x3 x4 x5 x6 x7 k) i b (chan n q)).trans ?_
    by_cases e : (i : ℕ) = k
    · rw [if_pos (by exact e), e]
      exact key b n q
    · rw [if_neg (by exact e)]
      exact h4 i (by omega) b n q

end Loop

end Cert.Proof.LruRef

end
-- ==== Proof.LruClaim.lean ====
/-
  The recurrence: what the reference ends with, and the claims.
-/
module

public import proofs.«01_k».proof.Defs
public import proofs.«01_k».proof.Proof.LruArrays
public import proofs.«01_k».proof.Proof.LruRef
public import Idealize.ShloMosaic.Adequacy

@[expose] public section

set_option maxRecDepth 16384

noncomputable section

open Idealize.ShloMosaic Idealize.ShloMosaic.TcCoe Idealize.SL.Sem

namespace Cert.Proof.Lru

section Results

open Cert.Reference5Ideal Cert.Reference5Ideal.Gen Cert.Reference5Ideal.Step Cert.Proof.LruRun Cert.Proof.LruRef

variable (x0 : (⟨Cert.Reference5Ideal.S16384x2048, .f32⟩ : BufTy).Contents (Elt Ideal))
variable (x1 : (⟨Cert.Reference5Ideal.S4x1024, .f32⟩ : BufTy).Contents (Elt Ideal))
variable (x2 : (⟨Cert.Reference5Ideal.S1024, .f32⟩ : BufTy).Contents (Elt Ideal))
variable (x3 : (⟨Cert.Reference5Ideal.S4x256x256, .f32⟩ : BufTy).Contents (Elt Ideal))
variable (x4 : (⟨Cert.Reference5Ideal.S1024, .f32⟩ : BufTy).Contents (Elt Ideal))
variable (x5 : (⟨Cert.Reference5Ideal.S4x256x256, .f32⟩ : BufTy).Contents (Elt Ideal))
variable (x6 : (⟨Cert.Reference5Ideal.S1024, .f32⟩ : BufTy).Contents (Elt Ideal))
variable (x7 : (⟨Cert.Reference5Ideal.S1024, .f32⟩ : BufTy).Contents (Elt Ideal))

/-- The rows the reference has written at the end. -/
theorem rows_end (i : Fin 4096) (b : Fin 4) (k : Fin 1024) : (LruRun.states x0 x1 x2 x3 x4 x5 x6 x7 4096).main_v78_4 (ix3 i b k)
    = hid (par x0 x1 x2 x3 x4 x5 x6 x7) b ⟨(k : ℕ) / 256, by omega⟩ ⟨(k : ℕ) % 256, by omega⟩ (i + 1) := by
  have e := (LruRef.states_at x0 x1 x2 x3 x4 x5 x6 x7 4096 (le_refl _)).2.2 i i.isLt b ⟨(k : ℕ) / 256, by omega⟩ ⟨(k : ℕ) % 256, by omega⟩
  rw [chan_self] at e
  exact e

theorem z_ref (r : Fin 16384) (k : Fin 1024) : R_main_v97 (LruRun.states x0 x1 x2 x3 x4 x5 x6 x7 4096) x0 (ix2 r k)
    = zAt (par x0 x1 x2 x3 x4 x5 x6 x7) (fun r k => x0 (ix2 r ⟨k, by omega⟩)) r k := by
  have e : R_main_v97 (LruRun.states x0 x1 x2 x3 x4 x5 x6 x7 4096) x0 (ix2 r k)
      = (LruRun.states x0 x1 x2 x3 x4 x5 x6 x7 4096).main_v78_4 (ix3 ⟨(r : ℕ) % 4096, by omega⟩ ⟨(r : ℕ) / 4096, by omega⟩ k) * gelu (x0 (ix2 r ⟨k, by omega⟩)) := by
    unfold gelu
    rw [← mul_assoc (x0 (ix2 r ⟨k, by omega⟩)) (x0 (ix2 r ⟨k, by omega⟩)) (x0 (ix2 r ⟨k, by omega⟩))]
    pointwise [R_main_v97]
  rw [e, rows_end]
  first | unfold zAt | unfold hlAt
  rfl

theorem cs_ref (b : Fin 4) (r : Fin 3) (k : Fin 1024) : R_main_v102 (LruRun.states x0 x1 x2 x3 x4 x5 x6 x7 4096) x0 (ix3 b r k) = csAt (par x0 x1 x2 x3 x4 x5 x6 x7) b r k := by
  have e : R_main_v102 (LruRun.states x0 x1 x2 x3 x4 x5 x6 x7 4096) x0 (ix3 b r k) = A_main_v3 x0 x1 x2 x3 x4 x5 x6 x7 (ix3 b ⟨4096 + (r : ℕ), by omega⟩ k) := by
    unfold R_main_v102
    show extractStridedSlice S4x3x1024 ![0, 4096, 0] (A_main_v3 x0 x1 x2 x3 x4 x5 x6 x7) slices_S4x4099x1024_S4x3x1024_0_4096_0 (ix3 b r k) = _
    pointwise []
  rw [e, pad_at]
  rfl

theorem hl_ref (b : Fin 4) (z : Fin 1) (k : Fin 1024) : R_main_v103 (LruRun.states x0 x1 x2 x3 x4 x5 x6 x7 4096) (ix3 b z k) = hlAt (par x0 x1 x2 x3 x4 x5 x6 x7) b k := by
  obtain rfl : z = 0 := Subsingleton.elim _ _
  have e : R_main_v103 (LruRun.states x0 x1 x2 x3 x4 x5 x6 x7 4096) (ix3 b 0 k) = (LruRun.states x0 x1 x2 x3 x4 x5 x6 x7 4096).main_v78_4 (ix3 ⟨4095, by omega⟩ b k) := by
    pointwise [R_main_v103]
  rw [e, rows_end]
  first | unfold zAt | unfold hlAt
  rfl

end Results

local instance : Cert.Kernel5Ideal.Facts := Cert.Kernel5Ideal.Gen.facts
local instance : Cert.Reference5Ideal.Facts := Cert.Reference5Ideal.Gen.facts

/-- The reference leaves its arguments as they were, and it has no semaphore. -/
theorem frame_ref : Cert.quiescent_Reference5Ideal := by
  intro m g _
  exact (θ_run Cert.Reference5Ideal.defs _ _).mono (fun r h => ⟨fun c => (h c).2.2.2,
      sem_eq_zero_of_no_sems (by decide) r.2⟩)
    (LruRun.run_states (F := Ideal) m g)

/-- Kernel and reference end with the same gated states, the same rows of the branch and the same last states. -/
theorem algebraic : Cert.algebraic_Kernel5Ideal_Reference5Ideal := by
  intro m g m' g' _ hagree
  refine ⟨fun c => zF m c, fun c => csF m c, fun c => hlF m c, ?_, ?_⟩
  · exact (θ_run Cert.Kernel5Ideal.defs _ _).mono (fun r h c =>
      ⟨(h c).1.trans (z_array m c), (h c).2.1.trans (cs_array m c), (h c).2.2.1.trans (hl_array m c), (h c).2.2.2⟩) (Cert.Kernel5Ideal.Value.run_blocks (F := Ideal) m g)
  · refine (θ_run Cert.Reference5Ideal.defs _ _).mono (fun r h c => ?_) (LruRun.run_states (F := Ideal) m' g')
    obtain ⟨a0, a1, a2, a3, a4, a5, a6, a7⟩ := hagree c
    refine ⟨(h c).1.trans ?_, (h c).2.1.trans ?_, (h c).2.2.1.trans ?_, (h c).2.2.2⟩
    · rw [a0, a1, a2, a3, a4, a5, a6, a7]
      funext y
      idx_vars y
      exact z_ref _ _ _ _ _ _ _ _ _ _
    · rw [a0, a1, a2, a3, a4, a5, a6, a7]
      funext y
      idx_vars y
      exact cs_ref _ _ _ _ _ _ _ _ _ _ _
    · rw [a0, a1, a2, a3, a4, a5, a6, a7]
      funext y
      idx_vars y
      exact hl_ref _ _ _ _ _ _ _ _ _ _ _

end Cert.Proof.Lru

end
-- ==== Proof.LrsForm.lean ====
/-
  The samples' recurrence as the problem states it: the rows kept from before, the convolution, the gates, and the states.
-/
module

public import proofs.«01_k».proof.Proof.LruForm

@[expose] public section

set_option maxRecDepth 16384

noncomputable section

open Idealize.ShloMosaic

namespace Cert.Proof.Lrs

open Cert.Proof.Lru (chan arg inp la dec sp rec gelu)

/-- The recurrent branch's rows, the rows and states from before, and the layer's weights. -/
structure Par where
  x : Fin 128 → Fin 1024 → EReal
  c0 : Fin 32 → Fin 3 → Fin 1024 → EReal
  h0 : Fin 32 → Fin 1024 → EReal
  cw : Fin 4 → Fin 1024 → EReal
  cb : Fin 1024 → EReal
  wr : Fin 4 → Fin 256 → Fin 256 → EReal
  br : Fin 1024 → EReal
  wi : Fin 4 → Fin 256 → Fin 256 → EReal
  bi : Fin 1024 → EReal
  lam : Fin 1024 → EReal

/-- A sample's branch with its three rows from before. -/
def padR (P : Par) (b : Fin 32) (s : ℕ) (k : Fin 1024) : EReal :=
  if s < 3 then P.c0 b ⟨s % 3, Nat.mod_lt _ (by norm_num)⟩ k else P.x ⟨((b : ℕ) * 4 + (s - 3)) % 128, Nat.mod_lt _ (by norm_num)⟩ k

/-- The convolution at a row. -/
def conv (P : Par) (b : Fin 32) (s : ℕ) (k : Fin 1024) : EReal :=
  P.cb k + padR P b s k * P.cw 0 k + padR P b (s + 1) k * P.cw 1 k + padR P b (s + 2) k * P.cw 2 k + padR P b (s + 3) k * P.cw 3 k

/-- The decay's logarithm and factor, and the input, at a row of a sample. -/
def argR (P : Par) (b : Fin 32) (n : Fin 4) (j : Fin 256) (s : ℕ) : EReal :=
  arg (fun d => conv P b s (chan n d)) (fun d => P.wr n d j) (P.br (chan n j))
def decA (P : Par) (b : Fin 32) (n : Fin 4) (j : Fin 256) (s : ℕ) : ℝ := dec (argR P b n j s) (-P.lam (chan n j))
def inA (P : Par) (b : Fin 32) (n : Fin 4) (j : Fin 256) (s : ℕ) : EReal :=
  inp (la (argR P b n j s) (-P.lam (chan n j))) (arg (fun d => conv P b s (chan n d)) (fun d => P.wi n d j) (P.bi (chan n j))) (conv P b s (chan n j))

/-- The state before row `s`. -/
def hid (P : Par) (b : Fin 32) (n : Fin 4) (j : Fin 256) (s : ℕ) : EReal := rec (decA P b n j) (inA P b n j) (P.h0 b (chan n j)) s

/-- A sample's states gated by the other branch's GELU, its last three rows and its last states. -/
def zAt (P : Par) (y : Fin 128 → Fin 1024 → EReal) (b : Fin 32) (i : Fin 4) (k : Fin 1024) : EReal :=
  hid P b ⟨(k : ℕ) / 256, by omega⟩ ⟨(k : ℕ) % 256, by omega⟩ (i + 1) * gelu (y ⟨(b : ℕ) * 4 + i, by omega⟩ k)
def csAt (P : Par) (b : Fin 32) (r : Fin 3) (k : Fin 1024) : EReal := padR P b (4 + (r : ℕ)) k
def hlAt (P : Par) (b : Fin 32) (k : Fin 1024) : EReal := hid P b ⟨(k : ℕ) / 256, by omega⟩ ⟨(k : ℕ) % 256, by omega⟩ 4

theorem chan_self (k : Fin 1024) : chan ⟨(k : ℕ) / 256, by omega⟩ ⟨(k : ℕ) % 256, by omega⟩ = k :=
  Fin.ext (by show (k : ℕ) / 256 * 256 + (k : ℕ) % 256 = k; omega)

end Cert.Proof.Lrs

end
-- ==== Proof.LrsBlocks.lean ====
/-
  The samples' recurrence kernel: what its windows read, a block's decays and inputs, and its states row after row.
-/
module

public import Idealize.ShloMosaic.Lib.Pipeline.ValueKit
public import Idealize.ShloMosaic.Lib.Pointwise
public import proofs.«01_k».proof.Defs
public import proofs.«01_k».proof.Proof.Gen.Kernel6Ideal.Value
public import proofs.«01_k».proof.Proof.LrsForm

@[expose] public section

set_option maxRecDepth 16384

noncomputable section

open Idealize.ShloMosaic Idealize.ShloMosaic.TcCoe Idealize.SL.Sem

namespace Cert.Proof.Lrs

open Cert.Kernel6Ideal Cert.Kernel6Ideal.Gen Cert.Kernel6Ideal.Value
open Cert.Proof.Lru (chan arg inp la la_nonpos dec dec_eq factor sp rec gelu)

abbrev V4 := FVec Ideal S4x256 .f32
abbrev R1 := FVec Ideal S1x256 .f32

/-- The block every window reads at a point. -/
theorem idx : ∀ t : Fin cfg0.N,
    win0_0.index t = ![t.val, 0, 0] ∧ win0_1.index t = ![t.val, 0, 0] ∧ win0_2.index t = ![t.val, 0, 0] ∧ win0_3.index t = ![0, 0] ∧ win0_4.index t = ![0, 0]
    ∧ win0_5.index t = ![0, 0, 0] ∧ win0_6.index t = ![0, 0] ∧ win0_7.index t = ![0, 0, 0] ∧ win0_8.index t = ![0, 0] ∧ win0_9.index t = ![0, 0]
    ∧ win0_10.index t = ![t.val, 0, 0] ∧ win0_11.index t = ![t.val, 0, 0] ∧ win0_12.index t = ![t.val, 0, 0] :=
  (by decide +kernel : ∀ t : Fin grid0.N, _)

theorem pt_lt (t : Fin cfg0.N) : t.val < 32 := lt_of_lt_of_eq t.isLt N_0

abbrev sm (t : Fin cfg0.N) : Fin 32 := ⟨t.val, pt_lt t⟩

section Reads

variable (m : (ℓ : Loc nD τ sig) → Buf (Elt Ideal) ℓ) (c : Dev nD)

abbrev brK : FVec Ideal S128x2048 .f32 := m ((c : Thread nD τ).loc main_arg0)
abbrev c0K : FVec Ideal S32x3x1024 .f32 := m ((c : Thread nD τ).loc main_arg1)
abbrev h0K : FVec Ideal S32x1024 .f32 := m ((c : Thread nD τ).loc main_arg2)
abbrev cwK : FVec Ideal S4x1024 .f32 := m ((c : Thread nD τ).loc main_arg3)
abbrev cbK : FVec Ideal S1024 .f32 := m ((c : Thread nD τ).loc main_arg4)
abbrev wrK : FVec Ideal S4x256x256 .f32 := m ((c : Thread nD τ).loc main_arg5)
abbrev rbK : FVec Ideal S1024 .f32 := m ((c : Thread nD τ).loc main_arg6)
abbrev wiK : FVec Ideal S4x256x256 .f32 := m ((c : Thread nD τ).loc main_arg7)
abbrev ibK : FVec Ideal S1024 .f32 := m ((c : Thread nD τ).loc main_arg8)
abbrev lamK : FVec Ideal S1024 .f32 := m ((c : Thread nD τ).loc main_arg9)

theorem br_tab (b : Fin 32) (i : Fin 4) (k : Fin 2048) : (V m c main_v0 : FVec Ideal S32x4x2048 .f32) (ix3 b i k) = brK m c (ix2 ⟨(b : ℕ) * 4 + i, by omega⟩ k) := by
  simp only [V, hostOps0, List.flatten_cons, List.flatten_nil, List.append_nil, List.cons_append, List.nil_append]
  after_results_simp
  pointwise
  try rfl

theorem h0_tab (b : Fin 32) (k : Fin 1024) : (V m c main_v1 : FVec Ideal S32x1x1024 .f32) (ix3 b 0 k) = h0K m c (ix2 b k) := by
  simp only [V, hostOps0, List.flatten_cons, List.flatten_nil, List.append_nil, List.cons_append, List.nil_append]
  after_results_simp
  pointwise
  try rfl

theorem cb_tab (k : Fin 1024) : (V m c main_v2 : FVec Ideal S1x1024 .f32) (ix2 0 k) = cbK m c (ix1 k) := by
  simp only [V, hostOps0, List.flatten_cons, List.flatten_nil, List.append_nil, List.cons_append, List.nil_append]
  after_results_simp
  pointwise
  try rfl

theorem rb_tab (k : Fin 1024) : (V m c main_v3 : FVec Ideal S1x1024 .f32) (ix2 0 k) = rbK m c (ix1 k) := by
  simp only [V, hostOps0, List.flatten_cons, List.flatten_nil, List.append_nil, List.cons_append, List.nil_append]
  after_results_simp
  pointwise
  try rfl

theorem ib_tab (k : Fin 1024) : (V m c main_v4 : FVec Ideal S1x1024 .f32) (ix2 0 k) = ibK m c (ix1 k) := by
  simp only [V, hostOps0, List.flatten_cons, List.flatten_nil, List.append_nil, List.cons_append, List.nil_append]
  after_results_simp
  pointwise
  try rfl

theorem lam_tab (k : Fin 1024) : (V m c main_v5 : FVec Ideal S1x1024 .f32) (ix2 0 k) = lamK m c (ix1 k) := by
  simp only [V, hostOps0, List.flatten_cons, List.flatten_nil, List.append_nil, List.cons_append, List.nil_append]
  after_results_simp
  pointwise
  try rfl

theorem br_blk (t : Fin cfg0.N) (i : Fin 4) (k : Fin 2048) : (iblk m c 0 t : FVec Ideal S1x4x2048 .f32) (ix3 0 i k) = brK m c (ix2 ⟨t.val * 4 + i, by have := pt_lt t; omega⟩ k) := by
  rw [← br_tab m c (sm t) i k]
  blk_point [iblk, idx t, sm]

theorem c0_blk (t : Fin cfg0.N) (r : Fin 3) (k : Fin 1024) : (iblk m c 1 t : FVec Ideal S1x3x1024 .f32) (ix3 0 r k) = c0K m c (ix3 (sm t) r k) := by
  blk_point [iblk, V_main_arg1, idx t, sm]

theorem h0_blk (t : Fin cfg0.N) (k : Fin 1024) : (iblk m c 2 t : FVec Ideal S1x1x1024 .f32) (ix3 0 0 k) = h0K m c (ix2 (sm t) k) := by
  rw [← h0_tab]
  blk_point [iblk, idx t, sm]

theorem cw_blk (t : Fin cfg0.N) (r : Fin 4) (k : Fin 1024) : (iblk m c 3 t : FVec Ideal S4x1024 .f32) (ix2 r k) = cwK m c (ix2 r k) := by
  blk_point [iblk, V_main_arg3, idx t]

theorem wr_blk (t : Fin cfg0.N) (n : Fin 4) (d j : Fin 256) : (iblk m c 5 t : FVec Ideal S4x256x256 .f32) (ix3 n d j) = wrK m c (ix3 n d j) := by
  blk_point [iblk, V_main_arg5, idx t]

theorem wi_blk (t : Fin cfg0.N) (n : Fin 4) (d j : Fin 256) : (iblk m c 7 t : FVec Ideal S4x256x256 .f32) (ix3 n d j) = wiK m c (ix3 n d j) := by
  blk_point [iblk, V_main_arg7, idx t]

theorem cb_blk (t : Fin cfg0.N) (k : Fin 1024) : (iblk m c 4 t : FVec Ideal S1x1024 .f32) (ix2 0 k) = cbK m c (ix1 k) := by
  rw [← cb_tab]
  blk_point [iblk, idx t]

theorem rb_blk (t : Fin cfg0.N) (k : Fin 1024) : (iblk m c 6 t : FVec Ideal S1x1024 .f32) (ix2 0 k) = rbK m c (ix1 k) := by
  rw [← rb_tab]
  blk_point [iblk, idx t]

theorem ib_blk (t : Fin cfg0.N) (k : Fin 1024) : (iblk m c 8 t : FVec Ideal S1x1024 .f32) (ix2 0 k) = ibK m c (ix1 k) := by
  rw [← ib_tab]
  blk_point [iblk, idx t]

theorem lam_blk (t : Fin cfg0.N) (k : Fin 1024) : (iblk m c 9 t : FVec Ideal S1x1024 .f32) (ix2 0 k) = lamK m c (ix1 k) := by
  rw [← lam_tab]
  blk_point [iblk, idx t]

/-- The layer's arrays by their indices. -/
def parK : Par where
  x r k := brK m c (ix2 r ⟨1024 + k, by omega⟩)
  c0 b r k := c0K m c (ix3 b r k)
  h0 b k := h0K m c (ix2 b k)
  cw r k := cwK m c (ix2 r k)
  cb k := cbK m c (ix1 k)
  wr n d j := wrK m c (ix3 n d j)
  br k := rbK m c (ix1 k)
  wi n d j := wiK m c (ix3 n d j)
  bi k := ibK m c (ix1 k)
  lam k := lamK m c (ix1 k)

end Reads

/-! ## A block's columns, weights and rows -/

/-- A block's columns. -/
def cols (n : Fin 4) (C : FVec Ideal S4x1024 .f32) : V4 :=
  match n with
  | 0 => extractStridedSlice S4x256 ![0, 0] C slices_S4x1024_o0_0_S4x256
  | 1 => extractStridedSlice S4x256 ![0, 256] C slices_S4x1024_o0_256_S4x256
  | 2 => extractStridedSlice S4x256 ![0, 512] C slices_S4x1024_o0_512_S4x256
  | 3 => extractStridedSlice S4x256 ![0, 768] C slices_S4x1024_o0_768_S4x256

theorem cols_at (n : Fin 4) (C : FVec Ideal S4x1024 .f32) (i : Fin 4) (j : Fin 256) : cols n C (ix2 i j) = C (ix2 i (chan n j)) := by
  match n with
  | 0 => pointwise [cols, chan]
  | 1 => pointwise [cols, chan]
  | 2 => pointwise [cols, chan]
  | 3 => pointwise [cols, chan]

/-- A block of a row of weights. -/
def part (n : Fin 4) (v : FVec Ideal S1x1024 .f32) : R1 :=
  match n with
  | 0 => extractStridedSlice S1x256 ![0, 0] v slices_S1x1024_o0_0_S1x256
  | 1 => extractStridedSlice S1x256 ![0, 256] v slices_S1x1024_o0_256_S1x256
  | 2 => extractStridedSlice S1x256 ![0, 512] v slices_S1x1024_o0_512_S1x256
  | 3 => extractStridedSlice S1x256 ![0, 768] v slices_S1x1024_o0_768_S1x256

theorem part_at (n : Fin 4) (v : FVec Ideal S1x1024 .f32) (j : Fin 256) : part n v (ix2 0 j) = v (ix2 0 (chan n j)) := by
  match n with
  | 0 => pointwise [part, chan]
  | 1 => pointwise [part, chan]
  | 2 => pointwise [part, chan]
  | 3 => pointwise [part, chan]

/-- A block of the gates' weights. -/
def wgt (n : Fin 4) (w : FVec Ideal S4x256x256 .f32) : FVec Ideal S1x256x256 .f32 :=
  match n with
  | 0 => View.ld (Val := Elt Ideal) (S := S4x256x256) (e' := .f32) w r0_4
  | 1 => View.ld (Val := Elt Ideal) (S := S4x256x256) (e' := .f32) w r0_10
  | 2 => View.ld (Val := Elt Ideal) (S := S4x256x256) (e' := .f32) w r0_16
  | 3 => View.ld (Val := Elt Ideal) (S := S4x256x256) (e' := .f32) w r0_22

theorem wgt_at (n : Fin 4) (w : FVec Ideal S4x256x256 .f32) (d j : Fin 256) : wgt n w (ix3 0 d j) = w (ix3 n d j) := by
  match n with
  | 0 => pointwise [wgt]
  | 1 => pointwise [wgt]
  | 2 => pointwise [wgt]
  | 3 => pointwise [wgt]

/-- A block of the states from before. -/
def prev (n : Fin 4) (v : FVec Ideal S1x1x1024 .f32) : FVec Ideal S1x1x256 .f32 :=
  match n with
  | 0 => View.ld (Val := Elt Ideal) (S := S1x1x1024) (e' := .f32) v r0_5
  | 1 => View.ld (Val := Elt Ideal) (S := S1x1x1024) (e' := .f32) v r0_11
  | 2 => View.ld (Val := Elt Ideal) (S := S1x1x1024) (e' := .f32) v r0_17
  | 3 => View.ld (Val := Elt Ideal) (S := S1x1x1024) (e' := .f32) v r0_23

theorem prev_at (n : Fin 4) (v : FVec Ideal S1x1x1024 .f32) (j : Fin 256) : prev n v (ix3 0 0 j) = v (ix3 0 0 (chan n j)) := by
  match n with
  | 0 => pointwise [prev, chan]
  | 1 => pointwise [prev, chan]
  | 2 => pointwise [prev, chan]
  | 3 => pointwise [prev, chan]

/-! ## A block's decays, inputs and states -/

/-- A gate of a block: its rows times its weight, a bias, and the logistic. -/
def gate (xs : V4) (w : FVec Ideal S1x256x256 .f32) (bs : R1) : V4 :=
  logistic (addf (matmul dot_S4x256_S256x256_S4x256_1_0_0_1_n_n none (truncf .bf16 xs bitsLt_bf16_f32)
    (truncf .bf16 (shapeCast S256x256 w shapeCasts_S1x256x256_S256x256) bitsLt_bf16_f32) (constant S4x256 .f32 0x00000000#32))
    (broadcastTo S4x256 bs broadcasts_S1x256_S4x256))
def logA (xs : V4) (w : FVec Ideal S1x256x256 .f32) (bs sps : R1) : V4 :=
  mulf (mulf (broadcast S4x256 (Scalar.ofBits .f32 0xC1000000#32)) (gate xs w bs)) (broadcastTo S4x256 sps broadcasts_S1x256_S4x256)
def inB (xs ig L : V4) : V4 :=
  mulf (sqrt (mulf (tanh (subf (broadcast S4x256 (Scalar.ofBits .f32 0x00000000#32)) L))
    (addf (broadcast S4x256 (Scalar.ofBits .f32 0x3F800000#32)) (mulf (exp L) (exp L))))) (mulf ig xs)

theorem neg8 : Ideal.ofBits .f32 0xC1000000#32 = ((-8 : ℝ) : EReal) := by
  have e : (0xC1000000#32).extractLsb' 31 1 = 1#1 := by decide
  have e1 : ((0xC1000000#32).extractLsb' 23 8).toNat = 130 := by decide
  have e2 : ((0xC1000000#32).extractLsb' 0 23).toNat = 0 := by decide
  simp only [Ideal.ofBits, Ideal.ieee, e, e1, e2]
  norm_num

theorem gate_at (xs : V4) (w : FVec Ideal S1x256x256 .f32) (bs : R1) (i : Fin 4) (j : Fin 256) :
    gate xs w bs (ix2 i j) = Ideal.logistic ((∑ d : Fin 256, xs (ix2 i d) * w (ix3 0 d j)) + bs (ix2 0 j)) := by
  pointwise [gate]

theorem logA_at (xs : V4) (w : FVec Ideal S1x256x256 .f32) (bs sps : R1) (i : Fin 4) (j : Fin 256) :
    logA xs w bs sps (ix2 i j) = ((-8 : ℝ) : EReal) * gate xs w bs (ix2 i j) * sps (ix2 0 j) := by
  pointwise [logA]
  rw [neg8]

theorem inB_at (xs ig L : V4) (i : Fin 4) (j : Fin 256) : inB xs ig L (ix2 i j)
    = Ideal.sqrt (Ideal.tanh (0 - L (ix2 i j)) * (1 + Ideal.exp (L (ix2 i j)) * Ideal.exp (L (ix2 i j)))) * (ig (ix2 i j) * xs (ix2 i j)) := by
  pointwise [inB]

/-- A row of a block. -/
def row (i : Fin 4) (v : V4) : R1 :=
  match i with
  | 0 => extractStridedSlice S1x256 ![0, 0] v slices_S4x256_o0_0_S1x256
  | 1 => extractStridedSlice S1x256 ![1, 0] v slices_S4x256_o1_0_S1x256
  | 2 => extractStridedSlice S1x256 ![2, 0] v slices_S4x256_o2_0_S1x256
  | 3 => extractStridedSlice S1x256 ![3, 0] v slices_S4x256_o3_0_S1x256

theorem row_at (i : Fin 4) (v : V4) (j : Fin 256) : row i v (ix2 0 j) = v (ix2 i j) := by
  match i with
  | 0 => pointwise [row]
  | 1 => pointwise [row]
  | 2 => pointwise [row]
  | 3 => pointwise [row]

/-- One row's step, and the states past each of the four rows. -/
def stepR (i : Fin 4) (A B : V4) (h : R1) : R1 := addf (mulf (row i A) h) (row i B)
def first (h : FVec Ideal S1x1x256 .f32) : R1 := shapeCast S1x256 h shapeCasts_S1x1x256_S1x256
def past (A B : V4) (h : FVec Ideal S1x1x256 .f32) (i : Fin 4) : R1 :=
  match i with
  | 0 => stepR 0 A B (first h)
  | 1 => stepR 1 A B (stepR 0 A B (first h))
  | 2 => stepR 2 A B (stepR 1 A B (stepR 0 A B (first h)))
  | 3 => stepR 3 A B (stepR 2 A B (stepR 1 A B (stepR 0 A B (first h))))

theorem stepR_at (i : Fin 4) (A B : V4) (h : R1) (j : Fin 256) : stepR i A B h (ix2 0 j) = A (ix2 i j) * h (ix2 0 j) + B (ix2 i j) := by
  rw [← row_at i A j, ← row_at i B j]
  rfl

theorem first_at (h : FVec Ideal S1x1x256 .f32) (j : Fin 256) : first h (ix2 0 j) = h (ix3 0 0 j) := by pointwise [first]

theorem past_at (A B : V4) (h : FVec Ideal S1x1x256 .f32) (j : Fin 256) (α : ℕ → ℝ) (β : ℕ → EReal) (ha : ∀ i : Fin 4, A (ix2 i j) = (α i : EReal)) (hb : ∀ i : Fin 4, B (ix2 i j) = β i) (i : Fin 4) :
    past A B h i (ix2 0 j) = rec α β (h (ix3 0 0 j)) (i + 1) := by
  match i with
  | 0 => simp only [past, stepR_at, first_at, ha, hb]; rfl
  | 1 => simp only [past, stepR_at, first_at, ha, hb]; rfl
  | 2 => simp only [past, stepR_at, first_at, ha, hb]; rfl
  | 3 => simp only [past, stepR_at, first_at, ha, hb]; rfl

/-- A block's states and its outputs, of the convolution, the weights and the states from before. -/
def decB (n : Fin 4) (C : FVec Ideal S4x1024 .f32) (wr : FVec Ideal S4x256x256 .f32) (bs sps : FVec Ideal S1x1024 .f32) : V4 :=
  logA (cols n C) (wgt n wr) (part n bs) (part n sps)
def hB (n : Fin 4) (C : FVec Ideal S4x1024 .f32) (wr wi : FVec Ideal S4x256x256 .f32) (br bi sps : FVec Ideal S1x1024 .f32) (h : FVec Ideal S1x1x1024 .f32) (i : Fin 4) : R1 :=
  past (exp (decB n C wr br sps)) (inB (cols n C) (gate (cols n C) (wgt n wi) (part n bi)) (decB n C wr br sps)) (prev n h) i

theorem fitsY (n i : Fin 4) : S4x1024.Slices ![(i : ℕ), (n : ℕ) * 256] S1x256 := by
  refine ⟨rfl, fun a => ?_⟩
  match a with
  | ⟨0, _⟩ => show (i : ℕ) + 1 ≤ 4; omega
  | ⟨1, _⟩ => show (n : ℕ) * 256 + 256 ≤ 1024; omega

def zB (n i : Fin 4) (y : FVec Ideal S4x1024 .f32) (h : R1) : FVec Ideal S1x1x256 .f32 :=
  shapeCast S1x1x256 (mulf h (extractStridedSlice S1x256 ![(i : ℕ), (n : ℕ) * 256] y (fitsY n i))) shapeCasts_S1x256_S1x1x256
def lB (h : R1) : FVec Ideal S1x1x256 .f32 := shapeCast S1x1x256 h shapeCasts_S1x256_S1x1x256

theorem zB_at (n i : Fin 4) (y : FVec Ideal S4x1024 .f32) (h : R1) (j : Fin 256) : zB n i y h (ix3 0 0 j) = h (ix2 0 j) * y (ix2 i (chan n j)) := by
  pointwise [zB, chan]

theorem lB_at (h : R1) (j : Fin 256) : lB h (ix3 0 0 j) = h (ix2 0 j) := by pointwise [lB]

theorem pay13_at (v : Vec Ideal S1x1024 .f32) (k : Fin 1024) : k0_pay13 v (ix2 0 k) = v (ix2 0 k) := by pointwise [k0_pay13]
theorem pay14_at (v : Vec Ideal S1x1024 .f32) (k : Fin 1024) : k0_pay14 v (ix2 0 k) = v (ix2 0 k) := by pointwise [k0_pay14]
theorem pay12_at (v : Vec Ideal S1x1024 .f32) (k : Fin 1024) : k0_pay12 v (ix2 0 k) = sp (-(v (ix2 0 k))) := by
  have e : k0_pay12 v (ix2 0 k) = max (0 - v (ix2 0 k)) 0 + Ideal.log1p (Ideal.exp (0 - max (0 - v (ix2 0 k)) (-(0 - v (ix2 0 k))))) := by
    pointwise [k0_pay12]
    rfl
  rw [e, zero_sub, zero_sub, sp]
theorem pay15_at (v : Vec Ideal S1x4x2048 .f32) (i : Fin 4) (k : Fin 1024) : k0_pay15 (k0_pay9 v) (ix2 i k) = gelu (v (ix3 0 i ⟨k, by omega⟩)) := by
  unfold gelu
  pointwise [k0_pay15, k0_pay9, k0_pay8]
theorem pay10_at (v : Vec Ideal S1x4x2048 .f32) (p : Vec Ideal S1x3x1024 .f32) (s : Fin 7) (k : Fin 1024) : k0_pay10 v p (ix2 s k)
    = if h : (s : ℕ) < 3 then p (ix3 0 ⟨s, h⟩ k) else v (ix3 0 ⟨(s : ℕ) - 3, by omega⟩ ⟨1024 + k, by omega⟩) := by
  pointwise [k0_pay10, k0_pay8]
theorem pay11_at (v : Vec Ideal S1x4x2048 .f32) (p : Vec Ideal S1x3x1024 .f32) (w : Vec Ideal S4x1024 .f32) (b : Vec Ideal S1x1024 .f32) (i : Fin 4) (k : Fin 1024) :
    k0_pay11 v p w b (ix2 i k) = b (ix2 0 k) + k0_pay10 v p (ix2 ⟨(i : ℕ), by omega⟩ k) * w (ix2 0 k) + k0_pay10 v p (ix2 ⟨1 + (i : ℕ), by omega⟩ k) * w (ix2 1 k)
      + k0_pay10 v p (ix2 ⟨2 + (i : ℕ), by omega⟩ k) * w (ix2 2 k) + k0_pay10 v p (ix2 ⟨3 + (i : ℕ), by omega⟩ k) * w (ix2 3 k) := by
  pointwise [k0_pay11]

end Cert.Proof.Lrs

end
-- ==== Proof.LrsKernel.lean ====
/-
  The samples' recurrence kernel: what every point leaves in its three outputs.
-/
module

public import proofs.«01_k».proof.Proof.LruKernel
public import proofs.«01_k».proof.Proof.LrsBlocks

@[expose] public section

set_option maxRecDepth 16384

noncomputable section

open Idealize.ShloMosaic Idealize.ShloMosaic.TcCoe Idealize.SL.Sem

namespace Cert.Proof.Lrs

section Deep

open Cert.Proof.Lru (canon_mem canon_skip)

variable {d0 d1 d2 o0 o1 o2 s0 s1 s2 : ℕ} {e : EltTy} (inb : ∀ a, (![o0, o1, o2] : Fin 3 → ℕ) a + (![s0, s1, s2] : Fin 3 → ℕ) a ≤ (⟨3, ![d0, d1, d2]⟩ : Shape).size a)
  (w : (⟨3, ![s0, s1, s2]⟩ : Shape).Idx → Elt Ideal e) (L : List (View.Piece (Elt Ideal) (⟨3, ![d0, d1, d2]⟩ : Shape) e)) (o : Fin d0) (p : Fin d1) (q : Fin d2)

/-- Pieces read where the first one is, -/
theorem deep_at (h : Fin s0) (i : Fin s1) (j : Fin s2) (ho : (o : ℕ) = o0 + h) (hp : (p : ℕ) = o1 + i) (hq : (q : ℕ) = o2 + j) :
    View.canon ((⟨Rect.unit (s := ⟨3, ![d0, d1, d2]⟩) ![o0, o1, o2] ![s0, s1, s2] inb, w⟩ : View.Piece (Elt Ideal) (⟨3, ![d0, d1, d2]⟩ : Shape) e) :: L) (ix3 o p q) = w (ix3 h i j) :=
  canon_mem (S := ⟨3, ![d0, d1, d2]⟩) (off := ![o0, o1, o2]) (size := ![s0, s1, s2]) inb w L (ix3 o p q) (ix3 h i j) fun a => by
    match a with
    | 0 => exact ho
    | 1 => exact hp
    | 2 => exact hq

/-- and off it as without it. -/
theorem deep_off1 (h : (p : ℕ) < o1 ∨ o1 + s1 ≤ (p : ℕ)) :
    View.canon ((⟨Rect.unit (s := ⟨3, ![d0, d1, d2]⟩) ![o0, o1, o2] ![s0, s1, s2] inb, w⟩ : View.Piece (Elt Ideal) (⟨3, ![d0, d1, d2]⟩ : Shape) e) :: L) (ix3 o p q) = View.canon L (ix3 o p q) :=
  canon_skip (S := ⟨3, ![d0, d1, d2]⟩) (off := ![o0, o1, o2]) (size := ![s0, s1, s2]) inb w L (ix3 o p q) 1 h
theorem deep_off2 (h : (q : ℕ) < o2 ∨ o2 + s2 ≤ (q : ℕ)) :
    View.canon ((⟨Rect.unit (s := ⟨3, ![d0, d1, d2]⟩) ![o0, o1, o2] ![s0, s1, s2] inb, w⟩ : View.Piece (Elt Ideal) (⟨3, ![d0, d1, d2]⟩ : Shape) e) :: L) (ix3 o p q) = View.canon L (ix3 o p q) :=
  canon_skip (S := ⟨3, ![d0, d1, d2]⟩) (off := ![o0, o1, o2]) (size := ![s0, s1, s2]) inb w L (ix3 o p q) 2 h

end Deep

open Cert.Kernel6Ideal Cert.Kernel6Ideal.Gen Cert.Kernel6Ideal.Value
open Cert.Proof.Lru (chan arg inp la la_nonpos dec dec_eq factor sp rec gelu)

/-- The sixteen pieces of the gated states' block, and the four of the last states'. -/
def zPieces (h : Fin 4 → Fin 4 → R1) (y : FVec Ideal S4x1024 .f32) : List (View.Piece (Elt Ideal) S1x4x1024 .f32) :=
  [⟨Rect.unit (s := S1x4x1024) ![0, 3, 768] ![1, 1, 256] inb_S1x4x1024_S1x1x256_0_3_768, zB 3 3 y (h 3 3)⟩,
    ⟨Rect.unit (s := S1x4x1024) ![0, 2, 768] ![1, 1, 256] inb_S1x4x1024_S1x1x256_0_2_768, zB 3 2 y (h 3 2)⟩,
    ⟨Rect.unit (s := S1x4x1024) ![0, 1, 768] ![1, 1, 256] inb_S1x4x1024_S1x1x256_0_1_768, zB 3 1 y (h 3 1)⟩,
    ⟨Rect.unit (s := S1x4x1024) ![0, 0, 768] ![1, 1, 256] inb_S1x4x1024_S1x1x256_0_0_768, zB 3 0 y (h 3 0)⟩,
    ⟨Rect.unit (s := S1x4x1024) ![0, 3, 512] ![1, 1, 256] inb_S1x4x1024_S1x1x256_0_3_512, zB 2 3 y (h 2 3)⟩,
    ⟨Rect.unit (s := S1x4x1024) ![0, 2, 512] ![1, 1, 256] inb_S1x4x1024_S1x1x256_0_2_512, zB 2 2 y (h 2 2)⟩,
    ⟨Rect.unit (s := S1x4x1024) ![0, 1, 512] ![1, 1, 256] inb_S1x4x1024_S1x1x256_0_1_512, zB 2 1 y (h 2 1)⟩,
    ⟨Rect.unit (s := S1x4x1024) ![0, 0, 512] ![1, 1, 256] inb_S1x4x1024_S1x1x256_0_0_512, zB 2 0 y (h 2 0)⟩,
    ⟨Rect.unit (s := S1x4x1024) ![0, 3, 256] ![1, 1, 256] inb_S1x4x1024_S1x1x256_0_3_256, zB 1 3 y (h 1 3)⟩,
    ⟨Rect.unit (s := S1x4x1024) ![0, 2, 256] ![1, 1, 256] inb_S1x4x1024_S1x1x256_0_2_256, zB 1 2 y (h 1 2)⟩,
    ⟨Rect.unit (s := S1x4x1024) ![0, 1, 256] ![1, 1, 256] inb_S1x4x1024_S1x1x256_0_1_256, zB 1 1 y (h 1 1)⟩,
    ⟨Rect.unit (s := S1x4x1024) ![0, 0, 256] ![1, 1, 256] inb_S1x4x1024_S1x1x256_0_0_256, zB 1 0 y (h 1 0)⟩,
    ⟨Rect.unit (s := S1x4x1024) ![0, 3, 0] ![1, 1, 256] inb_S1x4x1024_S1x1x256_0_3_0, zB 0 3 y (h 0 3)⟩,
    ⟨Rect.unit (s := S1x4x1024) ![0, 2, 0] ![1, 1, 256] inb_S1x4x1024_S1x1x256_0_2_0, zB 0 2 y (h 0 2)⟩,
    ⟨Rect.unit (s := S1x4x1024) ![0, 1, 0] ![1, 1, 256] inb_S1x4x1024_S1x1x256_0_1_0, zB 0 1 y (h 0 1)⟩,
    ⟨Rect.unit (s := S1x4x1024) ![0, 0, 0] ![1, 1, 256] inb_S1x4x1024_S1x1x256_0_0_0, zB 0 0 y (h 0 0)⟩]
def hPieces (h : Fin 4 → Fin 4 → R1) : List (View.Piece (Elt Ideal) S1x1x1024 .f32) :=
  [⟨Rect.unit (s := S1x1x1024) ![0, 0, 768] ![1, 1, 256] inb_S1x1x1024_S1x1x256_0_0_768, lB (h 3 3)⟩,
    ⟨Rect.unit (s := S1x1x1024) ![0, 0, 512] ![1, 1, 256] inb_S1x1x1024_S1x1x256_0_0_512, lB (h 2 3)⟩,
    ⟨Rect.unit (s := S1x1x1024) ![0, 0, 256] ![1, 1, 256] inb_S1x1x1024_S1x1x256_0_0_256, lB (h 1 3)⟩,
    ⟨Rect.unit (s := S1x1x1024) ![0, 0, 0] ![1, 1, 256] inb_S1x1x1024_S1x1x256_0_0_0, lB (h 0 3)⟩]

section Outs

variable (x0 : Vec Ideal S1x4x2048 .f32) (x1 : Vec Ideal S1x3x1024 .f32) (x2 : Vec Ideal S1x1x1024 .f32) (x3 : Vec Ideal S4x1024 .f32) (x4 : Vec Ideal S1x1024 .f32) (x5 : Vec Ideal S4x256x256 .f32)
  (x6 : Vec Ideal S1x1024 .f32) (x7 : Vec Ideal S4x256x256 .f32) (x8 : Vec Ideal S1x1024 .f32) (x9 : Vec Ideal S1x1024 .f32)

/-- A block's states at a point, of the windows' blocks. -/
def HX (n i : Fin 4) : R1 := hB n (k0_pay11 x0 x1 x3 x4) x5 x7 (k0_pay13 x6) (k0_pay14 x8) (k0_pay12 x9) x2 i

theorem all0 (v : Vec Ideal S1x4x2048 .f32) : View.ld (Val := Elt Ideal) (S := S1x4x2048) (e' := .f32) v r0_0 = v := by
  funext y
  idx_vars y
  obtain rfl : y0 = 0 := Subsingleton.elim _ _
  pointwise []
theorem all1 (v : Vec Ideal S1x3x1024 .f32) : View.ld (Val := Elt Ideal) (S := S1x3x1024) (e' := .f32) v r0_1 = v := by
  funext y
  idx_vars y
  obtain rfl : y0 = 0 := Subsingleton.elim _ _
  pointwise []
theorem all2 (v : Vec Ideal S4x1024 .f32) : View.ld (Val := Elt Ideal) (S := S4x1024) (e' := .f32) v r0_2 = v := by
  funext y
  idx_vars y
  pointwise []
theorem all3 (v : Vec Ideal S1x1024 .f32) : View.ld (Val := Elt Ideal) (S := S1x1024) (e' := .f32) v r0_3 = v := by
  funext y
  idx_vars y
  obtain rfl : y0 = 0 := Subsingleton.elim _ _
  pointwise []

theorem out10_eq : out0_10 x0 x1 x2 x3 x4 x5 x6 x7 x8 x9 = View.canon (zPieces (HX x0 x1 x2 x3 x4 x5 x6 x7 x8 x9) (k0_pay15 (k0_pay9 x0))) := by
  unfold_out out0_10
  simp only [all0, all1, all2, all3]
  rfl

theorem out12_eq : out0_12 x0 x1 x2 x3 x4 x5 x6 x7 x8 x9 = View.canon (hPieces (HX x0 x1 x2 x3 x4 x5 x6 x7 x8 x9)) := by
  unfold_out out0_12
  simp only [all0, all1, all2, all3]
  rfl

theorem out11_eq : out0_11 x0 x1 x2 x3 x4 x5 x6 x7 x8 x9 = View.canon [⟨r0_1, k0_pay7 (k0_pay10 x0 x1)⟩] := by
  unfold_out out0_11
  simp only [all0, all1]

theorem kept_at (r : Fin 3) (k : Fin 1024) : out0_11 x0 x1 x2 x3 x4 x5 x6 x7 x8 x9 (ix3 0 r k) = k0_pay10 x0 x1 (ix2 ⟨4 + (r : ℕ), by omega⟩ k) := by
  rw [out11_eq]
  refine (canon11_eq x0 x1 (ix3 0 r k)).trans ?_
  unfold E11
  refine congrArg (k0_pay10 x0 x1) (funext fun a => Fin.ext ?_)
  match a with
  | 0 => exact Nat.add_comm _ _
  | 1 => rfl

end Outs

theorem zPieces_at (h : Fin 4 → Fin 4 → R1) (y : FVec Ideal S4x1024 .f32) (n i : Fin 4) (j : Fin 256) :
    View.canon (zPieces h y) (ix3 0 i (chan n j)) = h n i (ix2 0 j) * y (ix2 i (chan n j)) := by
  rw [← zB_at]
  have hj := j.isLt
  unfold zPieces
  match n, i with
  | 0, 0 =>
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off1 _ _ _ _ _ _ (Or.inl (by show 0 < 3; omega))).trans ?_
    refine (deep_off1 _ _ _ _ _ _ (Or.inl (by show 0 < 2; omega))).trans ?_
    refine (deep_off1 _ _ _ _ _ _ (Or.inl (by show 0 < 1; omega))).trans ?_
    exact deep_at _ _ _ _ _ _ 0 0 j (by rfl) (by rfl) (by show 0 * 256 + (j : ℕ) = 0 + (j : ℕ); omega)
  | 0, 1 =>
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off1 _ _ _ _ _ _ (Or.inl (by show 1 < 3; omega))).trans ?_
    refine (deep_off1 _ _ _ _ _ _ (Or.inl (by show 1 < 2; omega))).trans ?_
    exact deep_at _ _ _ _ _ _ 0 0 j (by rfl) (by rfl) (by show 0 * 256 + (j : ℕ) = 0 + (j : ℕ); omega)
  | 0, 2 =>
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off1 _ _ _ _ _ _ (Or.inl (by show 2 < 3; omega))).trans ?_
    exact deep_at _ _ _ _ _ _ 0 0 j (by rfl) (by rfl) (by show 0 * 256 + (j : ℕ) = 0 + (j : ℕ); omega)
  | 0, 3 =>
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 768; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 512; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    refine (deep_off2 _ _ _ _ _ _ (Or.inl (by show 0 * 256 + (j : ℕ) < 256; omega))).trans ?_
    exact deep_at _ _ _ _ _ _ 0 0 j (by rfl) (by rfl) (by show 0 * 256 + (j : ℕ) = 0 + (j : ℕ); omega)
  | 1, 0 =>
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off1 _ _ _ _ _ _ (Or.inl (by show 0 < 3; omega))).trans ?_
    refine (deep_off1 _ _ _ _ _ _ (Or.inl (by show 0 < 2; omega))).trans ?_
    refine (deep_off1 _ _ _ _ _ _ (Or.inl (by show 0 < 1; omega))).trans ?_
    exact deep_at _ _ _ _ _ _ 0 0 j (by rfl) (by rfl) (by show 1 * 256 + (j : ℕ) = 256 + (j : ℕ); omega)
  | 1, 1 =>
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off1 _ _ _ _ _ _ (Or.inl (by show 1 < 3; omega))).trans ?_
    refine (deep_off1 _ _ _ _ _ _ (Or.inl (by show 1 < 2; omega))).trans ?_
    exact deep_at _ _ _ _ _ _ 0 0 j (by rfl) (by rfl) (by show 1 * 256 + (j : ℕ) = 256 + (j : ℕ); omega)
  | 1, 2 =>
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off1 _ _ _ _ _ _ (Or.inl (by show 2 < 3; omega))).trans ?_
    exact deep_at _ _ _ _ _ _ 0 0 j (by rfl) (by rfl) (by show 1 * 256 + (j : ℕ) = 256 + (j : ℕ); omega)
  | 1, 3 =>
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 768; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    refine (deep_off2 _ _ _ _ _ _ (Or.inl (by show 1 * 256 + (j : ℕ) < 512; omega))).trans ?_
    exact deep_at _ _ _ _ _ _ 0 0 j (by rfl) (by rfl) (by show 1 * 256 + (j : ℕ) = 256 + (j : ℕ); omega)
  | 2, 0 =>
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off1 _ _ _ _ _ _ (Or.inl (by show 0 < 3; omega))).trans ?_
    refine (deep_off1 _ _ _ _ _ _ (Or.inl (by show 0 < 2; omega))).trans ?_
    refine (deep_off1 _ _ _ _ _ _ (Or.inl (by show 0 < 1; omega))).trans ?_
    exact deep_at _ _ _ _ _ _ 0 0 j (by rfl) (by rfl) (by show 2 * 256 + (j : ℕ) = 512 + (j : ℕ); omega)
  | 2, 1 =>
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off1 _ _ _ _ _ _ (Or.inl (by show 1 < 3; omega))).trans ?_
    refine (deep_off1 _ _ _ _ _ _ (Or.inl (by show 1 < 2; omega))).trans ?_
    exact deep_at _ _ _ _ _ _ 0 0 j (by rfl) (by rfl) (by show 2 * 256 + (j : ℕ) = 512 + (j : ℕ); omega)
  | 2, 2 =>
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off1 _ _ _ _ _ _ (Or.inl (by show 2 < 3; omega))).trans ?_
    exact deep_at _ _ _ _ _ _ 0 0 j (by rfl) (by rfl) (by show 2 * 256 + (j : ℕ) = 512 + (j : ℕ); omega)
  | 2, 3 =>
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    refine (deep_off2 _ _ _ _ _ _ (Or.inl (by show 2 * 256 + (j : ℕ) < 768; omega))).trans ?_
    exact deep_at _ _ _ _ _ _ 0 0 j (by rfl) (by rfl) (by show 2 * 256 + (j : ℕ) = 512 + (j : ℕ); omega)
  | 3, 0 =>
    refine (deep_off1 _ _ _ _ _ _ (Or.inl (by show 0 < 3; omega))).trans ?_
    refine (deep_off1 _ _ _ _ _ _ (Or.inl (by show 0 < 2; omega))).trans ?_
    refine (deep_off1 _ _ _ _ _ _ (Or.inl (by show 0 < 1; omega))).trans ?_
    exact deep_at _ _ _ _ _ _ 0 0 j (by rfl) (by rfl) (by show 3 * 256 + (j : ℕ) = 768 + (j : ℕ); omega)
  | 3, 1 =>
    refine (deep_off1 _ _ _ _ _ _ (Or.inl (by show 1 < 3; omega))).trans ?_
    refine (deep_off1 _ _ _ _ _ _ (Or.inl (by show 1 < 2; omega))).trans ?_
    exact deep_at _ _ _ _ _ _ 0 0 j (by rfl) (by rfl) (by show 3 * 256 + (j : ℕ) = 768 + (j : ℕ); omega)
  | 3, 2 =>
    refine (deep_off1 _ _ _ _ _ _ (Or.inl (by show 2 < 3; omega))).trans ?_
    exact deep_at _ _ _ _ _ _ 0 0 j (by rfl) (by rfl) (by show 3 * 256 + (j : ℕ) = 768 + (j : ℕ); omega)
  | 3, 3 =>
    exact deep_at _ _ _ _ _ _ 0 0 j (by rfl) (by rfl) (by show 3 * 256 + (j : ℕ) = 768 + (j : ℕ); omega)

theorem hPieces_at (h : Fin 4 → Fin 4 → R1) (n : Fin 4) (j : Fin 256) : View.canon (hPieces h) (ix3 0 0 (chan n j)) = h n 3 (ix2 0 j) := by
  rw [← lB_at (h n 3) j]
  have hj := j.isLt
  unfold hPieces
  match n with
  | 0 =>
    refine (deep_off2 _ _ _ _ _ _ (Or.inl (by show 0 * 256 + (j : ℕ) < 768; omega))).trans ?_
    refine (deep_off2 _ _ _ _ _ _ (Or.inl (by show 0 * 256 + (j : ℕ) < 512; omega))).trans ?_
    refine (deep_off2 _ _ _ _ _ _ (Or.inl (by show 0 * 256 + (j : ℕ) < 256; omega))).trans ?_
    exact deep_at _ _ _ _ _ _ 0 0 j (by rfl) (by rfl) (by show 0 * 256 + (j : ℕ) = 0 + (j : ℕ); omega)
  | 1 =>
    refine (deep_off2 _ _ _ _ _ _ (Or.inl (by show 1 * 256 + (j : ℕ) < 768; omega))).trans ?_
    refine (deep_off2 _ _ _ _ _ _ (Or.inl (by show 1 * 256 + (j : ℕ) < 512; omega))).trans ?_
    exact deep_at _ _ _ _ _ _ 0 0 j (by rfl) (by rfl) (by show 1 * 256 + (j : ℕ) = 256 + (j : ℕ); omega)
  | 2 =>
    refine (deep_off2 _ _ _ _ _ _ (Or.inl (by show 2 * 256 + (j : ℕ) < 768; omega))).trans ?_
    exact deep_at _ _ _ _ _ _ 0 0 j (by rfl) (by rfl) (by show 2 * 256 + (j : ℕ) = 512 + (j : ℕ); omega)
  | 3 =>
    exact deep_at _ _ _ _ _ _ 0 0 j (by rfl) (by rfl) (by show 3 * 256 + (j : ℕ) = 768 + (j : ℕ); omega)

section Points

variable (m : (ℓ : Loc nD τ sig) → Buf (Elt Ideal) ℓ) (c : Dev nD)

/-- The rows a sample's convolution reads. -/
theorem pad_blk (t : Fin cfg0.N) (s : Fin 7) (k : Fin 1024) : k0_pay10 (iblk m c 0 t) (iblk m c 1 t) (ix2 s k) = padR (parK m c) (sm t) s k := by
  have ht := pt_lt t
  have hs := s.isLt
  refine (pay10_at (iblk m c 0 t) (iblk m c 1 t) s k).trans ?_
  unfold padR
  by_cases h : (s : ℕ) < 3
  · rw [dif_pos h, if_pos h]
    refine (c0_blk m c t ⟨s, h⟩ k).trans ?_
    exact congrArg (fun u => c0K m c (ix3 (sm t) u k)) (Fin.ext (Nat.mod_eq_of_lt h).symm)
  · rw [dif_neg h, if_neg h]
    refine (br_blk m c t _ _).trans ?_
    refine congrArg (fun u => brK m c (ix2 u ⟨1024 + (k : ℕ), by omega⟩)) (Fin.ext ?_)
    show t.val * 4 + ((s : ℕ) - 3) = (t.val * 4 + ((s : ℕ) - 3)) % 128
    omega

/-- A point's convolution. -/
abbrev cvAt (t : Fin cfg0.N) : FVec Ideal S4x1024 .f32 := k0_pay11 (iblk m c 0 t) (iblk m c 1 t) (iblk m c 3 t) (iblk m c 4 t)

theorem conv_blk (t : Fin cfg0.N) (i : Fin 4) (k : Fin 1024) : cvAt m c t (ix2 i k) = conv (parK m c) (sm t) i k := by
  refine (pay11_at (iblk m c 0 t) (iblk m c 1 t) (iblk m c 3 t) (iblk m c 4 t) i k).trans ?_
  rw [pad_blk, pad_blk, pad_blk, pad_blk, cb_blk, cw_blk, cw_blk, cw_blk, cw_blk]
  unfold conv
  rw [Nat.add_comm (i : ℕ) 1, Nat.add_comm (i : ℕ) 2, Nat.add_comm (i : ℕ) 3]
  rfl

/-- The gates' arguments. -/
theorem sum_blk (t : Fin cfg0.N) (n i : Fin 4) (w : FVec Ideal S4x256x256 .f32) (bs : FVec Ideal S1x1024 .f32) (j : Fin 256) :
    (∑ d : Fin 256, cols n (cvAt m c t) (ix2 i d) * wgt n w (ix3 0 d j)) + part n bs (ix2 0 j)
      = arg (fun d => conv (parK m c) (sm t) i (chan n d)) (fun d => w (ix3 n d j)) (bs (ix2 0 (chan n j))) := by
  unfold arg
  rw [part_at]
  refine congrArg (· + bs (ix2 0 (chan n j))) (Finset.sum_congr rfl fun d _ => ?_)
  rw [cols_at, wgt_at, conv_blk]

abbrev LB (t : Fin cfg0.N) (n : Fin 4) : V4 := decB n (cvAt m c t) (iblk m c 5 t) (k0_pay13 (iblk m c 6 t)) (k0_pay12 (iblk m c 9 t))

theorem log_blk (t : Fin cfg0.N) (n i : Fin 4) (j : Fin 256) : LB m c t n (ix2 i j) = la (argR (parK m c) (sm t) n j i) (-(parK m c).lam (chan n j)) := by
  refine (logA_at _ _ _ _ i j).trans ?_
  rw [gate_at, sum_blk, part_at, pay13_at, pay12_at, rb_blk, lam_blk]
  have e : (fun d => (iblk m c 5 t : FVec Ideal S4x256x256 .f32) (ix3 n d j)) = fun d => (parK m c).wr n d j := funext fun d => wr_blk m c t n d j
  rw [e]
  rfl

theorem dec_blk (t : Fin cfg0.N) (n i : Fin 4) (j : Fin 256) : (exp (LB m c t n) : V4) (ix2 i j) = (decA (parK m c) (sm t) n j i : EReal) := by
  show Ideal.exp (LB m c t n (ix2 i j)) = _
  rw [log_blk]
  exact (dec_eq _ _).symm

theorem in_blk (t : Fin cfg0.N) (n i : Fin 4) (j : Fin 256) :
    inB (cols n (cvAt m c t)) (gate (cols n (cvAt m c t)) (wgt n (iblk m c 7 t)) (part n (k0_pay14 (iblk m c 8 t)))) (LB m c t n) (ix2 i j) = inA (parK m c) (sm t) n j i := by
  have e : (fun d => (iblk m c 7 t : FVec Ideal S4x256x256 .f32) (ix3 n d j)) = fun d => (parK m c).wi n d j := funext fun d => wi_blk m c t n d j
  rw [inB_at, gate_at, sum_blk, pay14_at, ib_blk, e, cols_at, conv_blk, log_blk]
  unfold inA inp
  rw [factor _ (la_nonpos _ _)]
  rfl

/-- A block's states at a point. -/
theorem HX_hid (t : Fin cfg0.N) (n i : Fin 4) (j : Fin 256) :
    HX (iblk m c 0 t) (iblk m c 1 t) (iblk m c 2 t) (iblk m c 3 t) (iblk m c 4 t) (iblk m c 5 t) (iblk m c 6 t) (iblk m c 7 t) (iblk m c 8 t) (iblk m c 9 t) n i (ix2 0 j)
      = hid (parK m c) (sm t) n j (i + 1) := by
  refine (past_at _ _ _ j (decA (parK m c) (sm t) n j) (inA (parK m c) (sm t) n j) (fun i => dec_blk m c t n i j) (fun i => in_blk m c t n i j) i).trans ?_
  rw [prev_at, h0_blk]
  rfl

/-- The other branch by its indices. -/
def yK (r : Fin 128) (k : Fin 1024) : EReal := brK m c (ix2 r ⟨k, by omega⟩)

theorem z_point (t : Fin cfg0.N) (i : Fin 4) (k : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 i k)
      = zAt (parK m c) (yK m c) (sm t) i k := by
  rw [out10_eq]
  have e := zPieces_at (HX (iblk m c 0 t) (iblk m c 1 t) (iblk m c 2 t) (iblk m c 3 t) (iblk m c 4 t) (iblk m c 5 t) (iblk m c 6 t) (iblk m c 7 t) (iblk m c 8 t) (iblk m c 9 t))
    (k0_pay15 (k0_pay9 (iblk m c 0 t))) ⟨(k : ℕ) / 256, by omega⟩ i ⟨(k : ℕ) % 256, by omega⟩
  rw [chan_self, HX_hid, pay15_at, br_blk] at e
  exact e

theorem hl_point (t : Fin cfg0.N) (z : Fin 1) (k : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (ix3 0 z k)
      = hlAt (parK m c) (sm t) k := by
  obtain rfl : z = 0 := Subsingleton.elim _ _
  rw [out12_eq]
  have e := hPieces_at (HX (iblk m c 0 t) (iblk m c 1 t) (iblk m c 2 t) (iblk m c 3 t) (iblk m c 4 t) (iblk m c 5 t) (iblk m c 6 t) (iblk m c 7 t) (iblk m c 8 t) (iblk m c 9 t))
    ⟨(k : ℕ) / 256, by omega⟩ ⟨(k : ℕ) % 256, by omega⟩
  rw [chan_self, HX_hid] at e
  exact e

theorem cs_point (t : Fin cfg0.N) (r : Fin 3) (k : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix3 0 r k)
      = csAt (parK m c) (sm t) r k := by
  refine (kept_at (iblk m c 0 t) (iblk m c 1 t) (iblk m c 2 t) (iblk m c 3 t) (iblk m c 4 t) (iblk m c 5 t) (iblk m c 6 t) (iblk m c 7 t) (iblk m c 8 t) (iblk m c 9 t) r k).trans ?_
  rw [pad_blk]
  rfl

end Points

end Cert.Proof.Lrs

end
-- ==== Proof.LrsArrays.lean ====
/-
  The samples' recurrence kernel's outputs after its run: the gated states, the last three rows of the branch, the last states.
-/
module

public import proofs.«01_k».proof.Proof.LrsKernel

@[expose] public section

set_option maxRecDepth 16384

noncomputable section

open Idealize.ShloMosaic Idealize.ShloMosaic.TcCoe Idealize.SL.Sem

namespace Cert.Proof.Lrs

open Cert.Kernel6Ideal Cert.Kernel6Ideal.Gen Cert.Kernel6Ideal.Value

variable (m : (ℓ : Loc nD τ sig) → Buf (Elt Ideal) ℓ) (c : Dev nD)

/-- The three outputs as arrays. -/
def zF : FVec Ideal S32x4x1024 .f32 := fun y => zAt (parK m c) (yK m c) ⟨y 0, (y 0).isLt⟩ ⟨y 1, (y 1).isLt⟩ ⟨y 2, (y 2).isLt⟩
def csF : FVec Ideal S32x3x1024 .f32 := fun y => csAt (parK m c) ⟨y 0, (y 0).isLt⟩ ⟨y 1, (y 1).isLt⟩ ⟨y 2, (y 2).isLt⟩
def hlF : FVec Ideal S32x1x1024 .f32 := fun y => hlAt (parK m c) ⟨y 0, (y 0).isLt⟩ ⟨y 2, (y 2).isLt⟩

theorem zF_at (b : Fin 32) (i : Fin 4) (k : Fin 1024) : zF m c (ix3 b i k) = zAt (parK m c) (yK m c) b i k := rfl
theorem csF_at (b : Fin 32) (r : Fin 3) (k : Fin 1024) : csF m c (ix3 b r k) = csAt (parK m c) b r k := rfl
theorem hlF_at (b : Fin 32) (z : Fin 1) (k : Fin 1024) : hlF m c (ix3 b z k) = hlAt (parK m c) b k := rfl

theorem z_array : (dats m 0 c).arrAt 10 cfg0.N = zF m c := by
  refine (dats m 0 c).arrAt_eq_of_covers 10 (zF m c) (by decide +kernel) fun t hf y => ?_
  blk_simp
  rw [after0_10]
  idx_vars y
  obtain rfl : y0 = 0 := Subsingleton.elim _ _
  refine (z_point m c t _ _).trans ((zF_at m c (sm t) _ _).symm.trans ?_)
  blk_ext [idx t, sm]

theorem cs_array : (dats m 0 c).arrAt 11 cfg0.N = csF m c := by
  refine (dats m 0 c).arrAt_eq_of_covers 11 (csF m c) (by decide +kernel) fun t hf y => ?_
  blk_simp
  rw [after0_11]
  idx_vars y
  obtain rfl : y0 = 0 := Subsingleton.elim _ _
  refine (cs_point m c t _ _).trans ((csF_at m c (sm t) _ _).symm.trans ?_)
  blk_ext [idx t, sm]

theorem hl_array : (dats m 0 c).arrAt 12 cfg0.N = hlF m c := by
  refine (dats m 0 c).arrAt_eq_of_covers 12 (hlF m c) (by decide +kernel) fun t hf y => ?_
  blk_simp
  rw [after0_12]
  idx_vars y
  obtain rfl : y0 = 0 := Subsingleton.elim _ _
  refine (hl_point m c t y1 _).trans ((hlF_at m c (sm t) y1 _).symm.trans ?_)
  refine congrArg (hlF m c) (funext fun a => Fin.ext ?_)
  match a with
  | 0 => blk_simp [idx t, sm]; try rfl
  | 1 => exact (Nat.lt_one_iff.mp y1.isLt).trans (Nat.lt_one_iff.mp (Fin.isLt _)).symm
  | 2 => blk_simp [idx t]; try omega

end Cert.Proof.Lrs

end
-- ==== Proof.LrsRun.lean ====
module

public import proofs.«01_k».proof.Proof.Gen.Reference6Ideal.Run
public import proofs.«01_k».proof.Proof.Gen.Reference6Ideal.Step

/-! The reference's run as a series of states: row after row, the hidden state and the rows written so far. -/

@[expose] public section

set_option maxRecDepth 16384

noncomputable section

namespace Cert.Proof.LrsRun

open Idealize.ShloMosaic Idealize.ShloMosaic.TcCoe Idealize.SL.Sem Idealize.ShloMosaic.StableHlo
open Cert.Reference6Ideal Cert.Reference6Ideal.Gen Cert.Reference6Ideal.Value
open Cert.Reference6Ideal.Step

variable {F : FTy → Type} [FloatOps F]

/-- The states the loop goes through: state number `j` is the one before row `j`. -/
def states (x0 : (⟨S128x2048, .f32⟩ : BufTy).Contents (Elt F)) (x1 : (⟨S32x3x1024, .f32⟩ : BufTy).Contents (Elt F)) (x2 : (⟨S32x1024, .f32⟩ : BufTy).Contents (Elt F)) (x3 : (⟨S4x1024, .f32⟩ : BufTy).Contents (Elt F)) (x4 : (⟨S1024, .f32⟩ : BufTy).Contents (Elt F)) (x5 : (⟨S4x256x256, .f32⟩ : BufTy).Contents (Elt F)) (x6 : (⟨S1024, .f32⟩ : BufTy).Contents (Elt F)) (x7 : (⟨S4x256x256, .f32⟩ : BufTy).Contents (Elt F)) (x8 : (⟨S1024, .f32⟩ : BufTy).Contents (Elt F)) (x9 : (⟨S1024, .f32⟩ : BufTy).Contents (Elt F)) : ℕ → State F
  | 0 => init x2 x0 x1 x3 x4 x5 x6 x7 x8 x9
  | j + 1 => step j (states x0 x1 x2 x3 x4 x5 x6 x7 x8 x9 j)

/-- A device's buffers carry state `s` before row `j`: the four arrays of the state and the counter. -/
def Carries (V : Valuation τ sig (Elt F)) (s : State F) (j : ℕ) : Prop :=
  (V (Proc.devRef .tc main_v76_3) = s.main_v76_3 ∧ V (Proc.devRef .tc main_v76_4) = s.main_v76_4)
  ∧ (V (Proc.devRef .tc main_v76_0) = s.main_v76_0 ∧ V (Proc.devRef .tc main_v76_1) = s.main_v76_1)
  ∧ V (Proc.devRef .tc main_v76_2) = constantI S_ 32 (BitVec.ofNat 32 j)

variable {V : Valuation τ sig (Elt F)} {s : State F} {j : ℕ}

/-- The new state a trip leaves. -/
theorem next_state (h : Carries V s j) : Value.step_main_v76_3 V = (step j s).main_v76_3 := by
  obtain ⟨⟨h3, h4⟩, ⟨h0, h1⟩, h2⟩ := h
  unfold Value.step_main_v76_3 res_main_while0b_v102
  rw [h3, h0, h1, h2]
  rfl

/-- The rows a trip leaves. -/
theorem next_out (h : Carries V s j) : Value.step_main_v76_4 V = (step j s).main_v76_4 := by
  obtain ⟨⟨h3, h4⟩, ⟨h0, h1⟩, h2⟩ := h
  unfold Value.step_main_v76_4 res_main_while0b_v102
  rw [h3, h4, h0, h1, h2]
  rfl

/-- The counter a trip leaves. -/
theorem next_num (h : Carries V s j) : Value.step_main_v76_2 V = constantI S_ 32 (BitVec.ofNat 32 (j + 1)) := by
  unfold Value.step_main_v76_2
  rw [h.2.2]
  funext i
  show BitVec.ofNat 32 j + 1#32 = BitVec.ofNat 32 (j + 1)
  rw [BitVec.ofNat_add]

/-- A trip takes state `s` to `step j s`. -/
theorem carries_next (h : Carries V s j) : Carries (STEP V) (step j s) (j + 1) :=
  ⟨⟨(STEP_main_v76_3 V).trans (next_state h), (STEP_main_v76_4 V).trans (next_out h)⟩,
   ⟨(STEP_main_v76_0 V).trans h.2.1.1, (STEP_main_v76_1 V).trans h.2.1.2⟩,
   (STEP_main_v76_2 V).trans (next_num h)⟩

variable (m : (ℓ : Loc nD τ sig) → Buf (Elt F) ℓ) (c : Dev nD)

set_option maxRecDepth 65536 in
set_option maxHeartbeats 4000000 in
/-- The loop starts from the first state. -/
theorem carries_entry : Carries (entryContents preI m c) (init (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) 0 := by
  refine ⟨⟨?_, ?_⟩, ⟨?_, ?_⟩, ?_⟩ <;>
    (simp only [entryContents, afterL_cons, afterL_nil]; after_reads_simp) <;> rfl

/-- Before row `k` the buffers carry state `k`. -/
theorem carries_all : ∀ k, Carries (STEP^[k] (entryContents preI m c)) (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) k) k
  | 0 => carries_entry m c
  | k + 1 => by
    rw [Function.iterate_succ_apply']
    exact carries_next (carries_all k)

theorem finish93 (h : Carries V s j) {x : (⟨S128x2048, .f32⟩ : BufTy).Contents (Elt F)} (hx : V (Proc.devRef .tc main_arg0) = x) :
    out_main_v93 V = R_main_v93 s x := by
  unfold out_main_v93
  rw [h.1.2, hx]
  rfl

theorem finish97 (h : Carries V s j) {x : (⟨S128x2048, .f32⟩ : BufTy).Contents (Elt F)} {y : (⟨S32x3x1024, .f32⟩ : BufTy).Contents (Elt F)}
    (hx : V (Proc.devRef .tc main_arg0) = x) (hy : V (Proc.devRef .tc main_arg1) = y) : out_main_v97 V = R_main_v97 s x y := by
  unfold out_main_v97
  rw [hx, hy]
  rfl

theorem finish98 (h : Carries V s j) : out_main_v98 V = R_main_v98 s := by
  unfold out_main_v98
  rw [h.1.2]
  rfl

/-- Every run of the reference ends with what the state after four rows gives. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v93) = R_main_v93 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) 4) (m ((c.tc : Thread nD τ).loc main_arg0))
      ∧ r.2.mem ((c.tc : Thread nD τ).loc main_v97) = R_main_v97 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) 4) (m ((c.tc : Thread nD τ).loc main_arg0)) (m ((c.tc : Thread nD τ).loc main_arg1))
      ∧ r.2.mem ((c.tc : Thread nD τ).loc main_v98) = R_main_v98 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := carries_all m c 4
    ⟨(h c).1.trans (finish93 hk (iter_main_arg0 m c 4)), (h c).2.1.trans (finish97 hk (iter_main_arg0 m c 4) (iter_main_arg1 m c 4)), (h c).2.2.1.trans (finish98 hk), (h c).2.2.2⟩) (Value.run m ρ)

end Cert.Proof.LrsRun

end
-- ==== Proof.LrsRef.lean ====
/-
  The samples' recurrence's reference read at an index: the convolution, the gates, the decay and the input.
-/
module

public import proofs.«01_k».proof.Proof.LrsForm
public import proofs.«01_k».proof.Proof.LrsRun
public import Idealize.ShloMosaic.Lib.WordCmp

@[expose] public section

set_option maxRecDepth 16384

noncomputable section

open Idealize.ShloMosaic Idealize.ShloMosaic.TcCoe Idealize.SL.Sem

namespace Cert.Proof.Lrs

open Cert.Reference6Ideal Cert.Reference6Ideal.Gen Cert.Reference6Ideal.Step
open Cert.Proof.Lru (chan arg inp la dec dec_eq sp rec)

section Tables

variable (x0 : (⟨S128x2048, .f32⟩ : BufTy).Contents (Elt Ideal))
variable (x1 : (⟨S32x3x1024, .f32⟩ : BufTy).Contents (Elt Ideal))
variable (x2 : (⟨S32x1024, .f32⟩ : BufTy).Contents (Elt Ideal))
variable (x3 : (⟨S4x1024, .f32⟩ : BufTy).Contents (Elt Ideal))
variable (x4 : (⟨S1024, .f32⟩ : BufTy).Contents (Elt Ideal))
variable (x5 : (⟨S4x256x256, .f32⟩ : BufTy).Contents (Elt Ideal))
variable (x6 : (⟨S1024, .f32⟩ : BufTy).Contents (Elt Ideal))
variable (x7 : (⟨S4x256x256, .f32⟩ : BufTy).Contents (Elt Ideal))
variable (x8 : (⟨S1024, .f32⟩ : BufTy).Contents (Elt Ideal))
variable (x9 : (⟨S1024, .f32⟩ : BufTy).Contents (Elt Ideal))

/-- The layer's arrays by their indices. -/
def par : Par where
  x r k := x0 (ix2 r ⟨1024 + k, by omega⟩)
  c0 b r k := x1 (ix3 b r k)
  h0 b k := x2 (ix2 b k)
  cw r k := x3 (ix2 r k)
  cb k := x4 (ix1 k)
  wr n d j := x5 (ix3 n d j)
  br k := x6 (ix1 k)
  wi n d j := x7 (ix3 n d j)
  bi k := x8 (ix1 k)
  lam k := x9 (ix1 k)

theorem pad_at (b : Fin 32) (s : Fin 7) (k : Fin 1024) : A_main_v2 x0 x1 x3 x4 x5 x6 x7 x8 x9 (ix3 b s k) = padR (par x0 x1 x2 x3 x4 x5 x6 x7 x8 x9) b s k := by
  have hb := b.isLt
  have hs := s.isLt
  unfold padR par
  pointwise [A_main_v2, A_main_v1, A_main_v0]
  by_cases h : (s : ℕ) < 3
  · rw [dif_pos h, if_pos h]
    exact congrArg (fun u => x1 (ix3 b u k)) (Fin.ext (Nat.mod_eq_of_lt h).symm)
  · rw [dif_neg h, if_neg h]
    refine congrArg (fun u => x0 (ix2 u ⟨1024 + (k : ℕ), by omega⟩)) (Fin.ext ?_)
    show (b : ℕ) * 4 + ((s : ℕ) - 3) = ((b : ℕ) * 4 + ((s : ℕ) - 3)) % 128
    omega

theorem conv_at (b : Fin 32) (s : Fin 4) (k : Fin 1024) : A_main_v32 x0 x1 x3 x4 x5 x6 x7 x8 x9 (ix3 b s k) = conv (par x0 x1 x2 x3 x4 x5 x6 x7 x8 x9) b s k := by
  have e0 := pad_at x0 x1 x2 x3 x4 x5 x6 x7 x8 x9 b ⟨(s : ℕ), by omega⟩ k
  have e1 := pad_at x0 x1 x2 x3 x4 x5 x6 x7 x8 x9 b ⟨1 + (s : ℕ), by omega⟩ k
  have e2 := pad_at x0 x1 x2 x3 x4 x5 x6 x7 x8 x9 b ⟨2 + (s : ℕ), by omega⟩ k
  have e3 := pad_at x0 x1 x2 x3 x4 x5 x6 x7 x8 x9 b ⟨3 + (s : ℕ), by omega⟩ k
  unfold conv
  pointwise [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3]
  rw [e0, e1, e2, e3, Nat.add_comm (s : ℕ) 1, Nat.add_comm (s : ℕ) 2, Nat.add_comm (s : ℕ) 3]
  rfl

theorem div_eq (n : Fin 4) (j : Fin 256) : ((n : ℕ) * 256 + (j : ℕ)) / 256 = n := by have := j.isLt; omega
theorem mod_eq (n : Fin 4) (j : Fin 256) : ((n : ℕ) * 256 + (j : ℕ)) % 256 = j := by have := j.isLt; omega

theorem blk_at (b : Fin 32) (s : Fin 4) (n : Fin 4) (d : Fin 256) : A_main_v33 x0 x1 x3 x4 x5 x6 x7 x8 x9 (ix4 b s n d) = conv (par x0 x1 x2 x3 x4 x5 x6 x7 x8 x9) b s (chan n d) := by
  rw [← conv_at]
  pointwise [A_main_v33]

theorem argr_at (b : Fin 32) (s : Fin 4) (n : Fin 4) (j : Fin 256) : A_main_v39 x0 x1 x3 x4 x5 x6 x7 x8 x9 (ix3 b s (chan n j)) = argR (par x0 x1 x2 x3 x4 x5 x6 x7 x8 x9) b n j s := by
  have e : A_main_v39 x0 x1 x3 x4 x5 x6 x7 x8 x9 (ix3 b s (chan n j)) = (∑ d : Fin 256, x5 (ix3 n d j) * A_main_v33 x0 x1 x3 x4 x5 x6 x7 x8 x9 (ix4 b s n d)) + x6 (ix1 (chan n j)) := by
    pointwise [A_main_v39, A_main_v38, A_main_v37, A_main_v36, A_main_v35, A_main_v34]
    simp only [div_eq n j, mod_eq n j]
  rw [e]
  unfold argR arg
  refine congrArg₂ (· + ·) (Finset.sum_congr rfl fun d _ => ?_) rfl
  rw [blk_at, mul_comm]
  rfl

theorem argi_at (b : Fin 32) (s : Fin 4) (n : Fin 4) (j : Fin 256) : A_main_v51 x0 x1 x3 x4 x5 x6 x7 x8 x9 (ix3 b s (chan n j))
    = arg (fun d => conv (par x0 x1 x2 x3 x4 x5 x6 x7 x8 x9) b s (chan n d)) (fun d => (par x0 x1 x2 x3 x4 x5 x6 x7 x8 x9).wi n d j) ((par x0 x1 x2 x3 x4 x5 x6 x7 x8 x9).bi (chan n j)) := by
  have e : A_main_v51 x0 x1 x3 x4 x5 x6 x7 x8 x9 (ix3 b s (chan n j)) = (∑ d : Fin 256, x7 (ix3 n d j) * A_main_v33 x0 x1 x3 x4 x5 x6 x7 x8 x9 (ix4 b s n d)) + x8 (ix1 (chan n j)) := by
    pointwise [A_main_v51, A_main_v50, A_main_v49, A_main_v48, A_main_v47, A_main_v46]
    simp only [div_eq n j, mod_eq n j]
  rw [e]
  unfold arg
  refine congrArg₂ (· + ·) (Finset.sum_congr rfl fun d _ => ?_) rfl
  rw [blk_at, mul_comm]
  rfl

theorem gate_r (y : S32x4x1024.Idx) : A_main_v45 x0 x1 x3 x4 x5 x6 x7 x8 x9 y = Ideal.logistic (A_main_v39 x0 x1 x3 x4 x5 x6 x7 x8 x9 y) := by
  have e : A_main_v45 x0 x1 x3 x4 x5 x6 x7 x8 x9 y = Ideal.div 1 (1 + Ideal.exp (-A_main_v39 x0 x1 x3 x4 x5 x6 x7 x8 x9 y)) := by
    pointwise [A_main_v45, A_main_v43, A_main_v41, A_main_v40, K_main_v44, K_main_v42, K_main_cst, K_main_cst_0]
  rw [e]
  unfold Ideal.logistic
  rfl

theorem gate_i (y : S32x4x1024.Idx) : A_main_v57 x0 x1 x3 x4 x5 x6 x7 x8 x9 y = Ideal.logistic (A_main_v51 x0 x1 x3 x4 x5 x6 x7 x8 x9 y) := by
  have e : A_main_v57 x0 x1 x3 x4 x5 x6 x7 x8 x9 y = Ideal.div 1 (1 + Ideal.exp (-A_main_v51 x0 x1 x3 x4 x5 x6 x7 x8 x9 y)) := by
    pointwise [A_main_v57, A_main_v55, A_main_v53, A_main_v52, K_main_v56, K_main_v54, K_main_cst_1, K_main_cst_2]
  rw [e]
  unfold Ideal.logistic
  rfl

theorem soft_at (k : Fin 1024) : A_main_v61 x0 x1 x3 x4 x5 x6 x7 x8 x9 (ix1 k) = sp (-x9 (ix1 k)) := by
  unfold sp
  pointwise [A_main_v61, A_main_call0_v11, A_main_call0_v10, A_main_call0_v9, A_main_call0_v8, A_main_call0_v7, A_main_call0_v6, A_main_call0_v4, A_main_call0_v3, A_main_call0_v1, A_main_v60, K_main_call0_v0, K_main_call0_v2, K_main_call0_v5, K_main_call0_cst]
  rw [if_neg (fun h => h rfl)]
  rfl

theorem two_lit : Ideal.ofBits .f32 0x40000000#32 = ((2 : ℝ) : EReal) := by
  have e : (0x40000000#32).extractLsb' 31 1 = 0#1 := by decide
  have e1 : ((0x40000000#32).extractLsb' 23 8).toNat = 128 := by decide
  have e2 : ((0x40000000#32).extractLsb' 0 23).toNat = 0 := by decide
  simp only [Ideal.ofBits, Ideal.ieee, e, e1, e2]
  norm_num

theorem eight_lit : Ideal.ofBits .f32 0xC1000000#32 = ((-8 : ℝ) : EReal) := by
  have e : (0xC1000000#32).extractLsb' 31 1 = 1#1 := by decide
  have e1 : ((0xC1000000#32).extractLsb' 23 8).toNat = 130 := by decide
  have e2 : ((0xC1000000#32).extractLsb' 0 23).toNat = 0 := by decide
  simp only [Ideal.ofBits, Ideal.ieee, e, e1, e2]
  norm_num

theorem log_at (b : Fin 32) (s : Fin 4) (n : Fin 4) (j : Fin 256) : A_main_v64 x0 x1 x3 x4 x5 x6 x7 x8 x9 (ix3 b s (chan n j)) = la (argR (par x0 x1 x2 x3 x4 x5 x6 x7 x8 x9) b n j s) (-(par x0 x1 x2 x3 x4 x5 x6 x7 x8 x9).lam (chan n j)) := by
  have e : A_main_v64 x0 x1 x3 x4 x5 x6 x7 x8 x9 (ix3 b s (chan n j)) = Ideal.ofBits .f32 0xC1000000#32 * A_main_v45 x0 x1 x3 x4 x5 x6 x7 x8 x9 (ix3 b s (chan n j)) * A_main_v61 x0 x1 x3 x4 x5 x6 x7 x8 x9 (ix1 (chan n j)) := by
    pointwise [A_main_v64, A_main_v63, A_main_v62, A_main_v59, K_main_v58, K_main_cst_3]
  rw [e, eight_lit, gate_r, argr_at, soft_at]
  rfl

theorem dec_at (b : Fin 32) (s : Fin 4) (n : Fin 4) (j : Fin 256) : A_main_v73 x0 x1 x3 x4 x5 x6 x7 x8 x9 (ix3 s b (chan n j)) = (decA (par x0 x1 x2 x3 x4 x5 x6 x7 x8 x9) b n j s : EReal) := by
  have e : A_main_v73 x0 x1 x3 x4 x5 x6 x7 x8 x9 (ix3 s b (chan n j)) = Ideal.exp (A_main_v64 x0 x1 x3 x4 x5 x6 x7 x8 x9 (ix3 b s (chan n j))) := by
    pointwise [A_main_v73, A_main_v65]
  rw [e, log_at, decA, dec_eq]

theorem in_at (b : Fin 32) (s : Fin 4) (n : Fin 4) (j : Fin 256) : A_main_v74 x0 x1 x3 x4 x5 x6 x7 x8 x9 (ix3 s b (chan n j)) = inA (par x0 x1 x2 x3 x4 x5 x6 x7 x8 x9) b n j s := by
  have e : A_main_v74 x0 x1 x3 x4 x5 x6 x7 x8 x9 (ix3 s b (chan n j)) = Ideal.sqrt (-(Ideal.exp (Ideal.ofBits .f32 0x40000000#32 * A_main_v64 x0 x1 x3 x4 x5 x6 x7 x8 x9 (ix3 b s (chan n j))) - 1)) * (A_main_v57 x0 x1 x3 x4 x5 x6 x7 x8 x9 (ix3 b s (chan n j)) * A_main_v32 x0 x1 x3 x4 x5 x6 x7 x8 x9 (ix3 b s (chan n j))) := by
    pointwise [A_main_v74, A_main_v72, A_main_v71, A_main_v70, A_main_v69, A_main_v68, A_main_v67, K_main_v66, K_main_cst_4]
    try rfl
  rw [e, two_lit, log_at, gate_i, argi_at, conv_at]
  rfl

end Tables

section Loop

open Cert.Proof.LrsRun (states)

variable (j : Fin 4) (s : State Ideal)

theorem start_eq (j : ℕ) (hj : j < 4) (a : Fin 3) :
    (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) a (Shape.Idx.first h_S_)).toInt
      = ((![j, 0, 0] : Fin 3 → ℕ) a : Int) := by
  match a with
  | ⟨0, _⟩ => exact WordCmp.toInt_ofNat_of_lt (by omega)
  | ⟨1, _⟩ => rfl
  | ⟨2, _⟩ => rfl

theorem fits (j : ℕ) (hj : j < 4) : S4x32x1024.Slices ![j, 0, 0] S1x32x1024 := by
  refine ⟨rfl, fun a => ?_⟩
  match a with
  | ⟨0, _⟩ => show j + 1 ≤ 4; omega
  | ⟨1, _⟩ => exact le_refl 32
  | ⟨2, _⟩ => exact le_refl 1024

theorem a_slice (b : Fin 32) (k : Fin 1024) : b3 j s (ix2 b k) = s.main_v76_0 (ix3 j b k) := by
  have e : b2 (j : ℕ) s = extractStridedSlice S1x32x1024 ![(j : ℕ), 0, 0] s.main_v76_0 (fits j j.isLt) :=
    WordCmp.dynamicSlice_eq_extract _ _ _ _ _ _ (start_eq j j.isLt)
  unfold b3
  rw [e]
  pointwise []

theorem b_slice (b : Fin 32) (k : Fin 1024) : b7 j s (ix2 b k) = s.main_v76_1 (ix3 j b k) := by
  have e : b6 (j : ℕ) s = extractStridedSlice S1x32x1024 ![(j : ℕ), 0, 0] s.main_v76_1 (fits j j.isLt) :=
    WordCmp.dynamicSlice_eq_extract _ _ _ _ _ _ (start_eq j j.isLt)
  unfold b7
  rw [e]
  pointwise []

theorem state_at (b : Fin 32) (k : Fin 1024) : b9 j s (ix2 b k) = s.main_v76_0 (ix3 j b k) * s.main_v76_3 (ix2 b k) + s.main_v76_1 (ix3 j b k) := by
  rw [← a_slice, ← b_slice]
  pointwise [b9, b8]

/-- The rows written so far: the row's own, the others as they were. -/
theorem write_at (i : Fin 4) (b : Fin 32) (k : Fin 1024) : b13 j s (ix3 i b k)
    = if (i : ℕ) = j then b9 j s (ix2 b k) else s.main_v76_4 (ix3 i b k) := by
  have e' : b13 (j : ℕ) s = updateSlice s.main_v76_4 (b10 j s) ![(j : ℕ), 0, 0] (fits j j.isLt) :=
    WordCmp.dynamicUpdateSlice_eq_update _ _ _ _ _ _ (start_eq j j.isLt)
  rw [e']
  pointwise [b10]
  by_cases h1 : (i : ℕ) = j
  · rw [dif_pos ⟨by omega, by omega⟩, if_pos h1]
  · rw [dif_neg (by omega), if_neg h1]

variable (x0 : (⟨S128x2048, .f32⟩ : BufTy).Contents (Elt Ideal))
variable (x1 : (⟨S32x3x1024, .f32⟩ : BufTy).Contents (Elt Ideal))
variable (x2 : (⟨S32x1024, .f32⟩ : BufTy).Contents (Elt Ideal))
variable (x3 : (⟨S4x1024, .f32⟩ : BufTy).Contents (Elt Ideal))
variable (x4 : (⟨S1024, .f32⟩ : BufTy).Contents (Elt Ideal))
variable (x5 : (⟨S4x256x256, .f32⟩ : BufTy).Contents (Elt Ideal))
variable (x6 : (⟨S1024, .f32⟩ : BufTy).Contents (Elt Ideal))
variable (x7 : (⟨S4x256x256, .f32⟩ : BufTy).Contents (Elt Ideal))
variable (x8 : (⟨S1024, .f32⟩ : BufTy).Contents (Elt Ideal))
variable (x9 : (⟨S1024, .f32⟩ : BufTy).Contents (Elt Ideal))

/-- Before row `k` the state is the recurrence's, and so are the rows written. -/
theorem states_at : ∀ (k : ℕ) (hk : k ≤ 4), ((states x0 x1 x2 x3 x4 x5 x6 x7 x8 x9 k).main_v76_0 = A_main_v73 x0 x1 x3 x4 x5 x6 x7 x8 x9 ∧ (states x0 x1 x2 x3 x4 x5 x6 x7 x8 x9 k).main_v76_1 = A_main_v74 x0 x1 x3 x4 x5 x6 x7 x8 x9)
    ∧ (∀ (b : Fin 32) (n : Fin 4) (q : Fin 256), (states x0 x1 x2 x3 x4 x5 x6 x7 x8 x9 k).main_v76_3 (ix2 b (chan n q)) = hid (par x0 x1 x2 x3 x4 x5 x6 x7 x8 x9) b n q k)
    ∧ (∀ (i : Fin 4), (i : ℕ) < k → ∀ (b : Fin 32) (n : Fin 4) (q : Fin 256), (states x0 x1 x2 x3 x4 x5 x6 x7 x8 x9 k).main_v76_4 (ix3 i b (chan n q)) = hid (par x0 x1 x2 x3 x4 x5 x6 x7 x8 x9) b n q (i + 1)) := by
  intro k
  induction k with
  | zero =>
    intro hk
    refine ⟨⟨rfl, rfl⟩, fun b n q => ?_, fun i hi => absurd hi (Nat.not_lt_zero _)⟩
    rfl
  | succ k ih =>
    intro hk
    obtain ⟨⟨h0, h1⟩, h3, h4⟩ := ih (Nat.le_of_succ_le hk)
    have key : ∀ (b : Fin 32) (n : Fin 4) (q : Fin 256), b9 k (states x0 x1 x2 x3 x4 x5 x6 x7 x8 x9 k) (ix2 b (chan n q)) = hid (par x0 x1 x2 x3 x4 x5 x6 x7 x8 x9) b n q (k + 1) := by
      intro b n q
      refine (state_at ⟨k, hk⟩ (states x0 x1 x2 x3 x4 x5 x6 x7 x8 x9 k) b (chan n q)).trans ?_
      rw [h0, h1, h3, dec_at, in_at]
      rfl
    refine ⟨⟨h0, h1⟩, key, fun i hi b n q => ?_⟩
    refine (write_at ⟨k, hk⟩ (states x0 x1 x2 x3 x4 x5 x6 x7 x8 x9 k) i b (chan n q)).trans ?_
    by_cases e : (i : ℕ) = k
    · rw [if_pos (by exact e), e]
      exact key b n q
    · rw [if_neg (by exact e)]
      exact h4 i (by omega) b n q

end Loop

end Cert.Proof.Lrs

end
-- ==== Proof.LrsClaim.lean ====
/-
  The samples' recurrence: what the reference ends with, and the claims.
-/
module

public import proofs.«01_k».proof.Defs
public import proofs.«01_k».proof.Proof.LrsArrays
public import proofs.«01_k».proof.Proof.LrsRef
public import Idealize.ShloMosaic.Adequacy

@[expose] public section

set_option maxRecDepth 16384

noncomputable section

open Idealize.ShloMosaic Idealize.ShloMosaic.TcCoe Idealize.SL.Sem

namespace Cert.Proof.Lrs

section Results

open Cert.Reference6Ideal Cert.Reference6Ideal.Gen Cert.Reference6Ideal.Step
open Cert.Proof.Lru (gelu)

variable (x0 : (⟨Cert.Reference6Ideal.S128x2048, .f32⟩ : BufTy).Contents (Elt Ideal))
variable (x1 : (⟨Cert.Reference6Ideal.S32x3x1024, .f32⟩ : BufTy).Contents (Elt Ideal))
variable (x2 : (⟨Cert.Reference6Ideal.S32x1024, .f32⟩ : BufTy).Contents (Elt Ideal))
variable (x3 : (⟨Cert.Reference6Ideal.S4x1024, .f32⟩ : BufTy).Contents (Elt Ideal))
variable (x4 : (⟨Cert.Reference6Ideal.S1024, .f32⟩ : BufTy).Contents (Elt Ideal))
variable (x5 : (⟨Cert.Reference6Ideal.S4x256x256, .f32⟩ : BufTy).Contents (Elt Ideal))
variable (x6 : (⟨Cert.Reference6Ideal.S1024, .f32⟩ : BufTy).Contents (Elt Ideal))
variable (x7 : (⟨Cert.Reference6Ideal.S4x256x256, .f32⟩ : BufTy).Contents (Elt Ideal))
variable (x8 : (⟨Cert.Reference6Ideal.S1024, .f32⟩ : BufTy).Contents (Elt Ideal))
variable (x9 : (⟨Cert.Reference6Ideal.S1024, .f32⟩ : BufTy).Contents (Elt Ideal))

/-- The rows the reference has written at the end. -/
theorem rows_end (i : Fin 4) (b : Fin 32) (k : Fin 1024) : (LrsRun.states x0 x1 x2 x3 x4 x5 x6 x7 x8 x9 4).main_v76_4 (ix3 i b k)
    = hid (par x0 x1 x2 x3 x4 x5 x6 x7 x8 x9) b ⟨(k : ℕ) / 256, by omega⟩ ⟨(k : ℕ) % 256, by omega⟩ (i + 1) := by
  have e := (states_at x0 x1 x2 x3 x4 x5 x6 x7 x8 x9 4 (le_refl _)).2.2 i i.isLt b ⟨(k : ℕ) / 256, by omega⟩ ⟨(k : ℕ) % 256, by omega⟩
  rw [chan_self] at e
  exact e

theorem z_ref (b : Fin 32) (i : Fin 4) (k : Fin 1024) : R_main_v93 (LrsRun.states x0 x1 x2 x3 x4 x5 x6 x7 x8 x9 4) x0 (ix3 b i k)
    = zAt (par x0 x1 x2 x3 x4 x5 x6 x7 x8 x9) (fun r k => x0 (ix2 r ⟨k, by omega⟩)) b i k := by
  have e : R_main_v93 (LrsRun.states x0 x1 x2 x3 x4 x5 x6 x7 x8 x9 4) x0 (ix3 b i k)
      = (LrsRun.states x0 x1 x2 x3 x4 x5 x6 x7 x8 x9 4).main_v76_4 (ix3 i b k) * gelu (x0 (ix2 ⟨(b : ℕ) * 4 + i, by omega⟩ ⟨k, by omega⟩)) := by
    unfold gelu
    rw [← mul_assoc (x0 (ix2 ⟨(b : ℕ) * 4 + i, by omega⟩ ⟨k, by omega⟩)) (x0 (ix2 ⟨(b : ℕ) * 4 + i, by omega⟩ ⟨k, by omega⟩)) (x0 (ix2 ⟨(b : ℕ) * 4 + i, by omega⟩ ⟨k, by omega⟩))]
    pointwise [R_main_v93]
  rw [e, rows_end]
  unfold zAt
  rfl

theorem cs_ref (b : Fin 32) (r : Fin 3) (k : Fin 1024) : R_main_v97 (LrsRun.states x0 x1 x2 x3 x4 x5 x6 x7 x8 x9 4) x0 x1 (ix3 b r k) = csAt (par x0 x1 x2 x3 x4 x5 x6 x7 x8 x9) b r k := by
  have e : R_main_v97 (LrsRun.states x0 x1 x2 x3 x4 x5 x6 x7 x8 x9 4) x0 x1 (ix3 b r k) = A_main_v2 x0 x1 x3 x4 x5 x6 x7 x8 x9 (ix3 b ⟨4 + (r : ℕ), by omega⟩ k) := by
    unfold R_main_v97
    show extractStridedSlice S32x3x1024 ![0, 4, 0] (A_main_v2 x0 x1 x3 x4 x5 x6 x7 x8 x9) slices_S32x7x1024_S32x3x1024_0_4_0 (ix3 b r k) = _
    pointwise []
  rw [e, pad_at _ _ x2]
  rfl

theorem hl_ref (b : Fin 32) (z : Fin 1) (k : Fin 1024) : R_main_v98 (LrsRun.states x0 x1 x2 x3 x4 x5 x6 x7 x8 x9 4) (ix3 b z k) = hlAt (par x0 x1 x2 x3 x4 x5 x6 x7 x8 x9) b k := by
  obtain rfl : z = 0 := Subsingleton.elim _ _
  have e : R_main_v98 (LrsRun.states x0 x1 x2 x3 x4 x5 x6 x7 x8 x9 4) (ix3 b 0 k) = (LrsRun.states x0 x1 x2 x3 x4 x5 x6 x7 x8 x9 4).main_v76_4 (ix3 ⟨3, by omega⟩ b k) := by
    pointwise [R_main_v98]
  rw [e, rows_end]
  unfold hlAt
  rfl

end Results

local instance : Cert.Kernel6Ideal.Facts := Cert.Kernel6Ideal.Gen.facts
local instance : Cert.Reference6Ideal.Facts := Cert.Reference6Ideal.Gen.facts

/-- The reference leaves its arguments as they were, and it has no semaphore. -/
theorem frame_ref : Cert.quiescent_Reference6Ideal := by
  intro m g _
  exact (θ_run Cert.Reference6Ideal.defs _ _).mono (fun r h => ⟨fun c => (h c).2.2.2,
      sem_eq_zero_of_no_sems (by decide) r.2⟩)
    (LrsRun.run_states (F := Ideal) m g)

/-- Kernel and reference end with the same gated states, the same rows of the branch and the same last states. -/
theorem algebraic : Cert.algebraic_Kernel6Ideal_Reference6Ideal := by
  intro m g m' g' _ hagree
  refine ⟨fun c => zF m c, fun c => csF m c, fun c => hlF m c, ?_, ?_⟩
  · exact (θ_run Cert.Kernel6Ideal.defs _ _).mono (fun r h c =>
      ⟨(h c).1.trans (z_array m c), (h c).2.1.trans (cs_array m c), (h c).2.2.1.trans (hl_array m c), (h c).2.2.2⟩) (Cert.Kernel6Ideal.Value.run_blocks (F := Ideal) m g)
  · refine (θ_run Cert.Reference6Ideal.defs _ _).mono (fun r h c => ?_) (LrsRun.run_states (F := Ideal) m' g')
    obtain ⟨a0, a1, a2, a3, a4, a5, a6, a7, a8, a9⟩ := hagree c
    refine ⟨(h c).1.trans ?_, (h c).2.1.trans ?_, (h c).2.2.1.trans ?_, (h c).2.2.2⟩
    · rw [a0, a1, a2, a3, a4, a5, a6, a7, a8, a9]
      funext y
      idx_vars y
      exact z_ref _ _ _ _ _ _ _ _ _ _ _ _ _
    · rw [a0, a1, a2, a3, a4, a5, a6, a7, a8, a9]
      funext y
      idx_vars y
      exact cs_ref _ _ _ _ _ _ _ _ _ _ _ _ _
    · rw [a0, a1, a2, a3, a4, a5, a6, a7, a8, a9]
      funext y
      idx_vars y
      exact hl_ref _ _ _ _ _ _ _ _ _ _ _ _ _

end Cert.Proof.Lrs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_proj
public import proofs.«01_k».proof.Proof.Gen.KernelIdeal.Value
public import proofs.«01_k».proof.Proof.Gen.Kernel2Ideal.Skeleton
public import proofs.«01_k».proof.Proof.Gen.Kernel2Ideal.Launch
public import proofs.«01_k».proof.Proof.Gen.Pre_routed
public import proofs.«01_k».proof.Proof.Gen.Kernel2
public import proofs.«01_k».proof.Proof.Gen.Kernel2Ideal
public import proofs.«01_k».proof.Proof.Gen.Reference2Ideal
public import proofs.«01_k».proof.Proof.Gen.Reference2Ideal.Step
public import proofs.«01_k».proof.Proof.Gen.ReferenceIdeal.Step
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Step
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Step
public import proofs.«01_k».proof.Proof.RetClaim
public import proofs.«01_k».proof.Proof.ExpClaim
public import proofs.«01_k».proof.Proof.PrjQkv
public import proofs.«01_k».proof.Proof.PrjMat
public import proofs.«01_k».proof.Proof.LruClaim
public import proofs.«01_k».proof.Proof.LrsClaim
public import Idealize.ShloMosaic.Adequacy
public import Idealize.ShloMosaic.Init

@[expose] public section

noncomputable section

namespace Cert.Proof

open Idealize.ShloMosaic Idealize.SL.Sem Cert.Kernel

/-- The whole claim: for retention, the experts, the two projections and the two recurrences the frames of the kernel, of its idealization and of the
    reference, and the equation. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_proj.Gen.facts, Cert.Pre_routed.Gen.facts,
  fun m g _ => Cert.Kernel.Gen.frame m g,
  fun m g _ => Cert.KernelIdeal.Gen.frame m g,
  fun m g _ => Cert.KernelIdeal.Gen.frame m g,
  RetClaim.frame_ref,
  fun m g _ => RetClaim.frame_ref m g trivial,
  ExpClaim.frame_kernel,
  ExpClaim.frame_ideal,
  ExpClaim.frame_ref,
  fun m g _ => ExpClaim.frame_ref m g trivial,
  fun m g _ => Cert.Kernel3.Gen.frame m g,
  fun m g _ => Cert.Kernel3Ideal.Gen.frame m g,
  PrjQkv.frame_ref,
  fun m g _ => Cert.Kernel4.Gen.frame m g,
  fun m g _ => Cert.Kernel4Ideal.Gen.frame m g,
  PrjMat.frame_ref,
  fun m g _ => Cert.Kernel5.Gen.frame m g,
  fun m g _ => Cert.Kernel5Ideal.Gen.frame m g,
  Lru.frame_ref,
  fun m g _ => Cert.Kernel6.Gen.frame m g,
  fun m g _ => Cert.Kernel6Ideal.Gen.frame m g,
  Lrs.frame_ref,
  trivial,
  RetClaim.algebraic,
  trivial,
  ExpClaim.algebraic,
  trivial,
  PrjQkv.algebraic,
  trivial,
  PrjMat.algebraic,
  trivial,
  Lru.algebraic,
  trivial,
  Lrs.algebraic⟩

end Cert.Proof

end
